-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_untied [hPre_finite_and_untied : Cert.Pre_finite_and_untied.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_untied [hPre_finite_and_untied : Cert.Pre_finite_and_untied.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_and_untied [hKernelIdeal : Cert.KernelIdeal.Facts] [hPre_finite_and_untied : Cert.Pre_finite_and_untied.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_untied m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_and_untied [hReferenceIdeal : Cert.ReferenceIdeal.Facts] [hPre_finite_and_untied : Cert.Pre_finite_and_untied.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_untied m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "tenth" .f32 0x3DCCCCCD#32 ((1 / 10 : ℝ) : EReal)

def algebraic_KernelIdeal_ReferenceIdeal_pre_finite_and_untied [hKernelIdeal : Cert.KernelIdeal.Facts] [hReferenceIdeal : Cert.ReferenceIdeal.Facts] [hPre_finite_and_untied : Cert.Pre_finite_and_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_untied m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1883) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_and_untied : Cert.Pre_finite_and_untied.Facts),
    quiescent_Kernel (hKernel := hKernel)
    ∧ quiescent_KernelIdeal (hKernelIdeal := hKernelIdeal)
    ∧ quiescent_KernelIdeal_pre_finite_and_untied (hKernelIdeal := hKernelIdeal) (hPre_finite_and_untied := hPre_finite_and_untied)
    ∧ quiescent_ReferenceIdeal (hReferenceIdeal := hReferenceIdeal)
    ∧ quiescent_ReferenceIdeal_pre_finite_and_untied (hReferenceIdeal := hReferenceIdeal) (hPre_finite_and_untied := hPre_finite_and_untied)
    ∧ preserves_Kernel_KernelIdeal
    ∧ algebraic_KernelIdeal_ReferenceIdeal_pre_finite_and_untied (hKernelIdeal := hKernelIdeal) (hReferenceIdeal := hReferenceIdeal) (hPre_finite_and_untied := hPre_finite_and_untied)
-- ==== Pre_finite_and_untied.lean ====
abbrev S2x4096x3 : Shape := ⟨3, ![2, 4096, 3]⟩
abbrev S_ : Shape := ⟨0, ![]⟩
abbrev S2x4096 : Shape := ⟨2, ![2, 4096]⟩
abbrev S2x4096x1 : Shape := ⟨3, ![2, 4096, 1]⟩
abbrev S2x1x4096 : Shape := ⟨3, ![2, 1, 4096]⟩
abbrev S2x4096x4096 : Shape := ⟨3, ![2, 4096, 4096]⟩
abbrev S2x4096x11 : Shape := ⟨3, ![2, 4096, 11]⟩
abbrev S2x4096x10 : Shape := ⟨3, ![2, 4096, 10]⟩

class Facts : Prop where
  reducesTo_S2x4096x3_S2x4096_d2 : S2x4096x3.ReducesTo [2] S2x4096
  h_S_ : 0 < S_.numel
  bcast_S2x4096_S2x4096x1_0_1 : S2x4096.BroadcastsInDim S2x4096x1 (![0, 1] : Fin 2 → Fin S2x4096x1.rank)
  bcast_S2x4096_S2x1x4096_0_2 : S2x4096.BroadcastsInDim S2x1x4096 (![0, 2] : Fin 2 → Fin S2x1x4096.rank)
  bcast_S2x4096x1_S2x4096x4096_0_1_2 : S2x4096x1.BroadcastsInDim S2x4096x4096 (![0, 1, 2] : Fin 3 → Fin S2x4096x4096.rank)
  bcast_S2x1x4096_S2x4096x4096_0_1_2 : S2x1x4096.BroadcastsInDim S2x4096x4096 (![0, 1, 2] : Fin 3 → Fin S2x4096x4096.rank)
  bcast_S_S2x4096x4096 : S_.BroadcastsInDim S2x4096x4096 (![] : Fin 0 → Fin S2x4096x4096.rank)
  sliceFits_S2x4096x4096_S2x4096x11 : S2x4096x4096.Slices (fun _ => 0) S2x4096x11
  bcast_S_S2x4096x3 : S_.BroadcastsInDim S2x4096x3 (![] : Fin 0 → Fin S2x4096x3.rank)
  reducesTo_S2x4096x3_S_d0_1_2 : S2x4096x3.ReducesTo [0, 1, 2] S_
  slices_S2x4096x11_S2x4096x10_0_0_0 : S2x4096x11.Slices ![0, 0, 0] S2x4096x10
  slices_S2x4096x11_S2x4096x10_0_0_1 : S2x4096x11.Slices ![0, 0, 1] S2x4096x10
  reducesTo_S2x4096x10_S_d0_1_2 : S2x4096x10.ReducesTo [0, 1, 2] S_
  dot_S2x4096x3_S2x4096x3_S2x4096x4096_2_2_1_1_0_0_wf : DotDims.WF S2x4096x3 S2x4096x3 S2x4096x4096 [2] [2] [1] [1] [0] [0]

variable [Facts]

def dot_S2x4096x3_S2x4096x3_S2x4096x4096_2_2_1_1_0_0 : DotDims S2x4096x3 S2x4096x3 S2x4096x4096 where
  lhsContracting := [2]
  rhsContracting := [2]
  lhsNonContracting := [1]
  rhsNonContracting := [1]
  lhsBatch := [0]
  rhsBatch := [0]
  wf := dot_S2x4096x3_S2x4096x3_S2x4096x4096_2_2_1_1_0_0_wf
def fn_part1 {F : FTy → Type} [FloatOps F] (main_values : FVec F S2x4096x11 .f32) (main_v15 : IVec S_ 1) (main_v16 : FVec F S2x4096x3 .f32) (main_cst_2 : FVec F S_ .f32) : IVec S_ 1 :=
  let main_v17 : FVec F S2x4096x3 .f32 := broadcastInDim S2x4096x3 ![] bcast_S_S2x4096x3 main_cst_2
  let main_v18 : IVec S2x4096x3 1 := cmpf .olt main_v16 main_v17
  let main_c_3 : IVec S_ 1 := constantI S_ 1 1#1
  let main_v19 : IVec S_ 1 := (fun x v => Host.reduce IntOp.andi x v reducesTo_S2x4096x3_S_d0_1_2 h_S_) main_v18 main_c_3
  let main_v20 : IVec S_ 1 := andi main_v15 main_v19
  let main_v21 : FVec F S2x4096x10 .f32 := (extractStridedSlice S2x4096x10 ![0, 0, 0] · slices_S2x4096x11_S2x4096x10_0_0_0) main_values
  let main_v22 : FVec F S2x4096x10 .f32 := (extractStridedSlice S2x4096x10 ![0, 0, 1] · slices_S2x4096x11_S2x4096x10_0_0_1) main_values
  let main_v23 : IVec S2x4096x10 1 := cmpf .ogt main_v21 main_v22
  let main_c_4 : IVec S_ 1 := constantI S_ 1 1#1
  let main_v24 : IVec S_ 1 := (fun x v => Host.reduce IntOp.andi x v reducesTo_S2x4096x10_S_d0_1_2 h_S_) main_v23 main_c_4
  let main_v25 : IVec S_ 1 := andi main_v20 main_v24
  main_v25

def fn {F : FTy → Type} [FloatOps F] (main_arg0 : FVec F S2x4096x3 .f32) (main_arg1 : FVec F S2x4096x3 .f32) : IVec S_ 1 :=
  let main_v0 : FVec F S2x4096x3 .f32 := mulf main_arg0 main_arg0
  let main_cst : FVec F S_ .f32 := constant S_ .f32 0x00000000#32
  let main_v1 : FVec F S2x4096 .f32 := (fun x v => Host.reduceAdd x v reducesTo_S2x4096x3_S2x4096_d2 h_S_) main_v0 main_cst
  let main_v2 : FVec F S2x4096x1 .f32 := broadcastInDim S2x4096x1 ![0, 1] bcast_S2x4096_S2x4096x1_0_1 main_v1
  let main_v3 : FVec F S2x1x4096 .f32 := broadcastInDim S2x1x4096 ![0, 2] bcast_S2x4096_S2x1x4096_0_2 main_v1
  let main_v4 : FVec F S2x4096x4096 .f32 := broadcastInDim S2x4096x4096 ![0, 1, 2] bcast_S2x4096x1_S2x4096x4096_0_1_2 main_v2
  let main_v5 : FVec F S2x4096x4096 .f32 := broadcastInDim S2x4096x4096 ![0, 1, 2] bcast_S2x1x4096_S2x4096x4096_0_1_2 main_v3
  let main_v6 : FVec F S2x4096x4096 .f32 := addf main_v4 main_v5
  let main_v7 : FVec F S2x4096x4096 .f32 := (fun l r => Host.dotGeneral dot_S2x4096x3_S2x4096x3_S2x4096x4096_2_2_1_1_0_0 none l r) main_arg0 main_arg0
  let main_cst_0 : FVec F S_ .f32 := constant S_ .f32 0x40000000#32
  let main_v8 : FVec F S2x4096x4096 .f32 := broadcastInDim S2x4096x4096 ![] bcast_S_S2x4096x4096 main_cst_0
  let main_v9 : FVec F S2x4096x4096 .f32 := mulf main_v8 main_v7
  let main_v10 : FVec F S2x4096x4096 .f32 := subf main_v6 main_v9
  let main_v11 : FVec F S2x4096x4096 .f32 := Host.negf main_v10
  let main_values : FVec F S2x4096x11 .f32 := (fun x => (Host.topK S2x4096x11 2 (FloatOps.cmpfTotal .gt) x sliceFits_S2x4096x4096_S2x4096x11).1) main_v11
  let main_indices : IVec S2x4096x11 32 := (fun x => (Host.topK S2x4096x11 2 (FloatOps.cmpfTotal .gt) x sliceFits_S2x4096x4096_S2x4096x11).2) main_v11
  let main_v12 : FVec F S2x4096x3 .f32 := Host.absf main_arg0
  let main_cst_1 : FVec F S_ .f32 := constant S_ .f32 0x7F800000#32
  let main_v13 : FVec F S2x4096x3 .f32 := broadcastInDim S2x4096x3 ![] bcast_S_S2x4096x3 main_cst_1
  let main_v14 : IVec S2x4096x3 1 := cmpf .olt main_v12 main_v13
  let main_c : IVec S_ 1 := constantI S_ 1 1#1
  let main_v15 : IVec S_ 1 := (fun x v => Host.reduce IntOp.andi x v reducesTo_S2x4096x3_S_d0_1_2 h_S_) main_v14 main_c
  let main_v16 : FVec F S2x4096x3 .f32 := Host.absf main_arg1
  let main_cst_2 : FVec F S_ .f32 := constant S_ .f32 0x7F800000#32
  fn_part1 (F := F) main_values main_v15 main_v16 main_cst_2
-- ==== Kernel.lean ====
abbrev S2x4096x3 : Shape := ⟨3, ![2, 4096, 3]⟩
abbrev S2x3x4096 : Shape := ⟨3, ![2, 3, 4096]⟩
abbrev S1x1 : Shape := ⟨2, ![1, 1]⟩
abbrev S_ : Shape := ⟨0, ![]⟩
abbrev S1x1024x3 : Shape := ⟨3, ![1, 1024, 3]⟩
abbrev S1x3x4096 : Shape := ⟨3, ![1, 3, 4096]⟩
abbrev S1x3x1024 : Shape := ⟨3, ![1, 3, 1024]⟩
abbrev S1024x3 : Shape := ⟨2, ![1024, 3]⟩
abbrev S3x4096 : Shape := ⟨2, ![3, 4096]⟩
abbrev S3x1024 : Shape := ⟨2, ![3, 1024]⟩
abbrev S4096 : Shape := ⟨1, ![4096]⟩
abbrev S1x4096 : Shape := ⟨2, ![1, 4096]⟩
abbrev S1024 : Shape := ⟨1, ![1024]⟩
abbrev S1024x1 : Shape := ⟨2, ![1024, 1]⟩
abbrev S1024x4096 : Shape := ⟨2, ![1024, 4096]⟩
abbrev S18x4096 : Shape := ⟨2, ![18, 4096]⟩
abbrev S18x1024 : Shape := ⟨2, ![18, 1024]⟩
abbrev S1x1024 : Shape := ⟨2, ![1, 1024]⟩
abbrev S8x128 : Shape := ⟨2, ![8, 128]⟩
abbrev S1x8x128 : Shape := ⟨3, ![1, 8, 128]⟩
abbrev S1 : Shape := ⟨1, ![1]⟩
abbrev S1x1x1 : Shape := ⟨3, ![1, 1, 1]⟩

abbrev nBuf : Space → Nat
  | .hbm => 8
  | .vmem => 11
  | .smem => 0
  | _ => 0

abbrev bufTy : (tb : Table) → Fin (tcTables nBuf tb) → BufTy
  | .hbm, ⟨0, _⟩ => ⟨S2x4096x3, .f32⟩
  | .hbm, ⟨1, _⟩ => ⟨S2x4096x3, .f32⟩
  | .hbm, ⟨2, _⟩ => ⟨S2x3x4096, .f32⟩
  | .hbm, ⟨3, _⟩ => ⟨S2x3x4096, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x3x4096, .f32⟩
  | .local _ .vmem, ⟨3, _⟩ => ⟨S1x3x4096, .f32⟩
  | .local _ .vmem, ⟨4, _⟩ => ⟨S1x3x1024, .f32⟩
  | .local _ .vmem, ⟨5, _⟩ => ⟨S1x3x1024, .f32⟩
  | .local _ .vmem, ⟨6, _⟩ => ⟨S1x3x4096, .f32⟩
  | .local _ .vmem, ⟨7, _⟩ => ⟨S1x3x4096, .f32⟩
  | .local _ .vmem, ⟨8, _⟩ => ⟨S1x3x1024, .f32⟩
  | .local _ .vmem, ⟨9, _⟩ => ⟨S1x3x1024, .f32⟩
  | .local _ .vmem, ⟨10, _⟩ => ⟨S1x1, .f32⟩
  | _, _ => ⟨S2x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_cst : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v7335 : BitVec 1 := Scalar.cmpi .eq arg0 c0_i32
  let arg1 : BitVec 32 := BitVec.ofNat 32 (i 1).val
  let c0_i32_1200 : BitVec 32 := 0#32
  let v7336 : BitVec 1 := Scalar.cmpi .eq arg1 c0_i32_1200
  let v7337 : BitVec 1 := Scalar.andi v7335 v7336
  let v7338 : BitVec 32 := Scalar.extui v7337
  let c0_i32_1201 : BitVec 32 := 0#32
  let v7339 : BitVec 1 := Scalar.cmpi .ne v7338 c0_i32_1201
  v7339

def k0_cond2 (i : grid0.Coords) : BitVec 1 :=
  let arg0 : BitVec 32 := BitVec.ofNat 32 (i 0).val
  let c0_i32 : BitVec 32 := 0#32
  let v7335 : BitVec 1 := Scalar.cmpi .eq arg0 c0_i32
  let arg1 : BitVec 32 := BitVec.ofNat 32 (i 1).val
  let c0_i32_1200 : BitVec 32 := 0#32
  let v7336 : BitVec 1 := Scalar.cmpi .eq arg1 c0_i32_1200
  let v7337 : BitVec 1 := Scalar.andi v7335 v7336
  let v_true : BitVec 1 := 1#1
  let v7340 : BitVec 1 := Scalar.xori v7337 v_true
  let v7341 : BitVec 32 := Scalar.extui v7340
  let c0_i32_1202 : BitVec 32 := 0#32
  let v7342 : BitVec 1 := Scalar.cmpi .ne v7341 c0_i32_1202
  v7342

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x3x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x3x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== KernelIdeal.lean ====
variable {F : FTy → Type} [FloatOps F] [Named F]
def κ : String → Option EReal := fun
  | "tenth" => some ((1 / 10 : ℝ) : EReal)
  | _ => none
-- ==== ReferenceIdeal.lean ====
abbrev S2x4096x3 : Shape := ⟨3, ![2, 4096, 3]⟩
abbrev S_ : Shape := ⟨0, ![]⟩
abbrev S2x4096 : Shape := ⟨2, ![2, 4096]⟩
abbrev S2x4096x1 : Shape := ⟨3, ![2, 4096, 1]⟩
abbrev S2x1x4096 : Shape := ⟨3, ![2, 1, 4096]⟩
abbrev S2x4096x4096 : Shape := ⟨3, ![2, 4096, 4096]⟩
abbrev S2x4096x10 : Shape := ⟨3, ![2, 4096, 10]⟩
abbrev S1x2x4096x3 : Shape := ⟨4, ![1, 2, 4096, 3]⟩
abbrev S2x2x4096x3 : Shape := ⟨4, ![2, 2, 4096, 3]⟩
abbrev S2x4096x10x1 : Shape := ⟨4, ![2, 4096, 10, 1]⟩
abbrev S2x2x4096x10x3 : Shape := ⟨5, ![2, 2, 4096, 10, 3]⟩
abbrev S2x2x4096x1x3 : Shape := ⟨5, ![2, 2, 4096, 1, 3]⟩
abbrev S2x2x4096x3x3 : Shape := ⟨5, ![2, 2, 4096, 3, 3]⟩
abbrev S2x2x4096 : Shape := ⟨3, ![2, 2, 4096]⟩
abbrev S3x3 : Shape := ⟨2, ![3, 3]⟩
abbrev S2x2x4096x1x1 : Shape := ⟨5, ![2, 2, 4096, 1, 1]⟩
abbrev S2x2x4096x1 : Shape := ⟨4, ![2, 2, 4096, 1]⟩
abbrev S2x2x4096x9 : Shape := ⟨4, ![2, 2, 4096, 9]⟩
abbrev S2x2x4096x3x1 : Shape := ⟨5, ![2, 2, 4096, 3, 1]⟩
abbrev S1x2x4096 : Shape := ⟨3, ![1, 2, 4096]⟩

abbrev nBuf : Space → Nat
  | .hbm => 1911
  | .vmem => 0
  | .smem => 0
  | _ => 0

abbrev hbmTy0_0 (i : Nat) : BufTy := match i % 128 with
  | 0 => ⟨S2x4096x3, .f32⟩
  | 1 => ⟨S2x4096x3, .f32⟩
  | 2 => ⟨S2x4096x3, .f32⟩
  | 3 => ⟨S_, .f32⟩
  | 4 => ⟨S2x4096, .f32⟩
  | 5 => ⟨S2x4096x1, .f32⟩
  | 6 => ⟨S2x1x4096, .f32⟩
  | 7 => ⟨S2x4096x4096, .f32⟩
  | 8 => ⟨S2x4096x4096, .f32⟩
  | 9 => ⟨S2x4096x4096, .f32⟩
  | 10 => ⟨S2x4096x4096, .f32⟩
  | 11 => ⟨S_, .f32⟩
  | 12 => ⟨S2x4096x4096, .f32⟩
  | 13 => ⟨S2x4096x4096, .f32⟩
  | 14 => ⟨S2x4096x4096, .f32⟩
  | 15 => ⟨S2x4096x4096, .f32⟩
  | 16 => ⟨S2x4096x10, .f32⟩
  | 17 => ⟨S2x4096x10, .i32⟩
  | 18 => ⟨S1x2x4096x3, .f32⟩
  | 19 => ⟨S1x2x4096x3, .f32⟩
  | 20 => ⟨S2x2x4096x3, .f32⟩
  | 21 => ⟨S_, .i32⟩
  | 22 => ⟨S2x4096x10, .i32⟩
  | 23 => ⟨S2x4096x10, .i1⟩
  | 24 => ⟨S_, .i32⟩
  | 25 => ⟨S2x4096x10, .i32⟩
  | 26 => ⟨S2x4096x10, .i32⟩
  | 27 => ⟨S2x4096x10, .i32⟩
  | 28 => ⟨S2x4096x10x1, .i32⟩
  | 29 => ⟨S2x2x4096x10x3, .f32⟩
  | 30 => ⟨S_, .f32⟩
  | 31 => ⟨S2x2x4096x3, .f32⟩
  | 32 => ⟨S2x2x4096x1x3, .f32⟩
  | 33 => ⟨S_, .f32⟩
  | 34 => ⟨S2x2x4096x1x3, .f32⟩
  | 35 => ⟨S2x2x4096x1x3, .f32⟩
  | 36 => ⟨S2x2x4096x10x3, .f32⟩
  | 37 => ⟨S2x2x4096x10x3, .f32⟩
  | 38 => ⟨S2x2x4096x3x3, .f32⟩
  | 39 => ⟨S_, .f32⟩
  | 40 => ⟨S2x2x4096, .f32⟩
  | 41 => ⟨S_, .f32⟩
  | 42 => ⟨S2x2x4096, .f32⟩
  | 43 => ⟨S2x2x4096, .f32⟩
  | 44 => ⟨S_, .f32⟩
  | 45 => ⟨S2x2x4096, .f32⟩
  | 46 => ⟨S2x2x4096, .f32⟩
  | 47 => ⟨S3x3, .i32⟩
  | 48 => ⟨S3x3, .i32⟩
  | 49 => ⟨S_, .i32⟩
  | 50 => ⟨S3x3, .i32⟩
  | 51 => ⟨S3x3, .i32⟩
  | 52 => ⟨S3x3, .i1⟩
  | 53 => ⟨S3x3, .f32⟩
  | 54 => ⟨S2x2x4096x3x3, .f32⟩
  | 55 => ⟨S2x2x4096x1x1, .f32⟩
  | 56 => ⟨S2x2x4096, .f32⟩
  | 57 => ⟨S2x2x4096x1x1, .f32⟩
  | 58 => ⟨S2x2x4096, .f32⟩
  | 59 => ⟨S2x2x4096x1x1, .f32⟩
  | 60 => ⟨S2x2x4096, .f32⟩
  | 61 => ⟨S2x2x4096, .i1⟩
  | 62 => ⟨S2x2x4096, .f32⟩
  | 63 => ⟨S2x2x4096, .f32⟩
  | 64 => ⟨S2x2x4096, .f32⟩
  | 65 => ⟨S2x2x4096, .f32⟩
  | 66 => ⟨S2x2x4096, .i1⟩
  | 67 => ⟨S2x2x4096, .f32⟩
  | 68 => ⟨S2x2x4096, .f32⟩
  | 69 => ⟨S2x2x4096, .f32⟩
  | 70 => ⟨S2x2x4096, .f32⟩
  | 71 => ⟨S2x2x4096, .f32⟩
  | 72 => ⟨S2x2x4096, .f32⟩
  | 73 => ⟨S2x2x4096, .f32⟩
  | 74 => ⟨S2x2x4096, .f32⟩
  | 75 => ⟨S2x2x4096, .f32⟩
  | 76 => ⟨S2x2x4096, .f32⟩
  | 77 => ⟨S2x2x4096, .f32⟩
  | 78 => ⟨S2x2x4096, .f32⟩
  | 79 => ⟨S2x2x4096, .f32⟩
  | 80 => ⟨S2x2x4096, .f32⟩
  | 81 => ⟨S2x2x4096, .f32⟩
  | 82 => ⟨S2x2x4096, .f32⟩
  | 83 => ⟨S2x2x4096x1, .f32⟩
  | 84 => ⟨S2x2x4096x1, .f32⟩
  | 85 => ⟨S2x2x4096x1, .f32⟩
  | 86 => ⟨S2x2x4096x1, .f32⟩
  | 87 => ⟨S2x2x4096x1, .f32⟩
  | 88 => ⟨S2x2x4096x1, .f32⟩
  | 89 => ⟨S2x2x4096x1, .f32⟩
  | 90 => ⟨S2x2x4096x1, .f32⟩
  | 91 => ⟨S2x2x4096x1, .f32⟩
  | 92 => ⟨S2x2x4096x9, .f32⟩
  | 93 => ⟨S2x2x4096x3x3, .f32⟩
  | 94 => ⟨S2x2x4096x3x3, .f32⟩
  | 95 => ⟨S2x2x4096x3x3, .f32⟩
  | 96 => ⟨S2x2x4096x3x3, .f32⟩
  | 97 => ⟨S2x2x4096x1x1, .f32⟩
  | 98 => ⟨S2x2x4096, .f32⟩
  | 99 => ⟨S2x2x4096x1x1, .f32⟩
  | 100 => ⟨S2x2x4096, .f32⟩
  | 101 => ⟨S2x2x4096x1x1, .f32⟩
  | 102 => ⟨S2x2x4096, .f32⟩
  | 103 => ⟨S2x2x4096, .i1⟩
  | 104 => ⟨S2x2x4096, .f32⟩
  | 105 => ⟨S2x2x4096, .f32⟩
  | 106 => ⟨S2x2x4096, .f32⟩
  | 107 => ⟨S2x2x4096, .f32⟩
  | 108 => ⟨S2x2x4096, .i1⟩
  | 109 => ⟨S2x2x4096, .f32⟩
  | 110 => ⟨S2x2x4096, .f32⟩
  | 111 => ⟨S2x2x4096, .f32⟩
  | 112 => ⟨S2x2x4096, .f32⟩
  | 113 => ⟨S2x2x4096, .f32⟩
  | 114 => ⟨S2x2x4096, .f32⟩
  | 115 => ⟨S2x2x4096, .f32⟩
  | 116 => ⟨S2x2x4096, .f32⟩
  | 117 => ⟨S2x2x4096, .f32⟩
  | 118 => ⟨S2x2x4096, .f32⟩
  | 119 => ⟨S2x2x4096, .f32⟩
  | 120 => ⟨S2x2x4096, .f32⟩
  | 121 => ⟨S2x2x4096, .f32⟩
  | 122 => ⟨S2x2x4096, .f32⟩
  | 123 => ⟨S2x2x4096, .f32⟩
  | 124 => ⟨S2x2x4096, .f32⟩
  | 125 => ⟨S2x2x4096x1, .f32⟩
  | 126 => ⟨S2x2x4096x1, .f32⟩
  | 127 => ⟨S2x2x4096x1, .f32⟩
  | _ => ⟨S2x4096x3, .f32⟩

abbrev hbmTy0_1 (i : Nat) : BufTy := match i % 128 with
  | 0 => ⟨S2x2x4096x1, .f32⟩
  | 1 => ⟨S2x2x4096x1, .f32⟩
  | 2 => ⟨S2x2x4096x1, .f32⟩
  | 3 => ⟨S2x2x4096x1, .f32⟩
  | 4 => ⟨S2x2x4096x1, .f32⟩
  | 5 => ⟨S2x2x4096x1, .f32⟩
  | 6 => ⟨S2x2x4096x9, .f32⟩
  | 7 => ⟨S2x2x4096x3x3, .f32⟩
  | 8 => ⟨S2x2x4096x3x3, .f32⟩
  | 9 => ⟨S2x2x4096x3x3, .f32⟩
  | 10 => ⟨S2x2x4096x3x3, .f32⟩
  | 11 => ⟨S2x2x4096x1x1, .f32⟩
  | 12 => ⟨S2x2x4096, .f32⟩
  | 13 => ⟨S2x2x4096x1x1, .f32⟩
  | 14 => ⟨S2x2x4096, .f32⟩
  | 15 => ⟨S2x2x4096x1x1, .f32⟩
  | 16 => ⟨S2x2x4096, .f32⟩
  | 17 => ⟨S2x2x4096, .i1⟩
  | 18 => ⟨S2x2x4096, .f32⟩
  | 19 => ⟨S2x2x4096, .f32⟩
  | 20 => ⟨S2x2x4096, .f32⟩
  | 21 => ⟨S2x2x4096, .f32⟩
  | 22 => ⟨S2x2x4096, .i1⟩
  | 23 => ⟨S2x2x4096, .f32⟩
  | 24 => ⟨S2x2x4096, .f32⟩
  | 25 => ⟨S2x2x4096, .f32⟩
  | 26 => ⟨S2x2x4096, .f32⟩
  | 27 => ⟨S2x2x4096, .f32⟩
  | 28 => ⟨S2x2x4096, .f32⟩
  | 29 => ⟨S2x2x4096, .f32⟩
  | 30 => ⟨S2x2x4096, .f32⟩
  | 31 => ⟨S2x2x4096, .f32⟩
  | 32 => ⟨S2x2x4096, .f32⟩
  | 33 => ⟨S2x2x4096, .f32⟩
  | 34 => ⟨S2x2x4096, .f32⟩
  | 35 => ⟨S2x2x4096, .f32⟩
  | 36 => ⟨S2x2x4096, .f32⟩
  | 37 => ⟨S2x2x4096, .f32⟩
  | 38 => ⟨S2x2x4096, .f32⟩
  | 39 => ⟨S2x2x4096x1, .f32⟩
  | 40 => ⟨S2x2x4096x1, .f32⟩
  | 41 => ⟨S2x2x4096x1, .f32⟩
  | 42 => ⟨S2x2x4096x1, .f32⟩
  | 43 => ⟨S2x2x4096x1, .f32⟩
  | 44 => ⟨S2x2x4096x1, .f32⟩
  | 45 => ⟨S2x2x4096x1, .f32⟩
  | 46 => ⟨S2x2x4096x1, .f32⟩
  | 47 => ⟨S2x2x4096x1, .f32⟩
  | 48 => ⟨S2x2x4096x9, .f32⟩
  | 49 => ⟨S2x2x4096x3x3, .f32⟩
  | 50 => ⟨S2x2x4096x3x3, .f32⟩
  | 51 => ⟨S2x2x4096x3x3, .f32⟩
  | 52 => ⟨S2x2x4096x3x3, .f32⟩
  | 53 => ⟨S2x2x4096x1x1, .f32⟩
  | 54 => ⟨S2x2x4096, .f32⟩
  | 55 => ⟨S2x2x4096x1x1, .f32⟩
  | 56 => ⟨S2x2x4096, .f32⟩
  | 57 => ⟨S2x2x4096x1x1, .f32⟩
  | 58 => ⟨S2x2x4096, .f32⟩
  | 59 => ⟨S2x2x4096, .i1⟩
  | 60 => ⟨S2x2x4096, .f32⟩
  | 61 => ⟨S2x2x4096, .f32⟩
  | 62 => ⟨S2x2x4096, .f32⟩
  | 63 => ⟨S2x2x4096, .f32⟩
  | 64 => ⟨S2x2x4096, .i1⟩
  | 65 => ⟨S2x2x4096, .f32⟩
  | 66 => ⟨S2x2x4096, .f32⟩
  | 67 => ⟨S2x2x4096, .f32⟩
  | 68 => ⟨S2x2x4096, .f32⟩
  | 69 => ⟨S2x2x4096, .f32⟩
  | 70 => ⟨S2x2x4096, .f32⟩
  | 71 => ⟨S2x2x4096, .f32⟩
  | 72 => ⟨S2x2x4096, .f32⟩
  | 73 => ⟨S2x2x4096, .f32⟩
  | 74 => ⟨S2x2x4096, .f32⟩
  | 75 => ⟨S2x2x4096, .f32⟩
  | 76 => ⟨S2x2x4096, .f32⟩
  | 77 => ⟨S2x2x4096, .f32⟩
  | 78 => ⟨S2x2x4096, .f32⟩
  | 79 => ⟨S2x2x4096, .f32⟩
  | 80 => ⟨S2x2x4096, .f32⟩
  | 81 => ⟨S2x2x4096x1, .f32⟩
  | 82 => ⟨S2x2x4096x1, .f32⟩
  | 83 => ⟨S2x2x4096x1, .f32⟩
  | 84 => ⟨S2x2x4096x1, .f32⟩
  | 85 => ⟨S2x2x4096x1, .f32⟩
  | 86 => ⟨S2x2x4096x1, .f32⟩
  | 87 => ⟨S2x2x4096x1, .f32⟩
  | 88 => ⟨S2x2x4096x1, .f32⟩
  | 89 => ⟨S2x2x4096x1, .f32⟩
  | 90 => ⟨S2x2x4096x9, .f32⟩
  | 91 => ⟨S2x2x4096x3x3, .f32⟩
  | 92 => ⟨S2x2x4096x3x3, .f32⟩
  | 93 => ⟨S2x2x4096x3x3, .f32⟩
  | 94 => ⟨S2x2x4096x3x3, .f32⟩
  | 95 => ⟨S2x2x4096x1x1, .f32⟩
  | 96 => ⟨S2x2x4096, .f32⟩
  | 97 => ⟨S2x2x4096x1x1, .f32⟩
  | 98 => ⟨S2x2x4096, .f32⟩
  | 99 => ⟨S2x2x4096x1x1, .f32⟩
  | 100 => ⟨S2x2x4096, .f32⟩
  | 101 => ⟨S2x2x4096, .i1⟩
  | 102 => ⟨S2x2x4096, .f32⟩
  | 103 => ⟨S2x2x4096, .f32⟩
  | 104 => ⟨S2x2x4096, .f32⟩
  | 105 => ⟨S2x2x4096, .f32⟩
  | 106 => ⟨S2x2x4096, .i1⟩
  | 107 => ⟨S2x2x4096, .f32⟩
  | 108 => ⟨S2x2x4096, .f32⟩
  | 109 => ⟨S2x2x4096, .f32⟩
  | 110 => ⟨S2x2x4096, .f32⟩
  | 111 => ⟨S2x2x4096, .f32⟩
  | 112 => ⟨S2x2x4096, .f32⟩
  | 113 => ⟨S2x2x4096, .f32⟩
  | 114 => ⟨S2x2x4096, .f32⟩
  | 115 => ⟨S2x2x4096, .f32⟩
  | 116 => ⟨S2x2x4096, .f32⟩
  | 117 => ⟨S2x2x4096, .f32⟩
  | 118 => ⟨S2x2x4096, .f32⟩
  | 119 => ⟨S2x2x4096, .f32⟩
  | 120 => ⟨S2x2x4096, .f32⟩
  | 121 => ⟨S2x2x4096, .f32⟩
  | 122 => ⟨S2x2x4096, .f32⟩
  | 123 => ⟨S2x2x4096x1, .f32⟩
  | 124 => ⟨S2x2x4096x1, .f32⟩
  | 125 => ⟨S2x2x4096x1, .f32⟩
  | 126 => ⟨S2x2x4096x1, .f32⟩
  | 127 => ⟨S2x2x4096x1, .f32⟩
  | _ => ⟨S2x4096x3, .f32⟩

abbrev hbmTy0_2 (i : Nat) : BufTy := match i % 128 with
  | 0 => ⟨S2x2x4096x1, .f32⟩
  | 1 => ⟨S2x2x4096x1, .f32⟩
  | 2 => ⟨S2x2x4096x1, .f32⟩
  | 3 => ⟨S2x2x4096x1, .f32⟩
  | 4 => ⟨S2x2x4096x9, .f32⟩
  | 5 => ⟨S2x2x4096x3x3, .f32⟩
  | 6 => ⟨S2x2x4096x3x3, .f32⟩
  | 7 => ⟨S2x2x4096x3x3, .f32⟩
  | 8 => ⟨S2x2x4096x3x3, .f32⟩
  | 9 => ⟨S2x2x4096x1x1, .f32⟩
  | 10 => ⟨S2x2x4096, .f32⟩
  | 11 => ⟨S2x2x4096x1x1, .f32⟩
  | 12 => ⟨S2x2x4096, .f32⟩
  | 13 => ⟨S2x2x4096x1x1, .f32⟩
  | 14 => ⟨S2x2x4096, .f32⟩
  | 15 => ⟨S2x2x4096, .i1⟩
  | 16 => ⟨S2x2x4096, .f32⟩
  | 17 => ⟨S2x2x4096, .f32⟩
  | 18 => ⟨S2x2x4096, .f32⟩
  | 19 => ⟨S2x2x4096, .f32⟩
  | 20 => ⟨S2x2x4096, .i1⟩
  | 21 => ⟨S2x2x4096, .f32⟩
  | 22 => ⟨S2x2x4096, .f32⟩
  | 23 => ⟨S2x2x4096, .f32⟩
  | 24 => ⟨S2x2x4096, .f32⟩
  | 25 => ⟨S2x2x4096, .f32⟩
  | 26 => ⟨S2x2x4096, .f32⟩
  | 27 => ⟨S2x2x4096, .f32⟩
  | 28 => ⟨S2x2x4096, .f32⟩
  | 29 => ⟨S2x2x4096, .f32⟩
  | 30 => ⟨S2x2x4096, .f32⟩
  | 31 => ⟨S2x2x4096, .f32⟩
  | 32 => ⟨S2x2x4096, .f32⟩
  | 33 => ⟨S2x2x4096, .f32⟩
  | 34 => ⟨S2x2x4096, .f32⟩
  | 35 => ⟨S2x2x4096, .f32⟩
  | 36 => ⟨S2x2x4096, .f32⟩
  | 37 => ⟨S2x2x4096x1, .f32⟩
  | 38 => ⟨S2x2x4096x1, .f32⟩
  | 39 => ⟨S2x2x4096x1, .f32⟩
  | 40 => ⟨S2x2x4096x1, .f32⟩
  | 41 => ⟨S2x2x4096x1, .f32⟩
  | 42 => ⟨S2x2x4096x1, .f32⟩
  | 43 => ⟨S2x2x4096x1, .f32⟩
  | 44 => ⟨S2x2x4096x1, .f32⟩
  | 45 => ⟨S2x2x4096x1, .f32⟩
  | 46 => ⟨S2x2x4096x9, .f32⟩
  | 47 => ⟨S2x2x4096x3x3, .f32⟩
  | 48 => ⟨S2x2x4096x3x3, .f32⟩
  | 49 => ⟨S2x2x4096x3x3, .f32⟩
  | 50 => ⟨S2x2x4096x3x3, .f32⟩
  | 51 => ⟨S2x2x4096x1x1, .f32⟩
  | 52 => ⟨S2x2x4096, .f32⟩
  | 53 => ⟨S2x2x4096x1x1, .f32⟩
  | 54 => ⟨S2x2x4096, .f32⟩
  | 55 => ⟨S2x2x4096x1x1, .f32⟩
  | 56 => ⟨S2x2x4096, .f32⟩
  | 57 => ⟨S2x2x4096, .i1⟩
  | 58 => ⟨S2x2x4096, .f32⟩
  | 59 => ⟨S2x2x4096, .f32⟩
  | 60 => ⟨S2x2x4096, .f32⟩
  | 61 => ⟨S2x2x4096, .f32⟩
  | 62 => ⟨S2x2x4096, .i1⟩
  | 63 => ⟨S2x2x4096, .f32⟩
  | 64 => ⟨S2x2x4096, .f32⟩
  | 65 => ⟨S2x2x4096, .f32⟩
  | 66 => ⟨S2x2x4096, .f32⟩
  | 67 => ⟨S2x2x4096, .f32⟩
  | 68 => ⟨S2x2x4096, .f32⟩
  | 69 => ⟨S2x2x4096, .f32⟩
  | 70 => ⟨S2x2x4096, .f32⟩
  | 71 => ⟨S2x2x4096, .f32⟩
  | 72 => ⟨S2x2x4096, .f32⟩
  | 73 => ⟨S2x2x4096, .f32⟩
  | 74 => ⟨S2x2x4096, .f32⟩
  | 75 => ⟨S2x2x4096, .f32⟩
  | 76 => ⟨S2x2x4096, .f32⟩
  | 77 => ⟨S2x2x4096, .f32⟩
  | 78 => ⟨S2x2x4096, .f32⟩
  | 79 => ⟨S2x2x4096x1, .f32⟩
  | 80 => ⟨S2x2x4096x1, .f32⟩
  | 81 => ⟨S2x2x4096x1, .f32⟩
  | 82 => ⟨S2x2x4096x1, .f32⟩
  | 83 => ⟨S2x2x4096x1, .f32⟩
  | 84 => ⟨S2x2x4096x1, .f32⟩
  | 85 => ⟨S2x2x4096x1, .f32⟩
  | 86 => ⟨S2x2x4096x1, .f32⟩
  | 87 => ⟨S2x2x4096x1, .f32⟩
  | 88 => ⟨S2x2x4096x9, .f32⟩
  | 89 => ⟨S2x2x4096x3x3, .f32⟩
  | 90 => ⟨S2x2x4096x3x3, .f32⟩
  | 91 => ⟨S2x2x4096x3x3, .f32⟩
  | 92 => ⟨S2x2x4096x3x3, .f32⟩
  | 93 => ⟨S2x2x4096x1x1, .f32⟩
  | 94 => ⟨S2x2x4096, .f32⟩
  | 95 => ⟨S2x2x4096x1x1, .f32⟩
  | 96 => ⟨S2x2x4096, .f32⟩
  | 97 => ⟨S2x2x4096x1x1, .f32⟩
  | 98 => ⟨S2x2x4096, .f32⟩
  | 99 => ⟨S2x2x4096, .i1⟩
  | 100 => ⟨S2x2x4096, .f32⟩
  | 101 => ⟨S2x2x4096, .f32⟩
  | 102 => ⟨S2x2x4096, .f32⟩
  | 103 => ⟨S2x2x4096, .f32⟩
  | 104 => ⟨S2x2x4096, .i1⟩
  | 105 => ⟨S2x2x4096, .f32⟩
  | 106 => ⟨S2x2x4096, .f32⟩
  | 107 => ⟨S2x2x4096, .f32⟩
  | 108 => ⟨S2x2x4096, .f32⟩
  | 109 => ⟨S2x2x4096, .f32⟩
  | 110 => ⟨S2x2x4096, .f32⟩
  | 111 => ⟨S2x2x4096, .f32⟩
  | 112 => ⟨S2x2x4096, .f32⟩
  | 113 => ⟨S2x2x4096, .f32⟩
  | 114 => ⟨S2x2x4096, .f32⟩
  | 115 => ⟨S2x2x4096, .f32⟩
  | 116 => ⟨S2x2x4096, .f32⟩
  | 117 => ⟨S2x2x4096, .f32⟩
  | 118 => ⟨S2x2x4096, .f32⟩
  | 119 => ⟨S2x2x4096, .f32⟩
  | 120 => ⟨S2x2x4096, .f32⟩
  | 121 => ⟨S2x2x4096x1, .f32⟩
  | 122 => ⟨S2x2x4096x1, .f32⟩
  | 123 => ⟨S2x2x4096x1, .f32⟩
  | 124 => ⟨S2x2x4096x1, .f32⟩
  | 125 => ⟨S2x2x4096x1, .f32⟩
  | 126 => ⟨S2x2x4096x1, .f32⟩
  | 127 => ⟨S2x2x4096x1, .f32⟩
  | _ => ⟨S2x4096x3, .f32⟩

abbrev hbmTy0_3 (i : Nat) : BufTy := match i % 128 with
  | 0 => ⟨S2x2x4096x1, .f32⟩
  | 1 => ⟨S2x2x4096x1, .f32⟩
  | 2 => ⟨S2x2x4096x9, .f32⟩
  | 3 => ⟨S2x2x4096x3x3, .f32⟩
  | 4 => ⟨S2x2x4096x3x3, .f32⟩
  | 5 => ⟨S2x2x4096x3x3, .f32⟩
  | 6 => ⟨S2x2x4096x3x3, .f32⟩
  | 7 => ⟨S2x2x4096x1x1, .f32⟩
  | 8 => ⟨S2x2x4096, .f32⟩
  | 9 => ⟨S2x2x4096x1x1, .f32⟩
  | 10 => ⟨S2x2x4096, .f32⟩
  | 11 => ⟨S2x2x4096x1x1, .f32⟩
  | 12 => ⟨S2x2x4096, .f32⟩
  | 13 => ⟨S2x2x4096, .i1⟩
  | 14 => ⟨S2x2x4096, .f32⟩
  | 15 => ⟨S2x2x4096, .f32⟩
  | 16 => ⟨S2x2x4096, .f32⟩
  | 17 => ⟨S2x2x4096, .f32⟩
  | 18 => ⟨S2x2x4096, .i1⟩
  | 19 => ⟨S2x2x4096, .f32⟩
  | 20 => ⟨S2x2x4096, .f32⟩
  | 21 => ⟨S2x2x4096, .f32⟩
  | 22 => ⟨S2x2x4096, .f32⟩
  | 23 => ⟨S2x2x4096, .f32⟩
  | 24 => ⟨S2x2x4096, .f32⟩
  | 25 => ⟨S2x2x4096, .f32⟩
  | 26 => ⟨S2x2x4096, .f32⟩
  | 27 => ⟨S2x2x4096, .f32⟩
  | 28 => ⟨S2x2x4096, .f32⟩
  | 29 => ⟨S2x2x4096, .f32⟩
  | 30 => ⟨S2x2x4096, .f32⟩
  | 31 => ⟨S2x2x4096, .f32⟩
  | 32 => ⟨S2x2x4096, .f32⟩
  | 33 => ⟨S2x2x4096, .f32⟩
  | 34 => ⟨S2x2x4096, .f32⟩
  | 35 => ⟨S2x2x4096x1, .f32⟩
  | 36 => ⟨S2x2x4096x1, .f32⟩
  | 37 => ⟨S2x2x4096x1, .f32⟩
  | 38 => ⟨S2x2x4096x1, .f32⟩
  | 39 => ⟨S2x2x4096x1, .f32⟩
  | 40 => ⟨S2x2x4096x1, .f32⟩
  | 41 => ⟨S2x2x4096x1, .f32⟩
  | 42 => ⟨S2x2x4096x1, .f32⟩
  | 43 => ⟨S2x2x4096x1, .f32⟩
  | 44 => ⟨S2x2x4096x9, .f32⟩
  | 45 => ⟨S2x2x4096x3x3, .f32⟩
  | 46 => ⟨S2x2x4096x3x3, .f32⟩
  | 47 => ⟨S2x2x4096x3x3, .f32⟩
  | 48 => ⟨S2x2x4096x3x3, .f32⟩
  | 49 => ⟨S2x2x4096x1x1, .f32⟩
  | 50 => ⟨S2x2x4096, .f32⟩
  | 51 => ⟨S2x2x4096x1x1, .f32⟩
  | 52 => ⟨S2x2x4096, .f32⟩
  | 53 => ⟨S2x2x4096x1x1, .f32⟩
  | 54 => ⟨S2x2x4096, .f32⟩
  | 55 => ⟨S2x2x4096, .i1⟩
  | 56 => ⟨S2x2x4096, .f32⟩
  | 57 => ⟨S2x2x4096, .f32⟩
  | 58 => ⟨S2x2x4096, .f32⟩
  | 59 => ⟨S2x2x4096, .f32⟩
  | 60 => ⟨S2x2x4096, .i1⟩
  | 61 => ⟨S2x2x4096, .f32⟩
  | 62 => ⟨S2x2x4096, .f32⟩
  | 63 => ⟨S2x2x4096, .f32⟩
  | 64 => ⟨S2x2x4096, .f32⟩
  | 65 => ⟨S2x2x4096, .f32⟩
  | 66 => ⟨S2x2x4096, .f32⟩
  | 67 => ⟨S2x2x4096, .f32⟩
  | 68 => ⟨S2x2x4096, .f32⟩
  | 69 => ⟨S2x2x4096, .f32⟩
  | 70 => ⟨S2x2x4096, .f32⟩
  | 71 => ⟨S2x2x4096, .f32⟩
  | 72 => ⟨S2x2x4096, .f32⟩
  | 73 => ⟨S2x2x4096, .f32⟩
  | 74 => ⟨S2x2x4096, .f32⟩
  | 75 => ⟨S2x2x4096, .f32⟩
  | 76 => ⟨S2x2x4096, .f32⟩
  | 77 => ⟨S2x2x4096x1, .f32⟩
  | 78 => ⟨S2x2x4096x1, .f32⟩
  | 79 => ⟨S2x2x4096x1, .f32⟩
  | 80 => ⟨S2x2x4096x1, .f32⟩
  | 81 => ⟨S2x2x4096x1, .f32⟩
  | 82 => ⟨S2x2x4096x1, .f32⟩
  | 83 => ⟨S2x2x4096x1, .f32⟩
  | 84 => ⟨S2x2x4096x1, .f32⟩
  | 85 => ⟨S2x2x4096x1, .f32⟩
  | 86 => ⟨S2x2x4096x9, .f32⟩
  | 87 => ⟨S2x2x4096x3x3, .f32⟩
  | 88 => ⟨S2x2x4096x3x3, .f32⟩
  | 89 => ⟨S2x2x4096x3x3, .f32⟩
  | 90 => ⟨S2x2x4096x3x3, .f32⟩
  | 91 => ⟨S2x2x4096x1x1, .f32⟩
  | 92 => ⟨S2x2x4096, .f32⟩
  | 93 => ⟨S2x2x4096x1x1, .f32⟩
  | 94 => ⟨S2x2x4096, .f32⟩
  | 95 => ⟨S2x2x4096x1x1, .f32⟩
  | 96 => ⟨S2x2x4096, .f32⟩
  | 97 => ⟨S2x2x4096, .i1⟩
  | 98 => ⟨S2x2x4096, .f32⟩
  | 99 => ⟨S2x2x4096, .f32⟩
  | 100 => ⟨S2x2x4096, .f32⟩
  | 101 => ⟨S2x2x4096, .f32⟩
  | 102 => ⟨S2x2x4096, .i1⟩
  | 103 => ⟨S2x2x4096, .f32⟩
  | 104 => ⟨S2x2x4096, .f32⟩
  | 105 => ⟨S2x2x4096, .f32⟩
  | 106 => ⟨S2x2x4096, .f32⟩
  | 107 => ⟨S2x2x4096, .f32⟩
  | 108 => ⟨S2x2x4096, .f32⟩
  | 109 => ⟨S2x2x4096, .f32⟩
  | 110 => ⟨S2x2x4096, .f32⟩
  | 111 => ⟨S2x2x4096, .f32⟩
  | 112 => ⟨S2x2x4096, .f32⟩
  | 113 => ⟨S2x2x4096, .f32⟩
  | 114 => ⟨S2x2x4096, .f32⟩
  | 115 => ⟨S2x2x4096, .f32⟩
  | 116 => ⟨S2x2x4096, .f32⟩
  | 117 => ⟨S2x2x4096, .f32⟩
  | 118 => ⟨S2x2x4096, .f32⟩
  | 119 => ⟨S2x2x4096x1, .f32⟩
  | 120 => ⟨S2x2x4096x1, .f32⟩
  | 121 => ⟨S2x2x4096x1, .f32⟩
  | 122 => ⟨S2x2x4096x1, .f32⟩
  | 123 => ⟨S2x2x4096x1, .f32⟩
  | 124 => ⟨S2x2x4096x1, .f32⟩
  | 125 => ⟨S2x2x4096x1, .f32⟩
  | 126 => ⟨S2x2x4096x1, .f32⟩
  | 127 => ⟨S2x2x4096x1, .f32⟩
  | _ => ⟨S2x4096x3, .f32⟩

abbrev hbmTy0_4 (i : Nat) : BufTy := match i % 128 with
  | 0 => ⟨S2x2x4096x9, .f32⟩
  | 1 => ⟨S2x2x4096x3x3, .f32⟩
  | 2 => ⟨S2x2x4096x3x3, .f32⟩
  | 3 => ⟨S2x2x4096x3x3, .f32⟩
  | 4 => ⟨S2x2x4096x3x3, .f32⟩
  | 5 => ⟨S2x2x4096x1x1, .f32⟩
  | 6 => ⟨S2x2x4096, .f32⟩
  | 7 => ⟨S2x2x4096x1x1, .f32⟩
  | 8 => ⟨S2x2x4096, .f32⟩
  | 9 => ⟨S2x2x4096x1x1, .f32⟩
  | 10 => ⟨S2x2x4096, .f32⟩
  | 11 => ⟨S2x2x4096, .i1⟩
  | 12 => ⟨S2x2x4096, .f32⟩
  | 13 => ⟨S2x2x4096, .f32⟩
  | 14 => ⟨S2x2x4096, .f32⟩
  | 15 => ⟨S2x2x4096, .f32⟩
  | 16 => ⟨S2x2x4096, .i1⟩
  | 17 => ⟨S2x2x4096, .f32⟩
  | 18 => ⟨S2x2x4096, .f32⟩
  | 19 => ⟨S2x2x4096, .f32⟩
  | 20 => ⟨S2x2x4096, .f32⟩
  | 21 => ⟨S2x2x4096, .f32⟩
  | 22 => ⟨S2x2x4096, .f32⟩
  | 23 => ⟨S2x2x4096, .f32⟩
  | 24 => ⟨S2x2x4096, .f32⟩
  | 25 => ⟨S2x2x4096, .f32⟩
  | 26 => ⟨S2x2x4096, .f32⟩
  | 27 => ⟨S2x2x4096, .f32⟩
  | 28 => ⟨S2x2x4096, .f32⟩
  | 29 => ⟨S2x2x4096, .f32⟩
  | 30 => ⟨S2x2x4096, .f32⟩
  | 31 => ⟨S2x2x4096, .f32⟩
  | 32 => ⟨S2x2x4096, .f32⟩
  | 33 => ⟨S2x2x4096x1, .f32⟩
  | 34 => ⟨S2x2x4096x1, .f32⟩
  | 35 => ⟨S2x2x4096x1, .f32⟩
  | 36 => ⟨S2x2x4096x1, .f32⟩
  | 37 => ⟨S2x2x4096x1, .f32⟩
  | 38 => ⟨S2x2x4096x1, .f32⟩
  | 39 => ⟨S2x2x4096x1, .f32⟩
  | 40 => ⟨S2x2x4096x1, .f32⟩
  | 41 => ⟨S2x2x4096x1, .f32⟩
  | 42 => ⟨S2x2x4096x9, .f32⟩
  | 43 => ⟨S2x2x4096x3x3, .f32⟩
  | 44 => ⟨S2x2x4096x3x3, .f32⟩
  | 45 => ⟨S2x2x4096x3x3, .f32⟩
  | 46 => ⟨S2x2x4096x3x3, .f32⟩
  | 47 => ⟨S2x2x4096x1x1, .f32⟩
  | 48 => ⟨S2x2x4096, .f32⟩
  | 49 => ⟨S2x2x4096x1x1, .f32⟩
  | 50 => ⟨S2x2x4096, .f32⟩
  | 51 => ⟨S2x2x4096x1x1, .f32⟩
  | 52 => ⟨S2x2x4096, .f32⟩
  | 53 => ⟨S2x2x4096, .i1⟩
  | 54 => ⟨S2x2x4096, .f32⟩
  | 55 => ⟨S2x2x4096, .f32⟩
  | 56 => ⟨S2x2x4096, .f32⟩
  | 57 => ⟨S2x2x4096, .f32⟩
  | 58 => ⟨S2x2x4096, .i1⟩
  | 59 => ⟨S2x2x4096, .f32⟩
  | 60 => ⟨S2x2x4096, .f32⟩
  | 61 => ⟨S2x2x4096, .f32⟩
  | 62 => ⟨S2x2x4096, .f32⟩
  | 63 => ⟨S2x2x4096, .f32⟩
  | 64 => ⟨S2x2x4096, .f32⟩
  | 65 => ⟨S2x2x4096, .f32⟩
  | 66 => ⟨S2x2x4096, .f32⟩
  | 67 => ⟨S2x2x4096, .f32⟩
  | 68 => ⟨S2x2x4096, .f32⟩
  | 69 => ⟨S2x2x4096, .f32⟩
  | 70 => ⟨S2x2x4096, .f32⟩
  | 71 => ⟨S2x2x4096, .f32⟩
  | 72 => ⟨S2x2x4096, .f32⟩
  | 73 => ⟨S2x2x4096, .f32⟩
  | 74 => ⟨S2x2x4096, .f32⟩
  | 75 => ⟨S2x2x4096x1, .f32⟩
  | 76 => ⟨S2x2x4096x1, .f32⟩
  | 77 => ⟨S2x2x4096x1, .f32⟩
  | 78 => ⟨S2x2x4096x1, .f32⟩
  | 79 => ⟨S2x2x4096x1, .f32⟩
  | 80 => ⟨S2x2x4096x1, .f32⟩
  | 81 => ⟨S2x2x4096x1, .f32⟩
  | 82 => ⟨S2x2x4096x1, .f32⟩
  | 83 => ⟨S2x2x4096x1, .f32⟩
  | 84 => ⟨S2x2x4096x9, .f32⟩
  | 85 => ⟨S2x2x4096x3x3, .f32⟩
  | 86 => ⟨S2x2x4096x3x3, .f32⟩
  | 87 => ⟨S2x2x4096x3x3, .f32⟩
  | 88 => ⟨S2x2x4096x3x3, .f32⟩
  | 89 => ⟨S2x2x4096x1x1, .f32⟩
  | 90 => ⟨S2x2x4096, .f32⟩
  | 91 => ⟨S2x2x4096x1x1, .f32⟩
  | 92 => ⟨S2x2x4096, .f32⟩
  | 93 => ⟨S2x2x4096x1x1, .f32⟩
  | 94 => ⟨S2x2x4096, .f32⟩
  | 95 => ⟨S2x2x4096, .i1⟩
  | 96 => ⟨S2x2x4096, .f32⟩
  | 97 => ⟨S2x2x4096, .f32⟩
  | 98 => ⟨S2x2x4096, .f32⟩
  | 99 => ⟨S2x2x4096, .f32⟩
  | 100 => ⟨S2x2x4096, .i1⟩
  | 101 => ⟨S2x2x4096, .f32⟩
  | 102 => ⟨S2x2x4096, .f32⟩
  | 103 => ⟨S2x2x4096, .f32⟩
  | 104 => ⟨S2x2x4096, .f32⟩
  | 105 => ⟨S2x2x4096, .f32⟩
  | 106 => ⟨S2x2x4096, .f32⟩
  | 107 => ⟨S2x2x4096, .f32⟩
  | 108 => ⟨S2x2x4096, .f32⟩
  | 109 => ⟨S2x2x4096, .f32⟩
  | 110 => ⟨S2x2x4096, .f32⟩
  | 111 => ⟨S2x2x4096, .f32⟩
  | 112 => ⟨S2x2x4096, .f32⟩
  | 113 => ⟨S2x2x4096, .f32⟩
  | 114 => ⟨S2x2x4096, .f32⟩
  | 115 => ⟨S2x2x4096, .f32⟩
  | 116 => ⟨S2x2x4096, .f32⟩
  | 117 => ⟨S2x2x4096x1, .f32⟩
  | 118 => ⟨S2x2x4096x1, .f32⟩
  | 119 => ⟨S2x2x4096x1, .f32⟩
  | 120 => ⟨S2x2x4096x1, .f32⟩
  | 121 => ⟨S2x2x4096x1, .f32⟩
  | 122 => ⟨S2x2x4096x1, .f32⟩
  | 123 => ⟨S2x2x4096x1, .f32⟩
  | 124 => ⟨S2x2x4096x1, .f32⟩
  | 125 => ⟨S2x2x4096x1, .f32⟩
  | 126 => ⟨S2x2x4096x9, .f32⟩
  | 127 => ⟨S2x2x4096x3x3, .f32⟩
  | _ => ⟨S2x4096x3, .f32⟩

abbrev hbmTy0_5 (i : Nat) : BufTy := match i % 128 with
  | 0 => ⟨S2x2x4096x3x3, .f32⟩
  | 1 => ⟨S2x2x4096x3x3, .f32⟩
  | 2 => ⟨S2x2x4096x3x3, .f32⟩
  | 3 => ⟨S2x2x4096x1x1, .f32⟩
  | 4 => ⟨S2x2x4096, .f32⟩
  | 5 => ⟨S2x2x4096x1x1, .f32⟩
  | 6 => ⟨S2x2x4096, .f32⟩
  | 7 => ⟨S2x2x4096x1x1, .f32⟩
  | 8 => ⟨S2x2x4096, .f32⟩
  | 9 => ⟨S2x2x4096, .i1⟩
  | 10 => ⟨S2x2x4096, .f32⟩
  | 11 => ⟨S2x2x4096, .f32⟩
  | 12 => ⟨S2x2x4096, .f32⟩
  | 13 => ⟨S2x2x4096, .f32⟩
  | 14 => ⟨S2x2x4096, .i1⟩
  | 15 => ⟨S2x2x4096, .f32⟩
  | 16 => ⟨S2x2x4096, .f32⟩
  | 17 => ⟨S2x2x4096, .f32⟩
  | 18 => ⟨S2x2x4096, .f32⟩
  | 19 => ⟨S2x2x4096, .f32⟩
  | 20 => ⟨S2x2x4096, .f32⟩
  | 21 => ⟨S2x2x4096, .f32⟩
  | 22 => ⟨S2x2x4096, .f32⟩
  | 23 => ⟨S2x2x4096, .f32⟩
  | 24 => ⟨S2x2x4096, .f32⟩
  | 25 => ⟨S2x2x4096, .f32⟩
  | 26 => ⟨S2x2x4096, .f32⟩
  | 27 => ⟨S2x2x4096, .f32⟩
  | 28 => ⟨S2x2x4096, .f32⟩
  | 29 => ⟨S2x2x4096, .f32⟩
  | 30 => ⟨S2x2x4096, .f32⟩
  | 31 => ⟨S2x2x4096x1, .f32⟩
  | 32 => ⟨S2x2x4096x1, .f32⟩
  | 33 => ⟨S2x2x4096x1, .f32⟩
  | 34 => ⟨S2x2x4096x1, .f32⟩
  | 35 => ⟨S2x2x4096x1, .f32⟩
  | 36 => ⟨S2x2x4096x1, .f32⟩
  | 37 => ⟨S2x2x4096x1, .f32⟩
  | 38 => ⟨S2x2x4096x1, .f32⟩
  | 39 => ⟨S2x2x4096x1, .f32⟩
  | 40 => ⟨S2x2x4096x9, .f32⟩
  | 41 => ⟨S2x2x4096x3x3, .f32⟩
  | 42 => ⟨S2x2x4096x3x3, .f32⟩
  | 43 => ⟨S2x2x4096x3x3, .f32⟩
  | 44 => ⟨S2x2x4096x3x3, .f32⟩
  | 45 => ⟨S2x2x4096x1x1, .f32⟩
  | 46 => ⟨S2x2x4096, .f32⟩
  | 47 => ⟨S2x2x4096x1x1, .f32⟩
  | 48 => ⟨S2x2x4096, .f32⟩
  | 49 => ⟨S2x2x4096x1x1, .f32⟩
  | 50 => ⟨S2x2x4096, .f32⟩
  | 51 => ⟨S2x2x4096, .i1⟩
  | 52 => ⟨S2x2x4096, .f32⟩
  | 53 => ⟨S2x2x4096, .f32⟩
  | 54 => ⟨S2x2x4096, .f32⟩
  | 55 => ⟨S2x2x4096, .f32⟩
  | 56 => ⟨S2x2x4096, .i1⟩
  | 57 => ⟨S2x2x4096, .f32⟩
  | 58 => ⟨S2x2x4096, .f32⟩
  | 59 => ⟨S2x2x4096, .f32⟩
  | 60 => ⟨S2x2x4096, .f32⟩
  | 61 => ⟨S2x2x4096, .f32⟩
  | 62 => ⟨S2x2x4096, .f32⟩
  | 63 => ⟨S2x2x4096, .f32⟩
  | 64 => ⟨S2x2x4096, .f32⟩
  | 65 => ⟨S2x2x4096, .f32⟩
  | 66 => ⟨S2x2x4096, .f32⟩
  | 67 => ⟨S2x2x4096, .f32⟩
  | 68 => ⟨S2x2x4096, .f32⟩
  | 69 => ⟨S2x2x4096, .f32⟩
  | 70 => ⟨S2x2x4096, .f32⟩
  | 71 => ⟨S2x2x4096, .f32⟩
  | 72 => ⟨S2x2x4096, .f32⟩
  | 73 => ⟨S2x2x4096x1, .f32⟩
  | 74 => ⟨S2x2x4096x1, .f32⟩
  | 75 => ⟨S2x2x4096x1, .f32⟩
  | 76 => ⟨S2x2x4096x1, .f32⟩
  | 77 => ⟨S2x2x4096x1, .f32⟩
  | 78 => ⟨S2x2x4096x1, .f32⟩
  | 79 => ⟨S2x2x4096x1, .f32⟩
  | 80 => ⟨S2x2x4096x1, .f32⟩
  | 81 => ⟨S2x2x4096x1, .f32⟩
  | 82 => ⟨S2x2x4096x9, .f32⟩
  | 83 => ⟨S2x2x4096x3x3, .f32⟩
  | 84 => ⟨S2x2x4096x3x3, .f32⟩
  | 85 => ⟨S2x2x4096x3x3, .f32⟩
  | 86 => ⟨S2x2x4096x3x3, .f32⟩
  | 87 => ⟨S2x2x4096x1x1, .f32⟩
  | 88 => ⟨S2x2x4096, .f32⟩
  | 89 => ⟨S2x2x4096x1x1, .f32⟩
  | 90 => ⟨S2x2x4096, .f32⟩
  | 91 => ⟨S2x2x4096x1x1, .f32⟩
  | 92 => ⟨S2x2x4096, .f32⟩
  | 93 => ⟨S2x2x4096, .i1⟩
  | 94 => ⟨S2x2x4096, .f32⟩
  | 95 => ⟨S2x2x4096, .f32⟩
  | 96 => ⟨S2x2x4096, .f32⟩
  | 97 => ⟨S2x2x4096, .f32⟩
  | 98 => ⟨S2x2x4096, .i1⟩
  | 99 => ⟨S2x2x4096, .f32⟩
  | 100 => ⟨S2x2x4096, .f32⟩
  | 101 => ⟨S2x2x4096, .f32⟩
  | 102 => ⟨S2x2x4096, .f32⟩
  | 103 => ⟨S2x2x4096, .f32⟩
  | 104 => ⟨S2x2x4096, .f32⟩
  | 105 => ⟨S2x2x4096, .f32⟩
  | 106 => ⟨S2x2x4096, .f32⟩
  | 107 => ⟨S2x2x4096, .f32⟩
  | 108 => ⟨S2x2x4096, .f32⟩
  | 109 => ⟨S2x2x4096, .f32⟩
  | 110 => ⟨S2x2x4096, .f32⟩
  | 111 => ⟨S2x2x4096, .f32⟩
  | 112 => ⟨S2x2x4096, .f32⟩
  | 113 => ⟨S2x2x4096, .f32⟩
  | 114 => ⟨S2x2x4096, .f32⟩
  | 115 => ⟨S2x2x4096x1, .f32⟩
  | 116 => ⟨S2x2x4096x1, .f32⟩
  | 117 => ⟨S2x2x4096x1, .f32⟩
  | 118 => ⟨S2x2x4096x1, .f32⟩
  | 119 => ⟨S2x2x4096x1, .f32⟩
  | 120 => ⟨S2x2x4096x1, .f32⟩
  | 121 => ⟨S2x2x4096x1, .f32⟩
  | 122 => ⟨S2x2x4096x1, .f32⟩
  | 123 => ⟨S2x2x4096x1, .f32⟩
  | 124 => ⟨S2x2x4096x9, .f32⟩
  | 125 => ⟨S2x2x4096x3x3, .f32⟩
  | 126 => ⟨S2x2x4096x3x3, .f32⟩
  | 127 => ⟨S2x2x4096x3x3, .f32⟩
  | _ => ⟨S2x4096x3, .f32⟩

abbrev hbmTy0_6 (i : Nat) : BufTy := match i % 128 with
  | 0 => ⟨S2x2x4096x3x3, .f32⟩
  | 1 => ⟨S2x2x4096x1x1, .f32⟩
  | 2 => ⟨S2x2x4096, .f32⟩
  | 3 => ⟨S2x2x4096x1x1, .f32⟩
  | 4 => ⟨S2x2x4096, .f32⟩
  | 5 => ⟨S2x2x4096x1x1, .f32⟩
  | 6 => ⟨S2x2x4096, .f32⟩
  | 7 => ⟨S2x2x4096, .i1⟩
  | 8 => ⟨S2x2x4096, .f32⟩
  | 9 => ⟨S2x2x4096, .f32⟩
  | 10 => ⟨S2x2x4096, .f32⟩
  | 11 => ⟨S2x2x4096, .f32⟩
  | 12 => ⟨S2x2x4096, .i1⟩
  | 13 => ⟨S2x2x4096, .f32⟩
  | 14 => ⟨S2x2x4096, .f32⟩
  | 15 => ⟨S2x2x4096, .f32⟩
  | 16 => ⟨S2x2x4096, .f32⟩
  | 17 => ⟨S2x2x4096, .f32⟩
  | 18 => ⟨S2x2x4096, .f32⟩
  | 19 => ⟨S2x2x4096, .f32⟩
  | 20 => ⟨S2x2x4096, .f32⟩
  | 21 => ⟨S2x2x4096, .f32⟩
  | 22 => ⟨S2x2x4096, .f32⟩
  | 23 => ⟨S2x2x4096, .f32⟩
  | 24 => ⟨S2x2x4096, .f32⟩
  | 25 => ⟨S2x2x4096, .f32⟩
  | 26 => ⟨S2x2x4096, .f32⟩
  | 27 => ⟨S2x2x4096, .f32⟩
  | 28 => ⟨S2x2x4096, .f32⟩
  | 29 => ⟨S2x2x4096x1, .f32⟩
  | 30 => ⟨S2x2x4096x1, .f32⟩
  | 31 => ⟨S2x2x4096x1, .f32⟩
  | 32 => ⟨S2x2x4096x1, .f32⟩
  | 33 => ⟨S2x2x4096x1, .f32⟩
  | 34 => ⟨S2x2x4096x1, .f32⟩
  | 35 => ⟨S2x2x4096x1, .f32⟩
  | 36 => ⟨S2x2x4096x1, .f32⟩
  | 37 => ⟨S2x2x4096x1, .f32⟩
  | 38 => ⟨S2x2x4096x9, .f32⟩
  | 39 => ⟨S2x2x4096x3x3, .f32⟩
  | 40 => ⟨S2x2x4096x3x3, .f32⟩
  | 41 => ⟨S2x2x4096x3x3, .f32⟩
  | 42 => ⟨S2x2x4096x3x3, .f32⟩
  | 43 => ⟨S2x2x4096x1x1, .f32⟩
  | 44 => ⟨S2x2x4096, .f32⟩
  | 45 => ⟨S2x2x4096x1x1, .f32⟩
  | 46 => ⟨S2x2x4096, .f32⟩
  | 47 => ⟨S2x2x4096x1x1, .f32⟩
  | 48 => ⟨S2x2x4096, .f32⟩
  | 49 => ⟨S2x2x4096, .i1⟩
  | 50 => ⟨S2x2x4096, .f32⟩
  | 51 => ⟨S2x2x4096, .f32⟩
  | 52 => ⟨S2x2x4096, .f32⟩
  | 53 => ⟨S2x2x4096, .f32⟩
  | 54 => ⟨S2x2x4096, .i1⟩
  | 55 => ⟨S2x2x4096, .f32⟩
  | 56 => ⟨S2x2x4096, .f32⟩
  | 57 => ⟨S2x2x4096, .f32⟩
  | 58 => ⟨S2x2x4096, .f32⟩
  | 59 => ⟨S2x2x4096, .f32⟩
  | 60 => ⟨S2x2x4096, .f32⟩
  | 61 => ⟨S2x2x4096, .f32⟩
  | 62 => ⟨S2x2x4096, .f32⟩
  | 63 => ⟨S2x2x4096, .f32⟩
  | 64 => ⟨S2x2x4096, .f32⟩
  | 65 => ⟨S2x2x4096, .f32⟩
  | 66 => ⟨S2x2x4096, .f32⟩
  | 67 => ⟨S2x2x4096, .f32⟩
  | 68 => ⟨S2x2x4096, .f32⟩
  | 69 => ⟨S2x2x4096, .f32⟩
  | 70 => ⟨S2x2x4096, .f32⟩
  | 71 => ⟨S2x2x4096x1, .f32⟩
  | 72 => ⟨S2x2x4096x1, .f32⟩
  | 73 => ⟨S2x2x4096x1, .f32⟩
  | 74 => ⟨S2x2x4096x1, .f32⟩
  | 75 => ⟨S2x2x4096x1, .f32⟩
  | 76 => ⟨S2x2x4096x1, .f32⟩
  | 77 => ⟨S2x2x4096x1, .f32⟩
  | 78 => ⟨S2x2x4096x1, .f32⟩
  | 79 => ⟨S2x2x4096x1, .f32⟩
  | 80 => ⟨S2x2x4096x9, .f32⟩
  | 81 => ⟨S2x2x4096x3x3, .f32⟩
  | 82 => ⟨S2x2x4096x3x3, .f32⟩
  | 83 => ⟨S2x2x4096x3x3, .f32⟩
  | 84 => ⟨S2x2x4096x3x3, .f32⟩
  | 85 => ⟨S2x2x4096x1x1, .f32⟩
  | 86 => ⟨S2x2x4096, .f32⟩
  | 87 => ⟨S2x2x4096x1x1, .f32⟩
  | 88 => ⟨S2x2x4096, .f32⟩
  | 89 => ⟨S2x2x4096x1x1, .f32⟩
  | 90 => ⟨S2x2x4096, .f32⟩
  | 91 => ⟨S2x2x4096, .i1⟩
  | 92 => ⟨S2x2x4096, .f32⟩
  | 93 => ⟨S2x2x4096, .f32⟩
  | 94 => ⟨S2x2x4096, .f32⟩
  | 95 => ⟨S2x2x4096, .f32⟩
  | 96 => ⟨S2x2x4096, .i1⟩
  | 97 => ⟨S2x2x4096, .f32⟩
  | 98 => ⟨S2x2x4096, .f32⟩
  | 99 => ⟨S2x2x4096, .f32⟩
  | 100 => ⟨S2x2x4096, .f32⟩
  | 101 => ⟨S2x2x4096, .f32⟩
  | 102 => ⟨S2x2x4096, .f32⟩
  | 103 => ⟨S2x2x4096, .f32⟩
  | 104 => ⟨S2x2x4096, .f32⟩
  | 105 => ⟨S2x2x4096, .f32⟩
  | 106 => ⟨S2x2x4096, .f32⟩
  | 107 => ⟨S2x2x4096, .f32⟩
  | 108 => ⟨S2x2x4096, .f32⟩
  | 109 => ⟨S2x2x4096, .f32⟩
  | 110 => ⟨S2x2x4096, .f32⟩
  | 111 => ⟨S2x2x4096, .f32⟩
  | 112 => ⟨S2x2x4096, .f32⟩
  | 113 => ⟨S2x2x4096x1, .f32⟩
  | 114 => ⟨S2x2x4096x1, .f32⟩
  | 115 => ⟨S2x2x4096x1, .f32⟩
  | 116 => ⟨S2x2x4096x1, .f32⟩
  | 117 => ⟨S2x2x4096x1, .f32⟩
  | 118 => ⟨S2x2x4096x1, .f32⟩
  | 119 => ⟨S2x2x4096x1, .f32⟩
  | 120 => ⟨S2x2x4096x1, .f32⟩
  | 121 => ⟨S2x2x4096x1, .f32⟩
  | 122 => ⟨S2x2x4096x9, .f32⟩
  | 123 => ⟨S2x2x4096x3x3, .f32⟩
  | 124 => ⟨S2x2x4096x3x3, .f32⟩
  | 125 => ⟨S2x2x4096x3x3, .f32⟩
  | 126 => ⟨S2x2x4096x3x3, .f32⟩
  | 127 => ⟨S2x2x4096x1x1, .f32⟩
  | _ => ⟨S2x4096x3, .f32⟩

abbrev hbmTy0_7 (i : Nat) : BufTy := match i % 128 with
  | 0 => ⟨S2x2x4096, .f32⟩
  | 1 => ⟨S2x2x4096x1x1, .f32⟩
  | 2 => ⟨S2x2x4096, .f32⟩
  | 3 => ⟨S2x2x4096x1x1, .f32⟩
  | 4 => ⟨S2x2x4096, .f32⟩
  | 5 => ⟨S2x2x4096, .i1⟩
  | 6 => ⟨S2x2x4096, .f32⟩
  | 7 => ⟨S2x2x4096, .f32⟩
  | 8 => ⟨S2x2x4096, .f32⟩
  | 9 => ⟨S2x2x4096, .f32⟩
  | 10 => ⟨S2x2x4096, .i1⟩
  | 11 => ⟨S2x2x4096, .f32⟩
  | 12 => ⟨S2x2x4096, .f32⟩
  | 13 => ⟨S2x2x4096, .f32⟩
  | 14 => ⟨S2x2x4096, .f32⟩
  | 15 => ⟨S2x2x4096, .f32⟩
  | 16 => ⟨S2x2x4096, .f32⟩
  | 17 => ⟨S2x2x4096, .f32⟩
  | 18 => ⟨S2x2x4096, .f32⟩
  | 19 => ⟨S2x2x4096, .f32⟩
  | 20 => ⟨S2x2x4096, .f32⟩
  | 21 => ⟨S2x2x4096, .f32⟩
  | 22 => ⟨S2x2x4096, .f32⟩
  | 23 => ⟨S2x2x4096, .f32⟩
  | 24 => ⟨S2x2x4096, .f32⟩
  | 25 => ⟨S2x2x4096, .f32⟩
  | 26 => ⟨S2x2x4096, .f32⟩
  | 27 => ⟨S2x2x4096x1, .f32⟩
  | 28 => ⟨S2x2x4096x1, .f32⟩
  | 29 => ⟨S2x2x4096x1, .f32⟩
  | 30 => ⟨S2x2x4096x1, .f32⟩
  | 31 => ⟨S2x2x4096x1, .f32⟩
  | 32 => ⟨S2x2x4096x1, .f32⟩
  | 33 => ⟨S2x2x4096x1, .f32⟩
  | 34 => ⟨S2x2x4096x1, .f32⟩
  | 35 => ⟨S2x2x4096x1, .f32⟩
  | 36 => ⟨S2x2x4096x9, .f32⟩
  | 37 => ⟨S2x2x4096x3x3, .f32⟩
  | 38 => ⟨S2x2x4096x3x3, .f32⟩
  | 39 => ⟨S2x2x4096x3x3, .f32⟩
  | 40 => ⟨S2x2x4096x3x3, .f32⟩
  | 41 => ⟨S2x2x4096x1x1, .f32⟩
  | 42 => ⟨S2x2x4096, .f32⟩
  | 43 => ⟨S2x2x4096x1x1, .f32⟩
  | 44 => ⟨S2x2x4096, .f32⟩
  | 45 => ⟨S2x2x4096x1x1, .f32⟩
  | 46 => ⟨S2x2x4096, .f32⟩
  | 47 => ⟨S2x2x4096x1, .f32⟩
  | 48 => ⟨S2x2x4096x1, .f32⟩
  | 49 => ⟨S2x2x4096x1, .f32⟩
  | 50 => ⟨S2x2x4096x3, .f32⟩
  | 51 => ⟨S_, .f32⟩
  | 52 => ⟨S2x2x4096x3, .f32⟩
  | 53 => ⟨S2x2x4096x3, .f32⟩
  | 54 => ⟨S2x2x4096x3, .f32⟩
  | 55 => ⟨S2x2x4096x1x3, .f32⟩
  | 56 => ⟨S2x2x4096x3x3, .f32⟩
  | 57 => ⟨S2x2x4096x3x3, .f32⟩
  | 58 => ⟨S2x2x4096x3x3, .f32⟩
  | 59 => ⟨S_, .f32⟩
  | 60 => ⟨S2x2x4096, .f32⟩
  | 61 => ⟨S_, .f32⟩
  | 62 => ⟨S2x2x4096, .f32⟩
  | 63 => ⟨S2x2x4096, .f32⟩
  | 64 => ⟨S_, .f32⟩
  | 65 => ⟨S2x2x4096, .f32⟩
  | 66 => ⟨S2x2x4096, .f32⟩
  | 67 => ⟨S3x3, .i32⟩
  | 68 => ⟨S3x3, .i32⟩
  | 69 => ⟨S_, .i32⟩
  | 70 => ⟨S3x3, .i32⟩
  | 71 => ⟨S3x3, .i32⟩
  | 72 => ⟨S3x3, .i1⟩
  | 73 => ⟨S3x3, .f32⟩
  | 74 => ⟨S2x2x4096x3x3, .f32⟩
  | 75 => ⟨S2x2x4096x1x1, .f32⟩
  | 76 => ⟨S2x2x4096, .f32⟩
  | 77 => ⟨S2x2x4096x1x1, .f32⟩
  | 78 => ⟨S2x2x4096, .f32⟩
  | 79 => ⟨S2x2x4096x1x1, .f32⟩
  | 80 => ⟨S2x2x4096, .f32⟩
  | 81 => ⟨S2x2x4096, .i1⟩
  | 82 => ⟨S2x2x4096, .f32⟩
  | 83 => ⟨S2x2x4096, .f32⟩
  | 84 => ⟨S2x2x4096, .f32⟩
  | 85 => ⟨S2x2x4096, .f32⟩
  | 86 => ⟨S2x2x4096, .i1⟩
  | 87 => ⟨S2x2x4096, .f32⟩
  | 88 => ⟨S2x2x4096, .f32⟩
  | 89 => ⟨S2x2x4096, .f32⟩
  | 90 => ⟨S2x2x4096, .f32⟩
  | 91 => ⟨S2x2x4096, .f32⟩
  | 92 => ⟨S2x2x4096, .f32⟩
  | 93 => ⟨S2x2x4096, .f32⟩
  | 94 => ⟨S2x2x4096, .f32⟩
  | 95 => ⟨S2x2x4096, .f32⟩
  | 96 => ⟨S2x2x4096, .f32⟩
  | 97 => ⟨S2x2x4096, .f32⟩
  | 98 => ⟨S2x2x4096, .f32⟩
  | 99 => ⟨S2x2x4096, .f32⟩
  | 100 => ⟨S2x2x4096, .f32⟩
  | 101 => ⟨S2x2x4096, .f32⟩
  | 102 => ⟨S2x2x4096, .f32⟩
  | 103 => ⟨S2x2x4096x1, .f32⟩
  | 104 => ⟨S2x2x4096x1, .f32⟩
  | 105 => ⟨S2x2x4096x1, .f32⟩
  | 106 => ⟨S2x2x4096x1, .f32⟩
  | 107 => ⟨S2x2x4096x1, .f32⟩
  | 108 => ⟨S2x2x4096x1, .f32⟩
  | 109 => ⟨S2x2x4096x1, .f32⟩
  | 110 => ⟨S2x2x4096x1, .f32⟩
  | 111 => ⟨S2x2x4096x1, .f32⟩
  | 112 => ⟨S2x2x4096x9, .f32⟩
  | 113 => ⟨S2x2x4096x3x3, .f32⟩
  | 114 => ⟨S2x2x4096x3x3, .f32⟩
  | 115 => ⟨S2x2x4096x3x3, .f32⟩
  | 116 => ⟨S2x2x4096x3x3, .f32⟩
  | 117 => ⟨S2x2x4096x1x1, .f32⟩
  | 118 => ⟨S2x2x4096, .f32⟩
  | 119 => ⟨S2x2x4096x1x1, .f32⟩
  | 120 => ⟨S2x2x4096, .f32⟩
  | 121 => ⟨S2x2x4096x1x1, .f32⟩
  | 122 => ⟨S2x2x4096, .f32⟩
  | 123 => ⟨S2x2x4096, .i1⟩
  | 124 => ⟨S2x2x4096, .f32⟩
  | 125 => ⟨S2x2x4096, .f32⟩
  | 126 => ⟨S2x2x4096, .f32⟩
  | 127 => ⟨S2x2x4096, .f32⟩
  | _ => ⟨S2x4096x3, .f32⟩

abbrev hbmTy0_8 (i : Nat) : BufTy := match i % 128 with
  | 0 => ⟨S2x2x4096, .i1⟩
  | 1 => ⟨S2x2x4096, .f32⟩
  | 2 => ⟨S2x2x4096, .f32⟩
  | 3 => ⟨S2x2x4096, .f32⟩
  | 4 => ⟨S2x2x4096, .f32⟩
  | 5 => ⟨S2x2x4096, .f32⟩
  | 6 => ⟨S2x2x4096, .f32⟩
  | 7 => ⟨S2x2x4096, .f32⟩
  | 8 => ⟨S2x2x4096, .f32⟩
  | 9 => ⟨S2x2x4096, .f32⟩
  | 10 => ⟨S2x2x4096, .f32⟩
  | 11 => ⟨S2x2x4096, .f32⟩
  | 12 => ⟨S2x2x4096, .f32⟩
  | 13 => ⟨S2x2x4096, .f32⟩
  | 14 => ⟨S2x2x4096, .f32⟩
  | 15 => ⟨S2x2x4096, .f32⟩
  | 16 => ⟨S2x2x4096, .f32⟩
  | 17 => ⟨S2x2x4096x1, .f32⟩
  | 18 => ⟨S2x2x4096x1, .f32⟩
  | 19 => ⟨S2x2x4096x1, .f32⟩
  | 20 => ⟨S2x2x4096x1, .f32⟩
  | 21 => ⟨S2x2x4096x1, .f32⟩
  | 22 => ⟨S2x2x4096x1, .f32⟩
  | 23 => ⟨S2x2x4096x1, .f32⟩
  | 24 => ⟨S2x2x4096x1, .f32⟩
  | 25 => ⟨S2x2x4096x1, .f32⟩
  | 26 => ⟨S2x2x4096x9, .f32⟩
  | 27 => ⟨S2x2x4096x3x3, .f32⟩
  | 28 => ⟨S2x2x4096x3x3, .f32⟩
  | 29 => ⟨S2x2x4096x3x3, .f32⟩
  | 30 => ⟨S2x2x4096x3x3, .f32⟩
  | 31 => ⟨S2x2x4096x1x1, .f32⟩
  | 32 => ⟨S2x2x4096, .f32⟩
  | 33 => ⟨S2x2x4096x1x1, .f32⟩
  | 34 => ⟨S2x2x4096, .f32⟩
  | 35 => ⟨S2x2x4096x1x1, .f32⟩
  | 36 => ⟨S2x2x4096, .f32⟩
  | 37 => ⟨S2x2x4096, .i1⟩
  | 38 => ⟨S2x2x4096, .f32⟩
  | 39 => ⟨S2x2x4096, .f32⟩
  | 40 => ⟨S2x2x4096, .f32⟩
  | 41 => ⟨S2x2x4096, .f32⟩
  | 42 => ⟨S2x2x4096, .i1⟩
  | 43 => ⟨S2x2x4096, .f32⟩
  | 44 => ⟨S2x2x4096, .f32⟩
  | 45 => ⟨S2x2x4096, .f32⟩
  | 46 => ⟨S2x2x4096, .f32⟩
  | 47 => ⟨S2x2x4096, .f32⟩
  | 48 => ⟨S2x2x4096, .f32⟩
  | 49 => ⟨S2x2x4096, .f32⟩
  | 50 => ⟨S2x2x4096, .f32⟩
  | 51 => ⟨S2x2x4096, .f32⟩
  | 52 => ⟨S2x2x4096, .f32⟩
  | 53 => ⟨S2x2x4096, .f32⟩
  | 54 => ⟨S2x2x4096, .f32⟩
  | 55 => ⟨S2x2x4096, .f32⟩
  | 56 => ⟨S2x2x4096, .f32⟩
  | 57 => ⟨S2x2x4096, .f32⟩
  | 58 => ⟨S2x2x4096, .f32⟩
  | 59 => ⟨S2x2x4096x1, .f32⟩
  | 60 => ⟨S2x2x4096x1, .f32⟩
  | 61 => ⟨S2x2x4096x1, .f32⟩
  | 62 => ⟨S2x2x4096x1, .f32⟩
  | 63 => ⟨S2x2x4096x1, .f32⟩
  | 64 => ⟨S2x2x4096x1, .f32⟩
  | 65 => ⟨S2x2x4096x1, .f32⟩
  | 66 => ⟨S2x2x4096x1, .f32⟩
  | 67 => ⟨S2x2x4096x1, .f32⟩
  | 68 => ⟨S2x2x4096x9, .f32⟩
  | 69 => ⟨S2x2x4096x3x3, .f32⟩
  | 70 => ⟨S2x2x4096x3x3, .f32⟩
  | 71 => ⟨S2x2x4096x3x3, .f32⟩
  | 72 => ⟨S2x2x4096x3x3, .f32⟩
  | 73 => ⟨S2x2x4096x1x1, .f32⟩
  | 74 => ⟨S2x2x4096, .f32⟩
  | 75 => ⟨S2x2x4096x1x1, .f32⟩
  | 76 => ⟨S2x2x4096, .f32⟩
  | 77 => ⟨S2x2x4096x1x1, .f32⟩
  | 78 => ⟨S2x2x4096, .f32⟩
  | 79 => ⟨S2x2x4096, .i1⟩
  | 80 => ⟨S2x2x4096, .f32⟩
  | 81 => ⟨S2x2x4096, .f32⟩
  | 82 => ⟨S2x2x4096, .f32⟩
  | 83 => ⟨S2x2x4096, .f32⟩
  | 84 => ⟨S2x2x4096, .i1⟩
  | 85 => ⟨S2x2x4096, .f32⟩
  | 86 => ⟨S2x2x4096, .f32⟩
  | 87 => ⟨S2x2x4096, .f32⟩
  | 88 => ⟨S2x2x4096, .f32⟩
  | 89 => ⟨S2x2x4096, .f32⟩
  | 90 => ⟨S2x2x4096, .f32⟩
  | 91 => ⟨S2x2x4096, .f32⟩
  | 92 => ⟨S2x2x4096, .f32⟩
  | 93 => ⟨S2x2x4096, .f32⟩
  | 94 => ⟨S2x2x4096, .f32⟩
  | 95 => ⟨S2x2x4096, .f32⟩
  | 96 => ⟨S2x2x4096, .f32⟩
  | 97 => ⟨S2x2x4096, .f32⟩
  | 98 => ⟨S2x2x4096, .f32⟩
  | 99 => ⟨S2x2x4096, .f32⟩
  | 100 => ⟨S2x2x4096, .f32⟩
  | 101 => ⟨S2x2x4096x1, .f32⟩
  | 102 => ⟨S2x2x4096x1, .f32⟩
  | 103 => ⟨S2x2x4096x1, .f32⟩
  | 104 => ⟨S2x2x4096x1, .f32⟩
  | 105 => ⟨S2x2x4096x1, .f32⟩
  | 106 => ⟨S2x2x4096x1, .f32⟩
  | 107 => ⟨S2x2x4096x1, .f32⟩
  | 108 => ⟨S2x2x4096x1, .f32⟩
  | 109 => ⟨S2x2x4096x1, .f32⟩
  | 110 => ⟨S2x2x4096x9, .f32⟩
  | 111 => ⟨S2x2x4096x3x3, .f32⟩
  | 112 => ⟨S2x2x4096x3x3, .f32⟩
  | 113 => ⟨S2x2x4096x3x3, .f32⟩
  | 114 => ⟨S2x2x4096x3x3, .f32⟩
  | 115 => ⟨S2x2x4096x1x1, .f32⟩
  | 116 => ⟨S2x2x4096, .f32⟩
  | 117 => ⟨S2x2x4096x1x1, .f32⟩
  | 118 => ⟨S2x2x4096, .f32⟩
  | 119 => ⟨S2x2x4096x1x1, .f32⟩
  | 120 => ⟨S2x2x4096, .f32⟩
  | 121 => ⟨S2x2x4096, .i1⟩
  | 122 => ⟨S2x2x4096, .f32⟩
  | 123 => ⟨S2x2x4096, .f32⟩
  | 124 => ⟨S2x2x4096, .f32⟩
  | 125 => ⟨S2x2x4096, .f32⟩
  | 126 => ⟨S2x2x4096, .i1⟩
  | 127 => ⟨S2x2x4096, .f32⟩
  | _ => ⟨S2x4096x3, .f32⟩

abbrev hbmTy0_9 (i : Nat) : BufTy := match i % 128 with
  | 0 => ⟨S2x2x4096, .f32⟩
  | 1 => ⟨S2x2x4096, .f32⟩
  | 2 => ⟨S2x2x4096, .f32⟩
  | 3 => ⟨S2x2x4096, .f32⟩
  | 4 => ⟨S2x2x4096, .f32⟩
  | 5 => ⟨S2x2x4096, .f32⟩
  | 6 => ⟨S2x2x4096, .f32⟩
  | 7 => ⟨S2x2x4096, .f32⟩
  | 8 => ⟨S2x2x4096, .f32⟩
  | 9 => ⟨S2x2x4096, .f32⟩
  | 10 => ⟨S2x2x4096, .f32⟩
  | 11 => ⟨S2x2x4096, .f32⟩
  | 12 => ⟨S2x2x4096, .f32⟩
  | 13 => ⟨S2x2x4096, .f32⟩
  | 14 => ⟨S2x2x4096, .f32⟩
  | 15 => ⟨S2x2x4096x1, .f32⟩
  | 16 => ⟨S2x2x4096x1, .f32⟩
  | 17 => ⟨S2x2x4096x1, .f32⟩
  | 18 => ⟨S2x2x4096x1, .f32⟩
  | 19 => ⟨S2x2x4096x1, .f32⟩
  | 20 => ⟨S2x2x4096x1, .f32⟩
  | 21 => ⟨S2x2x4096x1, .f32⟩
  | 22 => ⟨S2x2x4096x1, .f32⟩
  | 23 => ⟨S2x2x4096x1, .f32⟩
  | 24 => ⟨S2x2x4096x9, .f32⟩
  | 25 => ⟨S2x2x4096x3x3, .f32⟩
  | 26 => ⟨S2x2x4096x3x3, .f32⟩
  | 27 => ⟨S2x2x4096x3x3, .f32⟩
  | 28 => ⟨S2x2x4096x3x3, .f32⟩
  | 29 => ⟨S2x2x4096x1x1, .f32⟩
  | 30 => ⟨S2x2x4096, .f32⟩
  | 31 => ⟨S2x2x4096x1x1, .f32⟩
  | 32 => ⟨S2x2x4096, .f32⟩
  | 33 => ⟨S2x2x4096x1x1, .f32⟩
  | 34 => ⟨S2x2x4096, .f32⟩
  | 35 => ⟨S2x2x4096, .i1⟩
  | 36 => ⟨S2x2x4096, .f32⟩
  | 37 => ⟨S2x2x4096, .f32⟩
  | 38 => ⟨S2x2x4096, .f32⟩
  | 39 => ⟨S2x2x4096, .f32⟩
  | 40 => ⟨S2x2x4096, .i1⟩
  | 41 => ⟨S2x2x4096, .f32⟩
  | 42 => ⟨S2x2x4096, .f32⟩
  | 43 => ⟨S2x2x4096, .f32⟩
  | 44 => ⟨S2x2x4096, .f32⟩
  | 45 => ⟨S2x2x4096, .f32⟩
  | 46 => ⟨S2x2x4096, .f32⟩
  | 47 => ⟨S2x2x4096, .f32⟩
  | 48 => ⟨S2x2x4096, .f32⟩
  | 49 => ⟨S2x2x4096, .f32⟩
  | 50 => ⟨S2x2x4096, .f32⟩
  | 51 => ⟨S2x2x4096, .f32⟩
  | 52 => ⟨S2x2x4096, .f32⟩
  | 53 => ⟨S2x2x4096, .f32⟩
  | 54 => ⟨S2x2x4096, .f32⟩
  | 55 => ⟨S2x2x4096, .f32⟩
  | 56 => ⟨S2x2x4096, .f32⟩
  | 57 => ⟨S2x2x4096x1, .f32⟩
  | 58 => ⟨S2x2x4096x1, .f32⟩
  | 59 => ⟨S2x2x4096x1, .f32⟩
  | 60 => ⟨S2x2x4096x1, .f32⟩
  | 61 => ⟨S2x2x4096x1, .f32⟩
  | 62 => ⟨S2x2x4096x1, .f32⟩
  | 63 => ⟨S2x2x4096x1, .f32⟩
  | 64 => ⟨S2x2x4096x1, .f32⟩
  | 65 => ⟨S2x2x4096x1, .f32⟩
  | 66 => ⟨S2x2x4096x9, .f32⟩
  | 67 => ⟨S2x2x4096x3x3, .f32⟩
  | 68 => ⟨S2x2x4096x3x3, .f32⟩
  | 69 => ⟨S2x2x4096x3x3, .f32⟩
  | 70 => ⟨S2x2x4096x3x3, .f32⟩
  | 71 => ⟨S2x2x4096x1x1, .f32⟩
  | 72 => ⟨S2x2x4096, .f32⟩
  | 73 => ⟨S2x2x4096x1x1, .f32⟩
  | 74 => ⟨S2x2x4096, .f32⟩
  | 75 => ⟨S2x2x4096x1x1, .f32⟩
  | 76 => ⟨S2x2x4096, .f32⟩
  | 77 => ⟨S2x2x4096, .i1⟩
  | 78 => ⟨S2x2x4096, .f32⟩
  | 79 => ⟨S2x2x4096, .f32⟩
  | 80 => ⟨S2x2x4096, .f32⟩
  | 81 => ⟨S2x2x4096, .f32⟩
  | 82 => ⟨S2x2x4096, .i1⟩
  | 83 => ⟨S2x2x4096, .f32⟩
  | 84 => ⟨S2x2x4096, .f32⟩
  | 85 => ⟨S2x2x4096, .f32⟩
  | 86 => ⟨S2x2x4096, .f32⟩
  | 87 => ⟨S2x2x4096, .f32⟩
  | 88 => ⟨S2x2x4096, .f32⟩
  | 89 => ⟨S2x2x4096, .f32⟩
  | 90 => ⟨S2x2x4096, .f32⟩
  | 91 => ⟨S2x2x4096, .f32⟩
  | 92 => ⟨S2x2x4096, .f32⟩
  | 93 => ⟨S2x2x4096, .f32⟩
  | 94 => ⟨S2x2x4096, .f32⟩
  | 95 => ⟨S2x2x4096, .f32⟩
  | 96 => ⟨S2x2x4096, .f32⟩
  | 97 => ⟨S2x2x4096, .f32⟩
  | 98 => ⟨S2x2x4096, .f32⟩
  | 99 => ⟨S2x2x4096x1, .f32⟩
  | 100 => ⟨S2x2x4096x1, .f32⟩
  | 101 => ⟨S2x2x4096x1, .f32⟩
  | 102 => ⟨S2x2x4096x1, .f32⟩
  | 103 => ⟨S2x2x4096x1, .f32⟩
  | 104 => ⟨S2x2x4096x1, .f32⟩
  | 105 => ⟨S2x2x4096x1, .f32⟩
  | 106 => ⟨S2x2x4096x1, .f32⟩
  | 107 => ⟨S2x2x4096x1, .f32⟩
  | 108 => ⟨S2x2x4096x9, .f32⟩
  | 109 => ⟨S2x2x4096x3x3, .f32⟩
  | 110 => ⟨S2x2x4096x3x3, .f32⟩
  | 111 => ⟨S2x2x4096x3x3, .f32⟩
  | 112 => ⟨S2x2x4096x3x3, .f32⟩
  | 113 => ⟨S2x2x4096x1x1, .f32⟩
  | 114 => ⟨S2x2x4096, .f32⟩
  | 115 => ⟨S2x2x4096x1x1, .f32⟩
  | 116 => ⟨S2x2x4096, .f32⟩
  | 117 => ⟨S2x2x4096x1x1, .f32⟩
  | 118 => ⟨S2x2x4096, .f32⟩
  | 119 => ⟨S2x2x4096, .i1⟩
  | 120 => ⟨S2x2x4096, .f32⟩
  | 121 => ⟨S2x2x4096, .f32⟩
  | 122 => ⟨S2x2x4096, .f32⟩
  | 123 => ⟨S2x2x4096, .f32⟩
  | 124 => ⟨S2x2x4096, .i1⟩
  | 125 => ⟨S2x2x4096, .f32⟩
  | 126 => ⟨S2x2x4096, .f32⟩
  | 127 => ⟨S2x2x4096, .f32⟩
  | _ => ⟨S2x4096x3, .f32⟩

abbrev hbmTy0_10 (i : Nat) : BufTy := match i % 128 with
  | 0 => ⟨S2x2x4096, .f32⟩
  | 1 => ⟨S2x2x4096, .f32⟩
  | 2 => ⟨S2x2x4096, .f32⟩
  | 3 => ⟨S2x2x4096, .f32⟩
  | 4 => ⟨S2x2x4096, .f32⟩
  | 5 => ⟨S2x2x4096, .f32⟩
  | 6 => ⟨S2x2x4096, .f32⟩
  | 7 => ⟨S2x2x4096, .f32⟩
  | 8 => ⟨S2x2x4096, .f32⟩
  | 9 => ⟨S2x2x4096, .f32⟩
  | 10 => ⟨S2x2x4096, .f32⟩
  | 11 => ⟨S2x2x4096, .f32⟩
  | 12 => ⟨S2x2x4096, .f32⟩
  | 13 => ⟨S2x2x4096x1, .f32⟩
  | 14 => ⟨S2x2x4096x1, .f32⟩
  | 15 => ⟨S2x2x4096x1, .f32⟩
  | 16 => ⟨S2x2x4096x1, .f32⟩
  | 17 => ⟨S2x2x4096x1, .f32⟩
  | 18 => ⟨S2x2x4096x1, .f32⟩
  | 19 => ⟨S2x2x4096x1, .f32⟩
  | 20 => ⟨S2x2x4096x1, .f32⟩
  | 21 => ⟨S2x2x4096x1, .f32⟩
  | 22 => ⟨S2x2x4096x9, .f32⟩
  | 23 => ⟨S2x2x4096x3x3, .f32⟩
  | 24 => ⟨S2x2x4096x3x3, .f32⟩
  | 25 => ⟨S2x2x4096x3x3, .f32⟩
  | 26 => ⟨S2x2x4096x3x3, .f32⟩
  | 27 => ⟨S2x2x4096x1x1, .f32⟩
  | 28 => ⟨S2x2x4096, .f32⟩
  | 29 => ⟨S2x2x4096x1x1, .f32⟩
  | 30 => ⟨S2x2x4096, .f32⟩
  | 31 => ⟨S2x2x4096x1x1, .f32⟩
  | 32 => ⟨S2x2x4096, .f32⟩
  | 33 => ⟨S2x2x4096, .i1⟩
  | 34 => ⟨S2x2x4096, .f32⟩
  | 35 => ⟨S2x2x4096, .f32⟩
  | 36 => ⟨S2x2x4096, .f32⟩
  | 37 => ⟨S2x2x4096, .f32⟩
  | 38 => ⟨S2x2x4096, .i1⟩
  | 39 => ⟨S2x2x4096, .f32⟩
  | 40 => ⟨S2x2x4096, .f32⟩
  | 41 => ⟨S2x2x4096, .f32⟩
  | 42 => ⟨S2x2x4096, .f32⟩
  | 43 => ⟨S2x2x4096, .f32⟩
  | 44 => ⟨S2x2x4096, .f32⟩
  | 45 => ⟨S2x2x4096, .f32⟩
  | 46 => ⟨S2x2x4096, .f32⟩
  | 47 => ⟨S2x2x4096, .f32⟩
  | 48 => ⟨S2x2x4096, .f32⟩
  | 49 => ⟨S2x2x4096, .f32⟩
  | 50 => ⟨S2x2x4096, .f32⟩
  | 51 => ⟨S2x2x4096, .f32⟩
  | 52 => ⟨S2x2x4096, .f32⟩
  | 53 => ⟨S2x2x4096, .f32⟩
  | 54 => ⟨S2x2x4096, .f32⟩
  | 55 => ⟨S2x2x4096x1, .f32⟩
  | 56 => ⟨S2x2x4096x1, .f32⟩
  | 57 => ⟨S2x2x4096x1, .f32⟩
  | 58 => ⟨S2x2x4096x1, .f32⟩
  | 59 => ⟨S2x2x4096x1, .f32⟩
  | 60 => ⟨S2x2x4096x1, .f32⟩
  | 61 => ⟨S2x2x4096x1, .f32⟩
  | 62 => ⟨S2x2x4096x1, .f32⟩
  | 63 => ⟨S2x2x4096x1, .f32⟩
  | 64 => ⟨S2x2x4096x9, .f32⟩
  | 65 => ⟨S2x2x4096x3x3, .f32⟩
  | 66 => ⟨S2x2x4096x3x3, .f32⟩
  | 67 => ⟨S2x2x4096x3x3, .f32⟩
  | 68 => ⟨S2x2x4096x3x3, .f32⟩
  | 69 => ⟨S2x2x4096x1x1, .f32⟩
  | 70 => ⟨S2x2x4096, .f32⟩
  | 71 => ⟨S2x2x4096x1x1, .f32⟩
  | 72 => ⟨S2x2x4096, .f32⟩
  | 73 => ⟨S2x2x4096x1x1, .f32⟩
  | 74 => ⟨S2x2x4096, .f32⟩
  | 75 => ⟨S2x2x4096, .i1⟩
  | 76 => ⟨S2x2x4096, .f32⟩
  | 77 => ⟨S2x2x4096, .f32⟩
  | 78 => ⟨S2x2x4096, .f32⟩
  | 79 => ⟨S2x2x4096, .f32⟩
  | 80 => ⟨S2x2x4096, .i1⟩
  | 81 => ⟨S2x2x4096, .f32⟩
  | 82 => ⟨S2x2x4096, .f32⟩
  | 83 => ⟨S2x2x4096, .f32⟩
  | 84 => ⟨S2x2x4096, .f32⟩
  | 85 => ⟨S2x2x4096, .f32⟩
  | 86 => ⟨S2x2x4096, .f32⟩
  | 87 => ⟨S2x2x4096, .f32⟩
  | 88 => ⟨S2x2x4096, .f32⟩
  | 89 => ⟨S2x2x4096, .f32⟩
  | 90 => ⟨S2x2x4096, .f32⟩
  | 91 => ⟨S2x2x4096, .f32⟩
  | 92 => ⟨S2x2x4096, .f32⟩
  | 93 => ⟨S2x2x4096, .f32⟩
  | 94 => ⟨S2x2x4096, .f32⟩
  | 95 => ⟨S2x2x4096, .f32⟩
  | 96 => ⟨S2x2x4096, .f32⟩
  | 97 => ⟨S2x2x4096x1, .f32⟩
  | 98 => ⟨S2x2x4096x1, .f32⟩
  | 99 => ⟨S2x2x4096x1, .f32⟩
  | 100 => ⟨S2x2x4096x1, .f32⟩
  | 101 => ⟨S2x2x4096x1, .f32⟩
  | 102 => ⟨S2x2x4096x1, .f32⟩
  | 103 => ⟨S2x2x4096x1, .f32⟩
  | 104 => ⟨S2x2x4096x1, .f32⟩
  | 105 => ⟨S2x2x4096x1, .f32⟩
  | 106 => ⟨S2x2x4096x9, .f32⟩
  | 107 => ⟨S2x2x4096x3x3, .f32⟩
  | 108 => ⟨S2x2x4096x3x3, .f32⟩
  | 109 => ⟨S2x2x4096x3x3, .f32⟩
  | 110 => ⟨S2x2x4096x3x3, .f32⟩
  | 111 => ⟨S2x2x4096x1x1, .f32⟩
  | 112 => ⟨S2x2x4096, .f32⟩
  | 113 => ⟨S2x2x4096x1x1, .f32⟩
  | 114 => ⟨S2x2x4096, .f32⟩
  | 115 => ⟨S2x2x4096x1x1, .f32⟩
  | 116 => ⟨S2x2x4096, .f32⟩
  | 117 => ⟨S2x2x4096, .i1⟩
  | 118 => ⟨S2x2x4096, .f32⟩
  | 119 => ⟨S2x2x4096, .f32⟩
  | 120 => ⟨S2x2x4096, .f32⟩
  | 121 => ⟨S2x2x4096, .f32⟩
  | 122 => ⟨S2x2x4096, .i1⟩
  | 123 => ⟨S2x2x4096, .f32⟩
  | 124 => ⟨S2x2x4096, .f32⟩
  | 125 => ⟨S2x2x4096, .f32⟩
  | 126 => ⟨S2x2x4096, .f32⟩
  | 127 => ⟨S2x2x4096, .f32⟩
  | _ => ⟨S2x4096x3, .f32⟩

abbrev hbmTy0_11 (i : Nat) : BufTy := match i % 128 with
  | 0 => ⟨S2x2x4096, .f32⟩
  | 1 => ⟨S2x2x4096, .f32⟩
  | 2 => ⟨S2x2x4096, .f32⟩
  | 3 => ⟨S2x2x4096, .f32⟩
  | 4 => ⟨S2x2x4096, .f32⟩
  | 5 => ⟨S2x2x4096, .f32⟩
  | 6 => ⟨S2x2x4096, .f32⟩
  | 7 => ⟨S2x2x4096, .f32⟩
  | 8 => ⟨S2x2x4096, .f32⟩
  | 9 => ⟨S2x2x4096, .f32⟩
  | 10 => ⟨S2x2x4096, .f32⟩
  | 11 => ⟨S2x2x4096x1, .f32⟩
  | 12 => ⟨S2x2x4096x1, .f32⟩
  | 13 => ⟨S2x2x4096x1, .f32⟩
  | 14 => ⟨S2x2x4096x1, .f32⟩
  | 15 => ⟨S2x2x4096x1, .f32⟩
  | 16 => ⟨S2x2x4096x1, .f32⟩
  | 17 => ⟨S2x2x4096x1, .f32⟩
  | 18 => ⟨S2x2x4096x1, .f32⟩
  | 19 => ⟨S2x2x4096x1, .f32⟩
  | 20 => ⟨S2x2x4096x9, .f32⟩
  | 21 => ⟨S2x2x4096x3x3, .f32⟩
  | 22 => ⟨S2x2x4096x3x3, .f32⟩
  | 23 => ⟨S2x2x4096x3x3, .f32⟩
  | 24 => ⟨S2x2x4096x3x3, .f32⟩
  | 25 => ⟨S2x2x4096x1x1, .f32⟩
  | 26 => ⟨S2x2x4096, .f32⟩
  | 27 => ⟨S2x2x4096x1x1, .f32⟩
  | 28 => ⟨S2x2x4096, .f32⟩
  | 29 => ⟨S2x2x4096x1x1, .f32⟩
  | 30 => ⟨S2x2x4096, .f32⟩
  | 31 => ⟨S2x2x4096, .i1⟩
  | 32 => ⟨S2x2x4096, .f32⟩
  | 33 => ⟨S2x2x4096, .f32⟩
  | 34 => ⟨S2x2x4096, .f32⟩
  | 35 => ⟨S2x2x4096, .f32⟩
  | 36 => ⟨S2x2x4096, .i1⟩
  | 37 => ⟨S2x2x4096, .f32⟩
  | 38 => ⟨S2x2x4096, .f32⟩
  | 39 => ⟨S2x2x4096, .f32⟩
  | 40 => ⟨S2x2x4096, .f32⟩
  | 41 => ⟨S2x2x4096, .f32⟩
  | 42 => ⟨S2x2x4096, .f32⟩
  | 43 => ⟨S2x2x4096, .f32⟩
  | 44 => ⟨S2x2x4096, .f32⟩
  | 45 => ⟨S2x2x4096, .f32⟩
  | 46 => ⟨S2x2x4096, .f32⟩
  | 47 => ⟨S2x2x4096, .f32⟩
  | 48 => ⟨S2x2x4096, .f32⟩
  | 49 => ⟨S2x2x4096, .f32⟩
  | 50 => ⟨S2x2x4096, .f32⟩
  | 51 => ⟨S2x2x4096, .f32⟩
  | 52 => ⟨S2x2x4096, .f32⟩
  | 53 => ⟨S2x2x4096x1, .f32⟩
  | 54 => ⟨S2x2x4096x1, .f32⟩
  | 55 => ⟨S2x2x4096x1, .f32⟩
  | 56 => ⟨S2x2x4096x1, .f32⟩
  | 57 => ⟨S2x2x4096x1, .f32⟩
  | 58 => ⟨S2x2x4096x1, .f32⟩
  | 59 => ⟨S2x2x4096x1, .f32⟩
  | 60 => ⟨S2x2x4096x1, .f32⟩
  | 61 => ⟨S2x2x4096x1, .f32⟩
  | 62 => ⟨S2x2x4096x9, .f32⟩
  | 63 => ⟨S2x2x4096x3x3, .f32⟩
  | 64 => ⟨S2x2x4096x3x3, .f32⟩
  | 65 => ⟨S2x2x4096x3x3, .f32⟩
  | 66 => ⟨S2x2x4096x3x3, .f32⟩
  | 67 => ⟨S2x2x4096x1x1, .f32⟩
  | 68 => ⟨S2x2x4096, .f32⟩
  | 69 => ⟨S2x2x4096x1x1, .f32⟩
  | 70 => ⟨S2x2x4096, .f32⟩
  | 71 => ⟨S2x2x4096x1x1, .f32⟩
  | 72 => ⟨S2x2x4096, .f32⟩
  | 73 => ⟨S2x2x4096, .i1⟩
  | 74 => ⟨S2x2x4096, .f32⟩
  | 75 => ⟨S2x2x4096, .f32⟩
  | 76 => ⟨S2x2x4096, .f32⟩
  | 77 => ⟨S2x2x4096, .f32⟩
  | 78 => ⟨S2x2x4096, .i1⟩
  | 79 => ⟨S2x2x4096, .f32⟩
  | 80 => ⟨S2x2x4096, .f32⟩
  | 81 => ⟨S2x2x4096, .f32⟩
  | 82 => ⟨S2x2x4096, .f32⟩
  | 83 => ⟨S2x2x4096, .f32⟩
  | 84 => ⟨S2x2x4096, .f32⟩
  | 85 => ⟨S2x2x4096, .f32⟩
  | 86 => ⟨S2x2x4096, .f32⟩
  | 87 => ⟨S2x2x4096, .f32⟩
  | 88 => ⟨S2x2x4096, .f32⟩
  | 89 => ⟨S2x2x4096, .f32⟩
  | 90 => ⟨S2x2x4096, .f32⟩
  | 91 => ⟨S2x2x4096, .f32⟩
  | 92 => ⟨S2x2x4096, .f32⟩
  | 93 => ⟨S2x2x4096, .f32⟩
  | 94 => ⟨S2x2x4096, .f32⟩
  | 95 => ⟨S2x2x4096x1, .f32⟩
  | 96 => ⟨S2x2x4096x1, .f32⟩
  | 97 => ⟨S2x2x4096x1, .f32⟩
  | 98 => ⟨S2x2x4096x1, .f32⟩
  | 99 => ⟨S2x2x4096x1, .f32⟩
  | 100 => ⟨S2x2x4096x1, .f32⟩
  | 101 => ⟨S2x2x4096x1, .f32⟩
  | 102 => ⟨S2x2x4096x1, .f32⟩
  | 103 => ⟨S2x2x4096x1, .f32⟩
  | 104 => ⟨S2x2x4096x9, .f32⟩
  | 105 => ⟨S2x2x4096x3x3, .f32⟩
  | 106 => ⟨S2x2x4096x3x3, .f32⟩
  | 107 => ⟨S2x2x4096x3x3, .f32⟩
  | 108 => ⟨S2x2x4096x3x3, .f32⟩
  | 109 => ⟨S2x2x4096x1x1, .f32⟩
  | 110 => ⟨S2x2x4096, .f32⟩
  | 111 => ⟨S2x2x4096x1x1, .f32⟩
  | 112 => ⟨S2x2x4096, .f32⟩
  | 113 => ⟨S2x2x4096x1x1, .f32⟩
  | 114 => ⟨S2x2x4096, .f32⟩
  | 115 => ⟨S2x2x4096, .i1⟩
  | 116 => ⟨S2x2x4096, .f32⟩
  | 117 => ⟨S2x2x4096, .f32⟩
  | 118 => ⟨S2x2x4096, .f32⟩
  | 119 => ⟨S2x2x4096, .f32⟩
  | 120 => ⟨S2x2x4096, .i1⟩
  | 121 => ⟨S2x2x4096, .f32⟩
  | 122 => ⟨S2x2x4096, .f32⟩
  | 123 => ⟨S2x2x4096, .f32⟩
  | 124 => ⟨S2x2x4096, .f32⟩
  | 125 => ⟨S2x2x4096, .f32⟩
  | 126 => ⟨S2x2x4096, .f32⟩
  | 127 => ⟨S2x2x4096, .f32⟩
  | _ => ⟨S2x4096x3, .f32⟩

abbrev hbmTy0_12 (i : Nat) : BufTy := match i % 128 with
  | 0 => ⟨S2x2x4096, .f32⟩
  | 1 => ⟨S2x2x4096, .f32⟩
  | 2 => ⟨S2x2x4096, .f32⟩
  | 3 => ⟨S2x2x4096, .f32⟩
  | 4 => ⟨S2x2x4096, .f32⟩
  | 5 => ⟨S2x2x4096, .f32⟩
  | 6 => ⟨S2x2x4096, .f32⟩
  | 7 => ⟨S2x2x4096, .f32⟩
  | 8 => ⟨S2x2x4096, .f32⟩
  | 9 => ⟨S2x2x4096x1, .f32⟩
  | 10 => ⟨S2x2x4096x1, .f32⟩
  | 11 => ⟨S2x2x4096x1, .f32⟩
  | 12 => ⟨S2x2x4096x1, .f32⟩
  | 13 => ⟨S2x2x4096x1, .f32⟩
  | 14 => ⟨S2x2x4096x1, .f32⟩
  | 15 => ⟨S2x2x4096x1, .f32⟩
  | 16 => ⟨S2x2x4096x1, .f32⟩
  | 17 => ⟨S2x2x4096x1, .f32⟩
  | 18 => ⟨S2x2x4096x9, .f32⟩
  | 19 => ⟨S2x2x4096x3x3, .f32⟩
  | 20 => ⟨S2x2x4096x3x3, .f32⟩
  | 21 => ⟨S2x2x4096x3x3, .f32⟩
  | 22 => ⟨S2x2x4096x3x3, .f32⟩
  | 23 => ⟨S2x2x4096x1x1, .f32⟩
  | 24 => ⟨S2x2x4096, .f32⟩
  | 25 => ⟨S2x2x4096x1x1, .f32⟩
  | 26 => ⟨S2x2x4096, .f32⟩
  | 27 => ⟨S2x2x4096x1x1, .f32⟩
  | 28 => ⟨S2x2x4096, .f32⟩
  | 29 => ⟨S2x2x4096, .i1⟩
  | 30 => ⟨S2x2x4096, .f32⟩
  | 31 => ⟨S2x2x4096, .f32⟩
  | 32 => ⟨S2x2x4096, .f32⟩
  | 33 => ⟨S2x2x4096, .f32⟩
  | 34 => ⟨S2x2x4096, .i1⟩
  | 35 => ⟨S2x2x4096, .f32⟩
  | 36 => ⟨S2x2x4096, .f32⟩
  | 37 => ⟨S2x2x4096, .f32⟩
  | 38 => ⟨S2x2x4096, .f32⟩
  | 39 => ⟨S2x2x4096, .f32⟩
  | 40 => ⟨S2x2x4096, .f32⟩
  | 41 => ⟨S2x2x4096, .f32⟩
  | 42 => ⟨S2x2x4096, .f32⟩
  | 43 => ⟨S2x2x4096, .f32⟩
  | 44 => ⟨S2x2x4096, .f32⟩
  | 45 => ⟨S2x2x4096, .f32⟩
  | 46 => ⟨S2x2x4096, .f32⟩
  | 47 => ⟨S2x2x4096, .f32⟩
  | 48 => ⟨S2x2x4096, .f32⟩
  | 49 => ⟨S2x2x4096, .f32⟩
  | 50 => ⟨S2x2x4096, .f32⟩
  | 51 => ⟨S2x2x4096x1, .f32⟩
  | 52 => ⟨S2x2x4096x1, .f32⟩
  | 53 => ⟨S2x2x4096x1, .f32⟩
  | 54 => ⟨S2x2x4096x1, .f32⟩
  | 55 => ⟨S2x2x4096x1, .f32⟩
  | 56 => ⟨S2x2x4096x1, .f32⟩
  | 57 => ⟨S2x2x4096x1, .f32⟩
  | 58 => ⟨S2x2x4096x1, .f32⟩
  | 59 => ⟨S2x2x4096x1, .f32⟩
  | 60 => ⟨S2x2x4096x9, .f32⟩
  | 61 => ⟨S2x2x4096x3x3, .f32⟩
  | 62 => ⟨S2x2x4096x3x3, .f32⟩
  | 63 => ⟨S2x2x4096x3x3, .f32⟩
  | 64 => ⟨S2x2x4096x3x3, .f32⟩
  | 65 => ⟨S2x2x4096x1x1, .f32⟩
  | 66 => ⟨S2x2x4096, .f32⟩
  | 67 => ⟨S2x2x4096x1x1, .f32⟩
  | 68 => ⟨S2x2x4096, .f32⟩
  | 69 => ⟨S2x2x4096x1x1, .f32⟩
  | 70 => ⟨S2x2x4096, .f32⟩
  | 71 => ⟨S2x2x4096, .i1⟩
  | 72 => ⟨S2x2x4096, .f32⟩
  | 73 => ⟨S2x2x4096, .f32⟩
  | 74 => ⟨S2x2x4096, .f32⟩
  | 75 => ⟨S2x2x4096, .f32⟩
  | 76 => ⟨S2x2x4096, .i1⟩
  | 77 => ⟨S2x2x4096, .f32⟩
  | 78 => ⟨S2x2x4096, .f32⟩
  | 79 => ⟨S2x2x4096, .f32⟩
  | 80 => ⟨S2x2x4096, .f32⟩
  | 81 => ⟨S2x2x4096, .f32⟩
  | 82 => ⟨S2x2x4096, .f32⟩
  | 83 => ⟨S2x2x4096, .f32⟩
  | 84 => ⟨S2x2x4096, .f32⟩
  | 85 => ⟨S2x2x4096, .f32⟩
  | 86 => ⟨S2x2x4096, .f32⟩
  | 87 => ⟨S2x2x4096, .f32⟩
  | 88 => ⟨S2x2x4096, .f32⟩
  | 89 => ⟨S2x2x4096, .f32⟩
  | 90 => ⟨S2x2x4096, .f32⟩
  | 91 => ⟨S2x2x4096, .f32⟩
  | 92 => ⟨S2x2x4096, .f32⟩
  | 93 => ⟨S2x2x4096x1, .f32⟩
  | 94 => ⟨S2x2x4096x1, .f32⟩
  | 95 => ⟨S2x2x4096x1, .f32⟩
  | 96 => ⟨S2x2x4096x1, .f32⟩
  | 97 => ⟨S2x2x4096x1, .f32⟩
  | 98 => ⟨S2x2x4096x1, .f32⟩
  | 99 => ⟨S2x2x4096x1, .f32⟩
  | 100 => ⟨S2x2x4096x1, .f32⟩
  | 101 => ⟨S2x2x4096x1, .f32⟩
  | 102 => ⟨S2x2x4096x9, .f32⟩
  | 103 => ⟨S2x2x4096x3x3, .f32⟩
  | 104 => ⟨S2x2x4096x3x3, .f32⟩
  | 105 => ⟨S2x2x4096x3x3, .f32⟩
  | 106 => ⟨S2x2x4096x3x3, .f32⟩
  | 107 => ⟨S2x2x4096x1x1, .f32⟩
  | 108 => ⟨S2x2x4096, .f32⟩
  | 109 => ⟨S2x2x4096x1x1, .f32⟩
  | 110 => ⟨S2x2x4096, .f32⟩
  | 111 => ⟨S2x2x4096x1x1, .f32⟩
  | 112 => ⟨S2x2x4096, .f32⟩
  | 113 => ⟨S2x2x4096, .i1⟩
  | 114 => ⟨S2x2x4096, .f32⟩
  | 115 => ⟨S2x2x4096, .f32⟩
  | 116 => ⟨S2x2x4096, .f32⟩
  | 117 => ⟨S2x2x4096, .f32⟩
  | 118 => ⟨S2x2x4096, .i1⟩
  | 119 => ⟨S2x2x4096, .f32⟩
  | 120 => ⟨S2x2x4096, .f32⟩
  | 121 => ⟨S2x2x4096, .f32⟩
  | 122 => ⟨S2x2x4096, .f32⟩
  | 123 => ⟨S2x2x4096, .f32⟩
  | 124 => ⟨S2x2x4096, .f32⟩
  | 125 => ⟨S2x2x4096, .f32⟩
  | 126 => ⟨S2x2x4096, .f32⟩
  | 127 => ⟨S2x2x4096, .f32⟩
  | _ => ⟨S2x4096x3, .f32⟩

abbrev hbmTy0_13 (i : Nat) : BufTy := match i % 128 with
  | 0 => ⟨S2x2x4096, .f32⟩
  | 1 => ⟨S2x2x4096, .f32⟩
  | 2 => ⟨S2x2x4096, .f32⟩
  | 3 => ⟨S2x2x4096, .f32⟩
  | 4 => ⟨S2x2x4096, .f32⟩
  | 5 => ⟨S2x2x4096, .f32⟩
  | 6 => ⟨S2x2x4096, .f32⟩
  | 7 => ⟨S2x2x4096x1, .f32⟩
  | 8 => ⟨S2x2x4096x1, .f32⟩
  | 9 => ⟨S2x2x4096x1, .f32⟩
  | 10 => ⟨S2x2x4096x1, .f32⟩
  | 11 => ⟨S2x2x4096x1, .f32⟩
  | 12 => ⟨S2x2x4096x1, .f32⟩
  | 13 => ⟨S2x2x4096x1, .f32⟩
  | 14 => ⟨S2x2x4096x1, .f32⟩
  | 15 => ⟨S2x2x4096x1, .f32⟩
  | 16 => ⟨S2x2x4096x9, .f32⟩
  | 17 => ⟨S2x2x4096x3x3, .f32⟩
  | 18 => ⟨S2x2x4096x3x3, .f32⟩
  | 19 => ⟨S2x2x4096x3x3, .f32⟩
  | 20 => ⟨S2x2x4096x3x3, .f32⟩
  | 21 => ⟨S2x2x4096x1x1, .f32⟩
  | 22 => ⟨S2x2x4096, .f32⟩
  | 23 => ⟨S2x2x4096x1x1, .f32⟩
  | 24 => ⟨S2x2x4096, .f32⟩
  | 25 => ⟨S2x2x4096x1x1, .f32⟩
  | 26 => ⟨S2x2x4096, .f32⟩
  | 27 => ⟨S2x2x4096, .i1⟩
  | 28 => ⟨S2x2x4096, .f32⟩
  | 29 => ⟨S2x2x4096, .f32⟩
  | 30 => ⟨S2x2x4096, .f32⟩
  | 31 => ⟨S2x2x4096, .f32⟩
  | 32 => ⟨S2x2x4096, .i1⟩
  | 33 => ⟨S2x2x4096, .f32⟩
  | 34 => ⟨S2x2x4096, .f32⟩
  | 35 => ⟨S2x2x4096, .f32⟩
  | 36 => ⟨S2x2x4096, .f32⟩
  | 37 => ⟨S2x2x4096, .f32⟩
  | 38 => ⟨S2x2x4096, .f32⟩
  | 39 => ⟨S2x2x4096, .f32⟩
  | 40 => ⟨S2x2x4096, .f32⟩
  | 41 => ⟨S2x2x4096, .f32⟩
  | 42 => ⟨S2x2x4096, .f32⟩
  | 43 => ⟨S2x2x4096, .f32⟩
  | 44 => ⟨S2x2x4096, .f32⟩
  | 45 => ⟨S2x2x4096, .f32⟩
  | 46 => ⟨S2x2x4096, .f32⟩
  | 47 => ⟨S2x2x4096, .f32⟩
  | 48 => ⟨S2x2x4096, .f32⟩
  | 49 => ⟨S2x2x4096x1, .f32⟩
  | 50 => ⟨S2x2x4096x1, .f32⟩
  | 51 => ⟨S2x2x4096x1, .f32⟩
  | 52 => ⟨S2x2x4096x1, .f32⟩
  | 53 => ⟨S2x2x4096x1, .f32⟩
  | 54 => ⟨S2x2x4096x1, .f32⟩
  | 55 => ⟨S2x2x4096x1, .f32⟩
  | 56 => ⟨S2x2x4096x1, .f32⟩
  | 57 => ⟨S2x2x4096x1, .f32⟩
  | 58 => ⟨S2x2x4096x9, .f32⟩
  | 59 => ⟨S2x2x4096x3x3, .f32⟩
  | 60 => ⟨S2x2x4096x3x3, .f32⟩
  | 61 => ⟨S2x2x4096x3x3, .f32⟩
  | 62 => ⟨S2x2x4096x3x3, .f32⟩
  | 63 => ⟨S2x2x4096x1x1, .f32⟩
  | 64 => ⟨S2x2x4096, .f32⟩
  | 65 => ⟨S2x2x4096x1x1, .f32⟩
  | 66 => ⟨S2x2x4096, .f32⟩
  | 67 => ⟨S2x2x4096x1x1, .f32⟩
  | 68 => ⟨S2x2x4096, .f32⟩
  | 69 => ⟨S2x2x4096, .i1⟩
  | 70 => ⟨S2x2x4096, .f32⟩
  | 71 => ⟨S2x2x4096, .f32⟩
  | 72 => ⟨S2x2x4096, .f32⟩
  | 73 => ⟨S2x2x4096, .f32⟩
  | 74 => ⟨S2x2x4096, .i1⟩
  | 75 => ⟨S2x2x4096, .f32⟩
  | 76 => ⟨S2x2x4096, .f32⟩
  | 77 => ⟨S2x2x4096, .f32⟩
  | 78 => ⟨S2x2x4096, .f32⟩
  | 79 => ⟨S2x2x4096, .f32⟩
  | 80 => ⟨S2x2x4096, .f32⟩
  | 81 => ⟨S2x2x4096, .f32⟩
  | 82 => ⟨S2x2x4096, .f32⟩
  | 83 => ⟨S2x2x4096, .f32⟩
  | 84 => ⟨S2x2x4096, .f32⟩
  | 85 => ⟨S2x2x4096, .f32⟩
  | 86 => ⟨S2x2x4096, .f32⟩
  | 87 => ⟨S2x2x4096, .f32⟩
  | 88 => ⟨S2x2x4096, .f32⟩
  | 89 => ⟨S2x2x4096, .f32⟩
  | 90 => ⟨S2x2x4096, .f32⟩
  | 91 => ⟨S2x2x4096x1, .f32⟩
  | 92 => ⟨S2x2x4096x1, .f32⟩
  | 93 => ⟨S2x2x4096x1, .f32⟩
  | 94 => ⟨S2x2x4096x1, .f32⟩
  | 95 => ⟨S2x2x4096x1, .f32⟩
  | 96 => ⟨S2x2x4096x1, .f32⟩
  | 97 => ⟨S2x2x4096x1, .f32⟩
  | 98 => ⟨S2x2x4096x1, .f32⟩
  | 99 => ⟨S2x2x4096x1, .f32⟩
  | 100 => ⟨S2x2x4096x9, .f32⟩
  | 101 => ⟨S2x2x4096x3x3, .f32⟩
  | 102 => ⟨S2x2x4096x3x3, .f32⟩
  | 103 => ⟨S2x2x4096x3x3, .f32⟩
  | 104 => ⟨S2x2x4096x3x3, .f32⟩
  | 105 => ⟨S2x2x4096x1x1, .f32⟩
  | 106 => ⟨S2x2x4096, .f32⟩
  | 107 => ⟨S2x2x4096x1x1, .f32⟩
  | 108 => ⟨S2x2x4096, .f32⟩
  | 109 => ⟨S2x2x4096x1x1, .f32⟩
  | 110 => ⟨S2x2x4096, .f32⟩
  | 111 => ⟨S2x2x4096, .i1⟩
  | 112 => ⟨S2x2x4096, .f32⟩
  | 113 => ⟨S2x2x4096, .f32⟩
  | 114 => ⟨S2x2x4096, .f32⟩
  | 115 => ⟨S2x2x4096, .f32⟩
  | 116 => ⟨S2x2x4096, .i1⟩
  | 117 => ⟨S2x2x4096, .f32⟩
  | 118 => ⟨S2x2x4096, .f32⟩
  | 119 => ⟨S2x2x4096, .f32⟩
  | 120 => ⟨S2x2x4096, .f32⟩
  | 121 => ⟨S2x2x4096, .f32⟩
  | 122 => ⟨S2x2x4096, .f32⟩
  | 123 => ⟨S2x2x4096, .f32⟩
  | 124 => ⟨S2x2x4096, .f32⟩
  | 125 => ⟨S2x2x4096, .f32⟩
  | 126 => ⟨S2x2x4096, .f32⟩
  | 127 => ⟨S2x2x4096, .f32⟩
  | _ => ⟨S2x4096x3, .f32⟩

abbrev hbmTy0_14 (i : Nat) : BufTy := match i % 128 with
  | 0 => ⟨S2x2x4096, .f32⟩
  | 1 => ⟨S2x2x4096, .f32⟩
  | 2 => ⟨S2x2x4096, .f32⟩
  | 3 => ⟨S2x2x4096, .f32⟩
  | 4 => ⟨S2x2x4096, .f32⟩
  | 5 => ⟨S2x2x4096x1, .f32⟩
  | 6 => ⟨S2x2x4096x1, .f32⟩
  | 7 => ⟨S2x2x4096x1, .f32⟩
  | 8 => ⟨S2x2x4096x1, .f32⟩
  | 9 => ⟨S2x2x4096x1, .f32⟩
  | 10 => ⟨S2x2x4096x1, .f32⟩
  | 11 => ⟨S2x2x4096x1, .f32⟩
  | 12 => ⟨S2x2x4096x1, .f32⟩
  | 13 => ⟨S2x2x4096x1, .f32⟩
  | 14 => ⟨S2x2x4096x9, .f32⟩
  | 15 => ⟨S2x2x4096x3x3, .f32⟩
  | 16 => ⟨S2x2x4096x3x3, .f32⟩
  | 17 => ⟨S2x2x4096x3x3, .f32⟩
  | 18 => ⟨S2x2x4096x3x3, .f32⟩
  | 19 => ⟨S2x2x4096x1x1, .f32⟩
  | 20 => ⟨S2x2x4096, .f32⟩
  | 21 => ⟨S2x2x4096x1x1, .f32⟩
  | 22 => ⟨S2x2x4096, .f32⟩
  | 23 => ⟨S2x2x4096x1x1, .f32⟩
  | 24 => ⟨S2x2x4096, .f32⟩
  | 25 => ⟨S2x2x4096, .i1⟩
  | 26 => ⟨S2x2x4096, .f32⟩
  | 27 => ⟨S2x2x4096, .f32⟩
  | 28 => ⟨S2x2x4096, .f32⟩
  | 29 => ⟨S2x2x4096, .f32⟩
  | 30 => ⟨S2x2x4096, .i1⟩
  | 31 => ⟨S2x2x4096, .f32⟩
  | 32 => ⟨S2x2x4096, .f32⟩
  | 33 => ⟨S2x2x4096, .f32⟩
  | 34 => ⟨S2x2x4096, .f32⟩
  | 35 => ⟨S2x2x4096, .f32⟩
  | 36 => ⟨S2x2x4096, .f32⟩
  | 37 => ⟨S2x2x4096, .f32⟩
  | 38 => ⟨S2x2x4096, .f32⟩
  | 39 => ⟨S2x2x4096, .f32⟩
  | 40 => ⟨S2x2x4096, .f32⟩
  | 41 => ⟨S2x2x4096, .f32⟩
  | 42 => ⟨S2x2x4096, .f32⟩
  | 43 => ⟨S2x2x4096, .f32⟩
  | 44 => ⟨S2x2x4096, .f32⟩
  | 45 => ⟨S2x2x4096, .f32⟩
  | 46 => ⟨S2x2x4096, .f32⟩
  | 47 => ⟨S2x2x4096x1, .f32⟩
  | 48 => ⟨S2x2x4096x1, .f32⟩
  | 49 => ⟨S2x2x4096x1, .f32⟩
  | 50 => ⟨S2x2x4096x1, .f32⟩
  | 51 => ⟨S2x2x4096x1, .f32⟩
  | 52 => ⟨S2x2x4096x1, .f32⟩
  | 53 => ⟨S2x2x4096x1, .f32⟩
  | 54 => ⟨S2x2x4096x1, .f32⟩
  | 55 => ⟨S2x2x4096x1, .f32⟩
  | 56 => ⟨S2x2x4096x9, .f32⟩
  | 57 => ⟨S2x2x4096x3x3, .f32⟩
  | 58 => ⟨S2x2x4096x3x3, .f32⟩
  | 59 => ⟨S2x2x4096x3x3, .f32⟩
  | 60 => ⟨S2x2x4096x3x3, .f32⟩
  | 61 => ⟨S2x2x4096x1x1, .f32⟩
  | 62 => ⟨S2x2x4096, .f32⟩
  | 63 => ⟨S2x2x4096x1x1, .f32⟩
  | 64 => ⟨S2x2x4096, .f32⟩
  | 65 => ⟨S2x2x4096x1x1, .f32⟩
  | 66 => ⟨S2x2x4096, .f32⟩
  | 67 => ⟨S2x2x4096x1, .f32⟩
  | 68 => ⟨S2x2x4096x1, .f32⟩
  | 69 => ⟨S2x2x4096x1, .f32⟩
  | 70 => ⟨S2x2x4096x3, .f32⟩
  | 71 => ⟨S_, .f32⟩
  | 72 => ⟨S2x2x4096x3, .f32⟩
  | 73 => ⟨S2x2x4096x3, .f32⟩
  | 74 => ⟨S2x2x4096x1, .f32⟩
  | 75 => ⟨S2x2x4096x1, .f32⟩
  | 76 => ⟨S2x2x4096x1, .f32⟩
  | 77 => ⟨S2x2x4096x1, .f32⟩
  | 78 => ⟨S2x2x4096x1, .i1⟩
  | 79 => ⟨S2x2x4096x3, .i1⟩
  | 80 => ⟨S2x2x4096x1, .i1⟩
  | 81 => ⟨S2x2x4096x3, .i1⟩
  | 82 => ⟨S2x2x4096x3x1, .f32⟩
  | 83 => ⟨S2x2x4096x3, .f32⟩
  | 84 => ⟨S2x2x4096x3x1, .f32⟩
  | 85 => ⟨S2x2x4096x3, .f32⟩
  | 86 => ⟨S2x2x4096x3x1, .f32⟩
  | 87 => ⟨S2x2x4096x3, .f32⟩
  | 88 => ⟨S2x2x4096x3, .f32⟩
  | 89 => ⟨S2x2x4096x3, .f32⟩
  | 90 => ⟨S2x2x4096x3, .f32⟩
  | 91 => ⟨S2x2x4096x3, .f32⟩
  | 92 => ⟨S2x2x4096x3, .f32⟩
  | 93 => ⟨S_, .f32⟩
  | 94 => ⟨S2x2x4096, .f32⟩
  | 95 => ⟨S1x2x4096, .f32⟩
  | 96 => ⟨S2x4096, .f32⟩
  | 97 => ⟨S1x2x4096, .f32⟩
  | 98 => ⟨S2x4096, .f32⟩
  | 99 => ⟨S2x4096, .f32⟩
  | 100 => ⟨S2x4096, .f32⟩
  | 101 => ⟨S2x4096, .f32⟩
  | 102 => ⟨S2x4096, .f32⟩
  | 103 => ⟨S_, .f32⟩
  | 104 => ⟨S_, .f32⟩
  | 105 => ⟨S_, .f32⟩
  | 106 => ⟨S_, .f32⟩
  | 107 => ⟨S2x4096, .f32⟩
  | 108 => ⟨S_, .f32⟩
  | 109 => ⟨S2x4096, .f32⟩
  | 110 => ⟨S2x4096, .f32⟩
  | 111 => ⟨S2x4096, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | _ => ⟨S2x4096x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | _ => ⟨S2x4096x3, .f32⟩

abbrev bufTy : (tb : Table) → Fin (tcTables nBuf tb) → BufTy
  | .hbm, ⟨i, _⟩ => hbmTy i
  | _, _ => ⟨S2x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_values : Ref sig .tc := ⟨.hbm, 16, rfl⟩
abbrev main_indices : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩
abbrev main_v174 : Ref sig .tc := ⟨.hbm, 188, rfl⟩
abbrev main_v175 : Ref sig .tc := ⟨.hbm, 189, rfl⟩
abbrev main_v176 : Ref sig .tc := ⟨.hbm, 190, rfl⟩
abbrev main_v177 : Ref sig .tc := ⟨.hbm, 191, rfl⟩
abbrev main_v178 : Ref sig .tc := ⟨.hbm, 192, rfl⟩
abbrev main_v179 : Ref sig .tc := ⟨.hbm, 193, rfl⟩
abbrev main_v180 : Ref sig .tc := ⟨.hbm, 194, rfl⟩
abbrev main_v181 : Ref sig .tc := ⟨.hbm, 195, rfl⟩
abbrev main_v182 : Ref sig .tc := ⟨.hbm, 196, rfl⟩
abbrev main_v183 : Ref sig .tc := ⟨.hbm, 197, rfl⟩
abbrev main_v184 : Ref sig .tc := ⟨.hbm, 198, rfl⟩
abbrev main_v185 : Ref sig .tc := ⟨.hbm, 199, rfl⟩
abbrev main_v186 : Ref sig .tc := ⟨.hbm, 200, rfl⟩
abbrev main_v187 : Ref sig .tc := ⟨.hbm, 201, rfl⟩
abbrev main_v188 : Ref sig .tc := ⟨.hbm, 202, rfl⟩
abbrev main_v189 : Ref sig .tc := ⟨.hbm, 203, rfl⟩
abbrev main_v190 : Ref sig .tc := ⟨.hbm, 204, rfl⟩
abbrev main_v191 : Ref sig .tc := ⟨.hbm, 205, rfl⟩
abbrev main_v192 : Ref sig .tc := ⟨.hbm, 206, rfl⟩
abbrev main_v193 : Ref sig .tc := ⟨.hbm, 207, rfl⟩
abbrev main_v194 : Ref sig .tc := ⟨.hbm, 208, rfl⟩
abbrev main_v195 : Ref sig .tc := ⟨.hbm, 209, rfl⟩
abbrev main_v196 : Ref sig .tc := ⟨.hbm, 210, rfl⟩
abbrev main_v197 : Ref sig .tc := ⟨.hbm, 211, rfl⟩
abbrev main_v198 : Ref sig .tc := ⟨.hbm, 212, rfl⟩
abbrev main_v199 : Ref sig .tc := ⟨.hbm, 213, rfl⟩
abbrev main_v200 : Ref sig .tc := ⟨.hbm, 214, rfl⟩
abbrev main_v201 : Ref sig .tc := ⟨.hbm, 215, rfl⟩
abbrev main_v202 : Ref sig .tc := ⟨.hbm, 216, rfl⟩
abbrev main_v203 : Ref sig .tc := ⟨.hbm, 217, rfl⟩
abbrev main_v204 : Ref sig .tc := ⟨.hbm, 218, rfl⟩
abbrev main_v205 : Ref sig .tc := ⟨.hbm, 219, rfl⟩
abbrev main_v206 : Ref sig .tc := ⟨.hbm, 220, rfl⟩
abbrev main_v207 : Ref sig .tc := ⟨.hbm, 221, rfl⟩
abbrev main_v208 : Ref sig .tc := ⟨.hbm, 222, rfl⟩
abbrev main_v209 : Ref sig .tc := ⟨.hbm, 223, rfl⟩
abbrev main_v210 : Ref sig .tc := ⟨.hbm, 224, rfl⟩
abbrev main_v211 : Ref sig .tc := ⟨.hbm, 225, rfl⟩
abbrev main_v212 : Ref sig .tc := ⟨.hbm, 226, rfl⟩
abbrev main_v213 : Ref sig .tc := ⟨.hbm, 227, rfl⟩
abbrev main_v214 : Ref sig .tc := ⟨.hbm, 228, rfl⟩
abbrev main_v215 : Ref sig .tc := ⟨.hbm, 229, rfl⟩
abbrev main_v216 : Ref sig .tc := ⟨.hbm, 230, rfl⟩
abbrev main_v217 : Ref sig .tc := ⟨.hbm, 231, rfl⟩
abbrev main_v218 : Ref sig .tc := ⟨.hbm, 232, rfl⟩
abbrev main_v219 : Ref sig .tc := ⟨.hbm, 233, rfl⟩
abbrev main_v220 : Ref sig .tc := ⟨.hbm, 234, rfl⟩
abbrev main_v221 : Ref sig .tc := ⟨.hbm, 235, rfl⟩
abbrev main_v222 : Ref sig .tc := ⟨.hbm, 236, rfl⟩
abbrev main_v223 : Ref sig .tc := ⟨.hbm, 237, rfl⟩
abbrev main_v224 : Ref sig .tc := ⟨.hbm, 238, rfl⟩
abbrev main_v225 : Ref sig .tc := ⟨.hbm, 239, rfl⟩
abbrev main_v226 : Ref sig .tc := ⟨.hbm, 240, rfl⟩
abbrev main_v227 : Ref sig .tc := ⟨.hbm, 241, rfl⟩
abbrev main_v228 : Ref sig .tc := ⟨.hbm, 242, rfl⟩
abbrev main_v229 : Ref sig .tc := ⟨.hbm, 243, rfl⟩
abbrev main_v230 : Ref sig .tc := ⟨.hbm, 244, rfl⟩
abbrev main_v231 : Ref sig .tc := ⟨.hbm, 245, rfl⟩
abbrev main_v232 : Ref sig .tc := ⟨.hbm, 246, rfl⟩
abbrev main_v233 : Ref sig .tc := ⟨.hbm, 247, rfl⟩
abbrev main_v234 : Ref sig .tc := ⟨.hbm, 248, rfl⟩
abbrev main_v235 : Ref sig .tc := ⟨.hbm, 249, rfl⟩
abbrev main_v236 : Ref sig .tc := ⟨.hbm, 250, rfl⟩
abbrev main_v237 : Ref sig .tc := ⟨.hbm, 251, rfl⟩
abbrev main_v238 : Ref sig .tc := ⟨.hbm, 252, rfl⟩
abbrev main_v239 : Ref sig .tc := ⟨.hbm, 253, rfl⟩
abbrev main_v240 : Ref sig .tc := ⟨.hbm, 254, rfl⟩
abbrev main_v241 : Ref sig .tc := ⟨.hbm, 255, rfl⟩
abbrev main_v242 : Ref sig .tc := ⟨.hbm, 256, rfl⟩
abbrev main_v243 : Ref sig .tc := ⟨.hbm, 257, rfl⟩
abbrev main_v244 : Ref sig .tc := ⟨.hbm, 258, rfl⟩
abbrev main_v245 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_v254 : Ref sig .tc := ⟨.hbm, 268, rfl⟩
abbrev main_v255 : Ref sig .tc := ⟨.hbm, 269, rfl⟩
abbrev main_v256 : Ref sig .tc := ⟨.hbm, 270, rfl⟩
abbrev main_v257 : Ref sig .tc := ⟨.hbm, 271, rfl⟩
abbrev main_v258 : Ref sig .tc := ⟨.hbm, 272, rfl⟩
abbrev main_v259 : Ref sig .tc := ⟨.hbm, 273, rfl⟩
abbrev main_v260 : Ref sig .tc := ⟨.hbm, 274, rfl⟩
abbrev main_v261 : Ref sig .tc := ⟨.hbm, 275, rfl⟩
abbrev main_v262 : Ref sig .tc := ⟨.hbm, 276, rfl⟩
abbrev main_v263 : Ref sig .tc := ⟨.hbm, 277, rfl⟩
abbrev main_v264 : Ref sig .tc := ⟨.hbm, 278, rfl⟩
abbrev main_v265 : Ref sig .tc := ⟨.hbm, 279, rfl⟩
abbrev main_v266 : Ref sig .tc := ⟨.hbm, 280, rfl⟩
abbrev main_v267 : Ref sig .tc := ⟨.hbm, 281, rfl⟩
abbrev main_v268 : Ref sig .tc := ⟨.hbm, 282, rfl⟩
abbrev main_v269 : Ref sig .tc := ⟨.hbm, 283, rfl⟩
abbrev main_v270 : Ref sig .tc := ⟨.hbm, 284, rfl⟩
abbrev main_v271 : Ref sig .tc := ⟨.hbm, 285, rfl⟩
abbrev main_v272 : Ref sig .tc := ⟨.hbm, 286, rfl⟩
abbrev main_v273 : Ref sig .tc := ⟨.hbm, 287, rfl⟩
abbrev main_v274 : Ref sig .tc := ⟨.hbm, 288, rfl⟩
abbrev main_v275 : Ref sig .tc := ⟨.hbm, 289, rfl⟩
abbrev main_v276 : Ref sig .tc := ⟨.hbm, 290, rfl⟩
abbrev main_v277 : Ref sig .tc := ⟨.hbm, 291, rfl⟩
abbrev main_v278 : Ref sig .tc := ⟨.hbm, 292, rfl⟩
abbrev main_v279 : Ref sig .tc := ⟨.hbm, 293, rfl⟩
abbrev main_v280 : Ref sig .tc := ⟨.hbm, 294, rfl⟩
abbrev main_v281 : Ref sig .tc := ⟨.hbm, 295, rfl⟩
abbrev main_v282 : Ref sig .tc := ⟨.hbm, 296, rfl⟩
abbrev main_v283 : Ref sig .tc := ⟨.hbm, 297, rfl⟩
abbrev main_v284 : Ref sig .tc := ⟨.hbm, 298, rfl⟩
abbrev main_v285 : Ref sig .tc := ⟨.hbm, 299, rfl⟩
abbrev main_v286 : Ref sig .tc := ⟨.hbm, 300, rfl⟩
abbrev main_v287 : Ref sig .tc := ⟨.hbm, 301, rfl⟩
abbrev main_v288 : Ref sig .tc := ⟨.hbm, 302, rfl⟩
abbrev main_v289 : Ref sig .tc := ⟨.hbm, 303, rfl⟩
abbrev main_v290 : Ref sig .tc := ⟨.hbm, 304, rfl⟩
abbrev main_v291 : Ref sig .tc := ⟨.hbm, 305, rfl⟩
abbrev main_v292 : Ref sig .tc := ⟨.hbm, 306, rfl⟩
abbrev main_v293 : Ref sig .tc := ⟨.hbm, 307, rfl⟩
abbrev main_v294 : Ref sig .tc := ⟨.hbm, 308, rfl⟩
abbrev main_v295 : Ref sig .tc := ⟨.hbm, 309, rfl⟩
abbrev main_v296 : Ref sig .tc := ⟨.hbm, 310, rfl⟩
abbrev main_v297 : Ref sig .tc := ⟨.hbm, 311, rfl⟩
abbrev main_v298 : Ref sig .tc := ⟨.hbm, 312, rfl⟩
abbrev main_v299 : Ref sig .tc := ⟨.hbm, 313, rfl⟩
abbrev main_v300 : Ref sig .tc := ⟨.hbm, 314, rfl⟩
abbrev main_v301 : Ref sig .tc := ⟨.hbm, 315, rfl⟩
abbrev main_v302 : Ref sig .tc := ⟨.hbm, 316, rfl⟩
abbrev main_v303 : Ref sig .tc := ⟨.hbm, 317, rfl⟩
abbrev main_v304 : Ref sig .tc := ⟨.hbm, 318, rfl⟩
abbrev main_v305 : Ref sig .tc := ⟨.hbm, 319, rfl⟩
abbrev main_v306 : Ref sig .tc := ⟨.hbm, 320, rfl⟩
abbrev main_v307 : Ref sig .tc := ⟨.hbm, 321, rfl⟩
abbrev main_v308 : Ref sig .tc := ⟨.hbm, 322, rfl⟩
abbrev main_v309 : Ref sig .tc := ⟨.hbm, 323, rfl⟩
abbrev main_v310 : Ref sig .tc := ⟨.hbm, 324, rfl⟩
abbrev main_v311 : Ref sig .tc := ⟨.hbm, 325, rfl⟩
abbrev main_v312 : Ref sig .tc := ⟨.hbm, 326, rfl⟩
abbrev main_v313 : Ref sig .tc := ⟨.hbm, 327, rfl⟩
abbrev main_v314 : Ref sig .tc := ⟨.hbm, 328, rfl⟩
abbrev main_v315 : Ref sig .tc := ⟨.hbm, 329, rfl⟩
abbrev main_v316 : Ref sig .tc := ⟨.hbm, 330, rfl⟩
abbrev main_v317 : Ref sig .tc := ⟨.hbm, 331, rfl⟩
abbrev main_v318 : Ref sig .tc := ⟨.hbm, 332, rfl⟩
abbrev main_v319 : Ref sig .tc := ⟨.hbm, 333, rfl⟩
abbrev main_v320 : Ref sig .tc := ⟨.hbm, 334, rfl⟩
abbrev main_v321 : Ref sig .tc := ⟨.hbm, 335, rfl⟩
abbrev main_v322 : Ref sig .tc := ⟨.hbm, 336, rfl⟩
abbrev main_v323 : Ref sig .tc := ⟨.hbm, 337, rfl⟩
abbrev main_v324 : Ref sig .tc := ⟨.hbm, 338, rfl⟩
abbrev main_v325 : Ref sig .tc := ⟨.hbm, 339, rfl⟩
abbrev main_v326 : Ref sig .tc := ⟨.hbm, 340, rfl⟩
abbrev main_v327 : Ref sig .tc := ⟨.hbm, 341, rfl⟩
abbrev main_v328 : Ref sig .tc := ⟨.hbm, 342, rfl⟩
abbrev main_v329 : Ref sig .tc := ⟨.hbm, 343, rfl⟩
abbrev main_v330 : Ref sig .tc := ⟨.hbm, 344, rfl⟩
abbrev main_v331 : Ref sig .tc := ⟨.hbm, 345, rfl⟩
abbrev main_v332 : Ref sig .tc := ⟨.hbm, 346, rfl⟩
abbrev main_v333 : Ref sig .tc := ⟨.hbm, 347, rfl⟩
abbrev main_v334 : Ref sig .tc := ⟨.hbm, 348, rfl⟩
abbrev main_v335 : Ref sig .tc := ⟨.hbm, 349, rfl⟩
abbrev main_v336 : Ref sig .tc := ⟨.hbm, 350, rfl⟩
abbrev main_v337 : Ref sig .tc := ⟨.hbm, 351, rfl⟩
abbrev main_v338 : Ref sig .tc := ⟨.hbm, 352, rfl⟩
abbrev main_v339 : Ref sig .tc := ⟨.hbm, 353, rfl⟩
abbrev main_v340 : Ref sig .tc := ⟨.hbm, 354, rfl⟩
abbrev main_v341 : Ref sig .tc := ⟨.hbm, 355, rfl⟩
abbrev main_v342 : Ref sig .tc := ⟨.hbm, 356, rfl⟩
abbrev main_v343 : Ref sig .tc := ⟨.hbm, 357, rfl⟩
abbrev main_v344 : Ref sig .tc := ⟨.hbm, 358, rfl⟩
abbrev main_v345 : Ref sig .tc := ⟨.hbm, 359, rfl⟩
abbrev main_v346 : Ref sig .tc := ⟨.hbm, 360, rfl⟩
abbrev main_v347 : Ref sig .tc := ⟨.hbm, 361, rfl⟩
abbrev main_v348 : Ref sig .tc := ⟨.hbm, 362, rfl⟩
abbrev main_v349 : Ref sig .tc := ⟨.hbm, 363, rfl⟩
abbrev main_v350 : Ref sig .tc := ⟨.hbm, 364, rfl⟩
abbrev main_v351 : Ref sig .tc := ⟨.hbm, 365, rfl⟩
abbrev main_v352 : Ref sig .tc := ⟨.hbm, 366, rfl⟩
abbrev main_v353 : Ref sig .tc := ⟨.hbm, 367, rfl⟩
abbrev main_v354 : Ref sig .tc := ⟨.hbm, 368, rfl⟩
abbrev main_v355 : Ref sig .tc := ⟨.hbm, 369, rfl⟩
abbrev main_v356 : Ref sig .tc := ⟨.hbm, 370, rfl⟩
abbrev main_v357 : Ref sig .tc := ⟨.hbm, 371, rfl⟩
abbrev main_v358 : Ref sig .tc := ⟨.hbm, 372, rfl⟩
abbrev main_v359 : Ref sig .tc := ⟨.hbm, 373, rfl⟩
abbrev main_v360 : Ref sig .tc := ⟨.hbm, 374, rfl⟩
abbrev main_v361 : Ref sig .tc := ⟨.hbm, 375, rfl⟩
abbrev main_v362 : Ref sig .tc := ⟨.hbm, 376, rfl⟩
abbrev main_v363 : Ref sig .tc := ⟨.hbm, 377, rfl⟩
abbrev main_v364 : Ref sig .tc := ⟨.hbm, 378, rfl⟩
abbrev main_v365 : Ref sig .tc := ⟨.hbm, 379, rfl⟩
abbrev main_v366 : Ref sig .tc := ⟨.hbm, 380, rfl⟩
abbrev main_v367 : Ref sig .tc := ⟨.hbm, 381, rfl⟩
abbrev main_v368 : Ref sig .tc := ⟨.hbm, 382, rfl⟩
abbrev main_v369 : Ref sig .tc := ⟨.hbm, 383, rfl⟩
abbrev main_v370 : Ref sig .tc := ⟨.hbm, 384, rfl⟩
abbrev main_v371 : Ref sig .tc := ⟨.hbm, 385, rfl⟩
abbrev main_v372 : Ref sig .tc := ⟨.hbm, 386, rfl⟩
abbrev main_v373 : Ref sig .tc := ⟨.hbm, 387, rfl⟩
abbrev main_v374 : Ref sig .tc := ⟨.hbm, 388, rfl⟩
abbrev main_v375 : Ref sig .tc := ⟨.hbm, 389, rfl⟩
abbrev main_v376 : Ref sig .tc := ⟨.hbm, 390, rfl⟩
abbrev main_v377 : Ref sig .tc := ⟨.hbm, 391, rfl⟩
abbrev main_v378 : Ref sig .tc := ⟨.hbm, 392, rfl⟩
abbrev main_v379 : Ref sig .tc := ⟨.hbm, 393, rfl⟩
abbrev main_v380 : Ref sig .tc := ⟨.hbm, 394, rfl⟩
abbrev main_v381 : Ref sig .tc := ⟨.hbm, 395, rfl⟩
abbrev main_v382 : Ref sig .tc := ⟨.hbm, 396, rfl⟩
abbrev main_v383 : Ref sig .tc := ⟨.hbm, 397, rfl⟩
abbrev main_v384 : Ref sig .tc := ⟨.hbm, 398, rfl⟩
abbrev main_v385 : Ref sig .tc := ⟨.hbm, 399, rfl⟩
abbrev main_v386 : Ref sig .tc := ⟨.hbm, 400, rfl⟩
abbrev main_v387 : Ref sig .tc := ⟨.hbm, 401, rfl⟩
abbrev main_v388 : Ref sig .tc := ⟨.hbm, 402, rfl⟩
abbrev main_v389 : Ref sig .tc := ⟨.hbm, 403, rfl⟩
abbrev main_v390 : Ref sig .tc := ⟨.hbm, 404, rfl⟩
abbrev main_v391 : Ref sig .tc := ⟨.hbm, 405, rfl⟩
abbrev main_v392 : Ref sig .tc := ⟨.hbm, 406, rfl⟩
abbrev main_v393 : Ref sig .tc := ⟨.hbm, 407, rfl⟩
abbrev main_v394 : Ref sig .tc := ⟨.hbm, 408, rfl⟩
abbrev main_v395 : Ref sig .tc := ⟨.hbm, 409, rfl⟩
abbrev main_v396 : Ref sig .tc := ⟨.hbm, 410, rfl⟩
abbrev main_v397 : Ref sig .tc := ⟨.hbm, 411, rfl⟩
abbrev main_v398 : Ref sig .tc := ⟨.hbm, 412, rfl⟩
abbrev main_v399 : Ref sig .tc := ⟨.hbm, 413, rfl⟩
abbrev main_v400 : Ref sig .tc := ⟨.hbm, 414, rfl⟩
abbrev main_v401 : Ref sig .tc := ⟨.hbm, 415, rfl⟩
abbrev main_v402 : Ref sig .tc := ⟨.hbm, 416, rfl⟩
abbrev main_v403 : Ref sig .tc := ⟨.hbm, 417, rfl⟩
abbrev main_v404 : Ref sig .tc := ⟨.hbm, 418, rfl⟩
abbrev main_v405 : Ref sig .tc := ⟨.hbm, 419, rfl⟩
abbrev main_v406 : Ref sig .tc := ⟨.hbm, 420, rfl⟩
abbrev main_v407 : Ref sig .tc := ⟨.hbm, 421, rfl⟩
abbrev main_v408 : Ref sig .tc := ⟨.hbm, 422, rfl⟩
abbrev main_v409 : Ref sig .tc := ⟨.hbm, 423, rfl⟩
abbrev main_v410 : Ref sig .tc := ⟨.hbm, 424, rfl⟩
abbrev main_v411 : Ref sig .tc := ⟨.hbm, 425, rfl⟩
abbrev main_v412 : Ref sig .tc := ⟨.hbm, 426, rfl⟩
abbrev main_v413 : Ref sig .tc := ⟨.hbm, 427, rfl⟩
abbrev main_v414 : Ref sig .tc := ⟨.hbm, 428, rfl⟩
abbrev main_v415 : Ref sig .tc := ⟨.hbm, 429, rfl⟩
abbrev main_v416 : Ref sig .tc := ⟨.hbm, 430, rfl⟩
abbrev main_v417 : Ref sig .tc := ⟨.hbm, 431, rfl⟩
abbrev main_v418 : Ref sig .tc := ⟨.hbm, 432, rfl⟩
abbrev main_v419 : Ref sig .tc := ⟨.hbm, 433, rfl⟩
abbrev main_v420 : Ref sig .tc := ⟨.hbm, 434, rfl⟩
abbrev main_v421 : Ref sig .tc := ⟨.hbm, 435, rfl⟩
abbrev main_v422 : Ref sig .tc := ⟨.hbm, 436, rfl⟩
abbrev main_v423 : Ref sig .tc := ⟨.hbm, 437, rfl⟩
abbrev main_v424 : Ref sig .tc := ⟨.hbm, 438, rfl⟩
abbrev main_v425 : Ref sig .tc := ⟨.hbm, 439, rfl⟩
abbrev main_v426 : Ref sig .tc := ⟨.hbm, 440, rfl⟩
abbrev main_v427 : Ref sig .tc := ⟨.hbm, 441, rfl⟩
abbrev main_v428 : Ref sig .tc := ⟨.hbm, 442, rfl⟩
abbrev main_v429 : Ref sig .tc := ⟨.hbm, 443, rfl⟩
abbrev main_v430 : Ref sig .tc := ⟨.hbm, 444, rfl⟩
abbrev main_v431 : Ref sig .tc := ⟨.hbm, 445, rfl⟩
abbrev main_v432 : Ref sig .tc := ⟨.hbm, 446, rfl⟩
abbrev main_v433 : Ref sig .tc := ⟨.hbm, 447, rfl⟩
abbrev main_v434 : Ref sig .tc := ⟨.hbm, 448, rfl⟩
abbrev main_v435 : Ref sig .tc := ⟨.hbm, 449, rfl⟩
abbrev main_v436 : Ref sig .tc := ⟨.hbm, 450, rfl⟩
abbrev main_v437 : Ref sig .tc := ⟨.hbm, 451, rfl⟩
abbrev main_v438 : Ref sig .tc := ⟨.hbm, 452, rfl⟩
abbrev main_v439 : Ref sig .tc := ⟨.hbm, 453, rfl⟩
abbrev main_v440 : Ref sig .tc := ⟨.hbm, 454, rfl⟩
abbrev main_v441 : Ref sig .tc := ⟨.hbm, 455, rfl⟩
abbrev main_v442 : Ref sig .tc := ⟨.hbm, 456, rfl⟩
abbrev main_v443 : Ref sig .tc := ⟨.hbm, 457, rfl⟩
abbrev main_v444 : Ref sig .tc := ⟨.hbm, 458, rfl⟩
abbrev main_v445 : Ref sig .tc := ⟨.hbm, 459, rfl⟩
abbrev main_v446 : Ref sig .tc := ⟨.hbm, 460, rfl⟩
abbrev main_v447 : Ref sig .tc := ⟨.hbm, 461, rfl⟩
abbrev main_v448 : Ref sig .tc := ⟨.hbm, 462, rfl⟩
abbrev main_v449 : Ref sig .tc := ⟨.hbm, 463, rfl⟩
abbrev main_v450 : Ref sig .tc := ⟨.hbm, 464, rfl⟩
abbrev main_v451 : Ref sig .tc := ⟨.hbm, 465, rfl⟩
abbrev main_v452 : Ref sig .tc := ⟨.hbm, 466, rfl⟩
abbrev main_v453 : Ref sig .tc := ⟨.hbm, 467, rfl⟩
abbrev main_v454 : Ref sig .tc := ⟨.hbm, 468, rfl⟩
abbrev main_v455 : Ref sig .tc := ⟨.hbm, 469, rfl⟩
abbrev main_v456 : Ref sig .tc := ⟨.hbm, 470, rfl⟩
abbrev main_v457 : Ref sig .tc := ⟨.hbm, 471, rfl⟩
abbrev main_v458 : Ref sig .tc := ⟨.hbm, 472, rfl⟩
abbrev main_v459 : Ref sig .tc := ⟨.hbm, 473, rfl⟩
abbrev main_v460 : Ref sig .tc := ⟨.hbm, 474, rfl⟩
abbrev main_v461 : Ref sig .tc := ⟨.hbm, 475, rfl⟩
abbrev main_v462 : Ref sig .tc := ⟨.hbm, 476, rfl⟩
abbrev main_v463 : Ref sig .tc := ⟨.hbm, 477, rfl⟩
abbrev main_v464 : Ref sig .tc := ⟨.hbm, 478, rfl⟩
abbrev main_v465 : Ref sig .tc := ⟨.hbm, 479, rfl⟩
abbrev main_v466 : Ref sig .tc := ⟨.hbm, 480, rfl⟩
abbrev main_v467 : Ref sig .tc := ⟨.hbm, 481, rfl⟩
abbrev main_v468 : Ref sig .tc := ⟨.hbm, 482, rfl⟩
abbrev main_v469 : Ref sig .tc := ⟨.hbm, 483, rfl⟩
abbrev main_v470 : Ref sig .tc := ⟨.hbm, 484, rfl⟩
abbrev main_v471 : Ref sig .tc := ⟨.hbm, 485, rfl⟩
abbrev main_v472 : Ref sig .tc := ⟨.hbm, 486, rfl⟩
abbrev main_v473 : Ref sig .tc := ⟨.hbm, 487, rfl⟩
abbrev main_v474 : Ref sig .tc := ⟨.hbm, 488, rfl⟩
abbrev main_v475 : Ref sig .tc := ⟨.hbm, 489, rfl⟩
abbrev main_v476 : Ref sig .tc := ⟨.hbm, 490, rfl⟩
abbrev main_v477 : Ref sig .tc := ⟨.hbm, 491, rfl⟩
abbrev main_v478 : Ref sig .tc := ⟨.hbm, 492, rfl⟩
abbrev main_v479 : Ref sig .tc := ⟨.hbm, 493, rfl⟩
abbrev main_v480 : Ref sig .tc := ⟨.hbm, 494, rfl⟩
abbrev main_v481 : Ref sig .tc := ⟨.hbm, 495, rfl⟩
abbrev main_v482 : Ref sig .tc := ⟨.hbm, 496, rfl⟩
abbrev main_v483 : Ref sig .tc := ⟨.hbm, 497, rfl⟩
abbrev main_v484 : Ref sig .tc := ⟨.hbm, 498, rfl⟩
abbrev main_v485 : Ref sig .tc := ⟨.hbm, 499, rfl⟩
abbrev main_v486 : Ref sig .tc := ⟨.hbm, 500, rfl⟩
abbrev main_v487 : Ref sig .tc := ⟨.hbm, 501, rfl⟩
abbrev main_v488 : Ref sig .tc := ⟨.hbm, 502, rfl⟩
abbrev main_v489 : Ref sig .tc := ⟨.hbm, 503, rfl⟩
abbrev main_v490 : Ref sig .tc := ⟨.hbm, 504, rfl⟩
abbrev main_v491 : Ref sig .tc := ⟨.hbm, 505, rfl⟩
abbrev main_v492 : Ref sig .tc := ⟨.hbm, 506, rfl⟩
abbrev main_v493 : Ref sig .tc := ⟨.hbm, 507, rfl⟩
abbrev main_v494 : Ref sig .tc := ⟨.hbm, 508, rfl⟩
abbrev main_v495 : Ref sig .tc := ⟨.hbm, 509, rfl⟩
abbrev main_v496 : Ref sig .tc := ⟨.hbm, 510, rfl⟩
abbrev main_v497 : Ref sig .tc := ⟨.hbm, 511, rfl⟩
abbrev main_v498 : Ref sig .tc := ⟨.hbm, 512, rfl⟩
abbrev main_v499 : Ref sig .tc := ⟨.hbm, 513, rfl⟩
abbrev main_v500 : Ref sig .tc := ⟨.hbm, 514, rfl⟩
abbrev main_v501 : Ref sig .tc := ⟨.hbm, 515, rfl⟩
abbrev main_v502 : Ref sig .tc := ⟨.hbm, 516, rfl⟩
abbrev main_v503 : Ref sig .tc := ⟨.hbm, 517, rfl⟩
abbrev main_v504 : Ref sig .tc := ⟨.hbm, 518, rfl⟩
abbrev main_v505 : Ref sig .tc := ⟨.hbm, 519, rfl⟩
abbrev main_v506 : Ref sig .tc := ⟨.hbm, 520, rfl⟩
abbrev main_v507 : Ref sig .tc := ⟨.hbm, 521, rfl⟩
abbrev main_v508 : Ref sig .tc := ⟨.hbm, 522, rfl⟩
abbrev main_v509 : Ref sig .tc := ⟨.hbm, 523, rfl⟩
abbrev main_v510 : Ref sig .tc := ⟨.hbm, 524, rfl⟩
abbrev main_v511 : Ref sig .tc := ⟨.hbm, 525, rfl⟩
abbrev main_v512 : Ref sig .tc := ⟨.hbm, 526, rfl⟩
abbrev main_v513 : Ref sig .tc := ⟨.hbm, 527, rfl⟩
abbrev main_v514 : Ref sig .tc := ⟨.hbm, 528, rfl⟩
abbrev main_v515 : Ref sig .tc := ⟨.hbm, 529, rfl⟩
abbrev main_v516 : Ref sig .tc := ⟨.hbm, 530, rfl⟩
abbrev main_v517 : Ref sig .tc := ⟨.hbm, 531, rfl⟩
abbrev main_v518 : Ref sig .tc := ⟨.hbm, 532, rfl⟩
abbrev main_v519 : Ref sig .tc := ⟨.hbm, 533, rfl⟩
abbrev main_v520 : Ref sig .tc := ⟨.hbm, 534, rfl⟩
abbrev main_v521 : Ref sig .tc := ⟨.hbm, 535, rfl⟩
abbrev main_v522 : Ref sig .tc := ⟨.hbm, 536, rfl⟩
abbrev main_v523 : Ref sig .tc := ⟨.hbm, 537, rfl⟩
abbrev main_v524 : Ref sig .tc := ⟨.hbm, 538, rfl⟩
abbrev main_v525 : Ref sig .tc := ⟨.hbm, 539, rfl⟩
abbrev main_v526 : Ref sig .tc := ⟨.hbm, 540, rfl⟩
abbrev main_v527 : Ref sig .tc := ⟨.hbm, 541, rfl⟩
abbrev main_v528 : Ref sig .tc := ⟨.hbm, 542, rfl⟩
abbrev main_v529 : Ref sig .tc := ⟨.hbm, 543, rfl⟩
abbrev main_v530 : Ref sig .tc := ⟨.hbm, 544, rfl⟩
abbrev main_v531 : Ref sig .tc := ⟨.hbm, 545, rfl⟩
abbrev main_v532 : Ref sig .tc := ⟨.hbm, 546, rfl⟩
abbrev main_v533 : Ref sig .tc := ⟨.hbm, 547, rfl⟩
abbrev main_v534 : Ref sig .tc := ⟨.hbm, 548, rfl⟩
abbrev main_v535 : Ref sig .tc := ⟨.hbm, 549, rfl⟩
abbrev main_v536 : Ref sig .tc := ⟨.hbm, 550, rfl⟩
abbrev main_v537 : Ref sig .tc := ⟨.hbm, 551, rfl⟩
abbrev main_v538 : Ref sig .tc := ⟨.hbm, 552, rfl⟩
abbrev main_v539 : Ref sig .tc := ⟨.hbm, 553, rfl⟩
abbrev main_v540 : Ref sig .tc := ⟨.hbm, 554, rfl⟩
abbrev main_v541 : Ref sig .tc := ⟨.hbm, 555, rfl⟩
abbrev main_v542 : Ref sig .tc := ⟨.hbm, 556, rfl⟩
abbrev main_v543 : Ref sig .tc := ⟨.hbm, 557, rfl⟩
abbrev main_v544 : Ref sig .tc := ⟨.hbm, 558, rfl⟩
abbrev main_v545 : Ref sig .tc := ⟨.hbm, 559, rfl⟩
abbrev main_v546 : Ref sig .tc := ⟨.hbm, 560, rfl⟩
abbrev main_v547 : Ref sig .tc := ⟨.hbm, 561, rfl⟩
abbrev main_v548 : Ref sig .tc := ⟨.hbm, 562, rfl⟩
abbrev main_v549 : Ref sig .tc := ⟨.hbm, 563, rfl⟩
abbrev main_v550 : Ref sig .tc := ⟨.hbm, 564, rfl⟩
abbrev main_v551 : Ref sig .tc := ⟨.hbm, 565, rfl⟩
abbrev main_v552 : Ref sig .tc := ⟨.hbm, 566, rfl⟩
abbrev main_v553 : Ref sig .tc := ⟨.hbm, 567, rfl⟩
abbrev main_v554 : Ref sig .tc := ⟨.hbm, 568, rfl⟩
abbrev main_v555 : Ref sig .tc := ⟨.hbm, 569, rfl⟩
abbrev main_v556 : Ref sig .tc := ⟨.hbm, 570, rfl⟩
abbrev main_v557 : Ref sig .tc := ⟨.hbm, 571, rfl⟩
abbrev main_v558 : Ref sig .tc := ⟨.hbm, 572, rfl⟩
abbrev main_v559 : Ref sig .tc := ⟨.hbm, 573, rfl⟩
abbrev main_v560 : Ref sig .tc := ⟨.hbm, 574, rfl⟩
abbrev main_v561 : Ref sig .tc := ⟨.hbm, 575, rfl⟩
abbrev main_v562 : Ref sig .tc := ⟨.hbm, 576, rfl⟩
abbrev main_v563 : Ref sig .tc := ⟨.hbm, 577, rfl⟩
abbrev main_v564 : Ref sig .tc := ⟨.hbm, 578, rfl⟩
abbrev main_v565 : Ref sig .tc := ⟨.hbm, 579, rfl⟩
abbrev main_v566 : Ref sig .tc := ⟨.hbm, 580, rfl⟩
abbrev main_v567 : Ref sig .tc := ⟨.hbm, 581, rfl⟩
abbrev main_v568 : Ref sig .tc := ⟨.hbm, 582, rfl⟩
abbrev main_v569 : Ref sig .tc := ⟨.hbm, 583, rfl⟩
abbrev main_v570 : Ref sig .tc := ⟨.hbm, 584, rfl⟩
abbrev main_v571 : Ref sig .tc := ⟨.hbm, 585, rfl⟩
abbrev main_v572 : Ref sig .tc := ⟨.hbm, 586, rfl⟩
abbrev main_v573 : Ref sig .tc := ⟨.hbm, 587, rfl⟩
abbrev main_v574 : Ref sig .tc := ⟨.hbm, 588, rfl⟩
abbrev main_v575 : Ref sig .tc := ⟨.hbm, 589, rfl⟩
abbrev main_v576 : Ref sig .tc := ⟨.hbm, 590, rfl⟩
abbrev main_v577 : Ref sig .tc := ⟨.hbm, 591, rfl⟩
abbrev main_v578 : Ref sig .tc := ⟨.hbm, 592, rfl⟩
abbrev main_v579 : Ref sig .tc := ⟨.hbm, 593, rfl⟩
abbrev main_v580 : Ref sig .tc := ⟨.hbm, 594, rfl⟩
abbrev main_v581 : Ref sig .tc := ⟨.hbm, 595, rfl⟩
abbrev main_v582 : Ref sig .tc := ⟨.hbm, 596, rfl⟩
abbrev main_v583 : Ref sig .tc := ⟨.hbm, 597, rfl⟩
abbrev main_v584 : Ref sig .tc := ⟨.hbm, 598, rfl⟩
abbrev main_v585 : Ref sig .tc := ⟨.hbm, 599, rfl⟩
abbrev main_v586 : Ref sig .tc := ⟨.hbm, 600, rfl⟩
abbrev main_v587 : Ref sig .tc := ⟨.hbm, 601, rfl⟩
abbrev main_v588 : Ref sig .tc := ⟨.hbm, 602, rfl⟩
abbrev main_v589 : Ref sig .tc := ⟨.hbm, 603, rfl⟩
abbrev main_v590 : Ref sig .tc := ⟨.hbm, 604, rfl⟩
abbrev main_v591 : Ref sig .tc := ⟨.hbm, 605, rfl⟩
abbrev main_v592 : Ref sig .tc := ⟨.hbm, 606, rfl⟩
abbrev main_v593 : Ref sig .tc := ⟨.hbm, 607, rfl⟩
abbrev main_v594 : Ref sig .tc := ⟨.hbm, 608, rfl⟩
abbrev main_v595 : Ref sig .tc := ⟨.hbm, 609, rfl⟩
abbrev main_v596 : Ref sig .tc := ⟨.hbm, 610, rfl⟩
abbrev main_v597 : Ref sig .tc := ⟨.hbm, 611, rfl⟩
abbrev main_v598 : Ref sig .tc := ⟨.hbm, 612, rfl⟩
abbrev main_v599 : Ref sig .tc := ⟨.hbm, 613, rfl⟩
abbrev main_v600 : Ref sig .tc := ⟨.hbm, 614, rfl⟩
abbrev main_v601 : Ref sig .tc := ⟨.hbm, 615, rfl⟩
abbrev main_v602 : Ref sig .tc := ⟨.hbm, 616, rfl⟩
abbrev main_v603 : Ref sig .tc := ⟨.hbm, 617, rfl⟩
abbrev main_v604 : Ref sig .tc := ⟨.hbm, 618, rfl⟩
abbrev main_v605 : Ref sig .tc := ⟨.hbm, 619, rfl⟩
abbrev main_v606 : Ref sig .tc := ⟨.hbm, 620, rfl⟩
abbrev main_v607 : Ref sig .tc := ⟨.hbm, 621, rfl⟩
abbrev main_v608 : Ref sig .tc := ⟨.hbm, 622, rfl⟩
abbrev main_v609 : Ref sig .tc := ⟨.hbm, 623, rfl⟩
abbrev main_v610 : Ref sig .tc := ⟨.hbm, 624, rfl⟩
abbrev main_v611 : Ref sig .tc := ⟨.hbm, 625, rfl⟩
abbrev main_v612 : Ref sig .tc := ⟨.hbm, 626, rfl⟩
abbrev main_v613 : Ref sig .tc := ⟨.hbm, 627, rfl⟩
abbrev main_v614 : Ref sig .tc := ⟨.hbm, 628, rfl⟩
abbrev main_v615 : Ref sig .tc := ⟨.hbm, 629, rfl⟩
abbrev main_v616 : Ref sig .tc := ⟨.hbm, 630, rfl⟩
abbrev main_v617 : Ref sig .tc := ⟨.hbm, 631, rfl⟩
abbrev main_v618 : Ref sig .tc := ⟨.hbm, 632, rfl⟩
abbrev main_v619 : Ref sig .tc := ⟨.hbm, 633, rfl⟩
abbrev main_v620 : Ref sig .tc := ⟨.hbm, 634, rfl⟩
abbrev main_v621 : Ref sig .tc := ⟨.hbm, 635, rfl⟩
abbrev main_v622 : Ref sig .tc := ⟨.hbm, 636, rfl⟩
abbrev main_v623 : Ref sig .tc := ⟨.hbm, 637, rfl⟩
abbrev main_v624 : Ref sig .tc := ⟨.hbm, 638, rfl⟩
abbrev main_v625 : Ref sig .tc := ⟨.hbm, 639, rfl⟩
abbrev main_v626 : Ref sig .tc := ⟨.hbm, 640, rfl⟩
abbrev main_v627 : Ref sig .tc := ⟨.hbm, 641, rfl⟩
abbrev main_v628 : Ref sig .tc := ⟨.hbm, 642, rfl⟩
abbrev main_v629 : Ref sig .tc := ⟨.hbm, 643, rfl⟩
abbrev main_v630 : Ref sig .tc := ⟨.hbm, 644, rfl⟩
abbrev main_v631 : Ref sig .tc := ⟨.hbm, 645, rfl⟩
abbrev main_v632 : Ref sig .tc := ⟨.hbm, 646, rfl⟩
abbrev main_v633 : Ref sig .tc := ⟨.hbm, 647, rfl⟩
abbrev main_v634 : Ref sig .tc := ⟨.hbm, 648, rfl⟩
abbrev main_v635 : Ref sig .tc := ⟨.hbm, 649, rfl⟩
abbrev main_v636 : Ref sig .tc := ⟨.hbm, 650, rfl⟩
abbrev main_v637 : Ref sig .tc := ⟨.hbm, 651, rfl⟩
abbrev main_v638 : Ref sig .tc := ⟨.hbm, 652, rfl⟩
abbrev main_v639 : Ref sig .tc := ⟨.hbm, 653, rfl⟩
abbrev main_v640 : Ref sig .tc := ⟨.hbm, 654, rfl⟩
abbrev main_v641 : Ref sig .tc := ⟨.hbm, 655, rfl⟩
abbrev main_v642 : Ref sig .tc := ⟨.hbm, 656, rfl⟩
abbrev main_v643 : Ref sig .tc := ⟨.hbm, 657, rfl⟩
abbrev main_v644 : Ref sig .tc := ⟨.hbm, 658, rfl⟩
abbrev main_v645 : Ref sig .tc := ⟨.hbm, 659, rfl⟩
abbrev main_v646 : Ref sig .tc := ⟨.hbm, 660, rfl⟩
abbrev main_v647 : Ref sig .tc := ⟨.hbm, 661, rfl⟩
abbrev main_v648 : Ref sig .tc := ⟨.hbm, 662, rfl⟩
abbrev main_v649 : Ref sig .tc := ⟨.hbm, 663, rfl⟩
abbrev main_v650 : Ref sig .tc := ⟨.hbm, 664, rfl⟩
abbrev main_v651 : Ref sig .tc := ⟨.hbm, 665, rfl⟩
abbrev main_v652 : Ref sig .tc := ⟨.hbm, 666, rfl⟩
abbrev main_v653 : Ref sig .tc := ⟨.hbm, 667, rfl⟩
abbrev main_v654 : Ref sig .tc := ⟨.hbm, 668, rfl⟩
abbrev main_v655 : Ref sig .tc := ⟨.hbm, 669, rfl⟩
abbrev main_v656 : Ref sig .tc := ⟨.hbm, 670, rfl⟩
abbrev main_v657 : Ref sig .tc := ⟨.hbm, 671, rfl⟩
abbrev main_v658 : Ref sig .tc := ⟨.hbm, 672, rfl⟩
abbrev main_v659 : Ref sig .tc := ⟨.hbm, 673, rfl⟩
abbrev main_v660 : Ref sig .tc := ⟨.hbm, 674, rfl⟩
abbrev main_v661 : Ref sig .tc := ⟨.hbm, 675, rfl⟩
abbrev main_v662 : Ref sig .tc := ⟨.hbm, 676, rfl⟩
abbrev main_v663 : Ref sig .tc := ⟨.hbm, 677, rfl⟩
abbrev main_v664 : Ref sig .tc := ⟨.hbm, 678, rfl⟩
abbrev main_v665 : Ref sig .tc := ⟨.hbm, 679, rfl⟩
abbrev main_v666 : Ref sig .tc := ⟨.hbm, 680, rfl⟩
abbrev main_v667 : Ref sig .tc := ⟨.hbm, 681, rfl⟩
abbrev main_v668 : Ref sig .tc := ⟨.hbm, 682, rfl⟩
abbrev main_v669 : Ref sig .tc := ⟨.hbm, 683, rfl⟩
abbrev main_v670 : Ref sig .tc := ⟨.hbm, 684, rfl⟩
abbrev main_v671 : Ref sig .tc := ⟨.hbm, 685, rfl⟩
abbrev main_v672 : Ref sig .tc := ⟨.hbm, 686, rfl⟩
abbrev main_v673 : Ref sig .tc := ⟨.hbm, 687, rfl⟩
abbrev main_v674 : Ref sig .tc := ⟨.hbm, 688, rfl⟩
abbrev main_v675 : Ref sig .tc := ⟨.hbm, 689, rfl⟩
abbrev main_v676 : Ref sig .tc := ⟨.hbm, 690, rfl⟩
abbrev main_v677 : Ref sig .tc := ⟨.hbm, 691, rfl⟩
abbrev main_v678 : Ref sig .tc := ⟨.hbm, 692, rfl⟩
abbrev main_v679 : Ref sig .tc := ⟨.hbm, 693, rfl⟩
abbrev main_v680 : Ref sig .tc := ⟨.hbm, 694, rfl⟩
abbrev main_v681 : Ref sig .tc := ⟨.hbm, 695, rfl⟩
abbrev main_v682 : Ref sig .tc := ⟨.hbm, 696, rfl⟩
abbrev main_v683 : Ref sig .tc := ⟨.hbm, 697, rfl⟩
abbrev main_v684 : Ref sig .tc := ⟨.hbm, 698, rfl⟩
abbrev main_v685 : Ref sig .tc := ⟨.hbm, 699, rfl⟩
abbrev main_v686 : Ref sig .tc := ⟨.hbm, 700, rfl⟩
abbrev main_v687 : Ref sig .tc := ⟨.hbm, 701, rfl⟩
abbrev main_v688 : Ref sig .tc := ⟨.hbm, 702, rfl⟩
abbrev main_v689 : Ref sig .tc := ⟨.hbm, 703, rfl⟩
abbrev main_v690 : Ref sig .tc := ⟨.hbm, 704, rfl⟩
abbrev main_v691 : Ref sig .tc := ⟨.hbm, 705, rfl⟩
abbrev main_v692 : Ref sig .tc := ⟨.hbm, 706, rfl⟩
abbrev main_v693 : Ref sig .tc := ⟨.hbm, 707, rfl⟩
abbrev main_v694 : Ref sig .tc := ⟨.hbm, 708, rfl⟩
abbrev main_v695 : Ref sig .tc := ⟨.hbm, 709, rfl⟩
abbrev main_v696 : Ref sig .tc := ⟨.hbm, 710, rfl⟩
abbrev main_v697 : Ref sig .tc := ⟨.hbm, 711, rfl⟩
abbrev main_v698 : Ref sig .tc := ⟨.hbm, 712, rfl⟩
abbrev main_v699 : Ref sig .tc := ⟨.hbm, 713, rfl⟩
abbrev main_v700 : Ref sig .tc := ⟨.hbm, 714, rfl⟩
abbrev main_v701 : Ref sig .tc := ⟨.hbm, 715, rfl⟩
abbrev main_v702 : Ref sig .tc := ⟨.hbm, 716, rfl⟩
abbrev main_v703 : Ref sig .tc := ⟨.hbm, 717, rfl⟩
abbrev main_v704 : Ref sig .tc := ⟨.hbm, 718, rfl⟩
abbrev main_v705 : Ref sig .tc := ⟨.hbm, 719, rfl⟩
abbrev main_v706 : Ref sig .tc := ⟨.hbm, 720, rfl⟩
abbrev main_v707 : Ref sig .tc := ⟨.hbm, 721, rfl⟩
abbrev main_v708 : Ref sig .tc := ⟨.hbm, 722, rfl⟩
abbrev main_v709 : Ref sig .tc := ⟨.hbm, 723, rfl⟩
abbrev main_v710 : Ref sig .tc := ⟨.hbm, 724, rfl⟩
abbrev main_v711 : Ref sig .tc := ⟨.hbm, 725, rfl⟩
abbrev main_v712 : Ref sig .tc := ⟨.hbm, 726, rfl⟩
abbrev main_v713 : Ref sig .tc := ⟨.hbm, 727, rfl⟩
abbrev main_v714 : Ref sig .tc := ⟨.hbm, 728, rfl⟩
abbrev main_v715 : Ref sig .tc := ⟨.hbm, 729, rfl⟩
abbrev main_v716 : Ref sig .tc := ⟨.hbm, 730, rfl⟩
abbrev main_v717 : Ref sig .tc := ⟨.hbm, 731, rfl⟩
abbrev main_v718 : Ref sig .tc := ⟨.hbm, 732, rfl⟩
abbrev main_v719 : Ref sig .tc := ⟨.hbm, 733, rfl⟩
abbrev main_v720 : Ref sig .tc := ⟨.hbm, 734, rfl⟩
abbrev main_v721 : Ref sig .tc := ⟨.hbm, 735, rfl⟩
abbrev main_v722 : Ref sig .tc := ⟨.hbm, 736, rfl⟩
abbrev main_v723 : Ref sig .tc := ⟨.hbm, 737, rfl⟩
abbrev main_v724 : Ref sig .tc := ⟨.hbm, 738, rfl⟩
abbrev main_v725 : Ref sig .tc := ⟨.hbm, 739, rfl⟩
abbrev main_v726 : Ref sig .tc := ⟨.hbm, 740, rfl⟩
abbrev main_v727 : Ref sig .tc := ⟨.hbm, 741, rfl⟩
abbrev main_v728 : Ref sig .tc := ⟨.hbm, 742, rfl⟩
abbrev main_v729 : Ref sig .tc := ⟨.hbm, 743, rfl⟩
abbrev main_v730 : Ref sig .tc := ⟨.hbm, 744, rfl⟩
abbrev main_v731 : Ref sig .tc := ⟨.hbm, 745, rfl⟩
abbrev main_v732 : Ref sig .tc := ⟨.hbm, 746, rfl⟩
abbrev main_v733 : Ref sig .tc := ⟨.hbm, 747, rfl⟩
abbrev main_v734 : Ref sig .tc := ⟨.hbm, 748, rfl⟩
abbrev main_v735 : Ref sig .tc := ⟨.hbm, 749, rfl⟩
abbrev main_v736 : Ref sig .tc := ⟨.hbm, 750, rfl⟩
abbrev main_v737 : Ref sig .tc := ⟨.hbm, 751, rfl⟩
abbrev main_v738 : Ref sig .tc := ⟨.hbm, 752, rfl⟩
abbrev main_v739 : Ref sig .tc := ⟨.hbm, 753, rfl⟩
abbrev main_v740 : Ref sig .tc := ⟨.hbm, 754, rfl⟩
abbrev main_v741 : Ref sig .tc := ⟨.hbm, 755, rfl⟩
abbrev main_v742 : Ref sig .tc := ⟨.hbm, 756, rfl⟩
abbrev main_v743 : Ref sig .tc := ⟨.hbm, 757, rfl⟩
abbrev main_v744 : Ref sig .tc := ⟨.hbm, 758, rfl⟩
abbrev main_v745 : Ref sig .tc := ⟨.hbm, 759, rfl⟩
abbrev main_v746 : Ref sig .tc := ⟨.hbm, 760, rfl⟩
abbrev main_v747 : Ref sig .tc := ⟨.hbm, 761, rfl⟩
abbrev main_v748 : Ref sig .tc := ⟨.hbm, 762, rfl⟩
abbrev main_v749 : Ref sig .tc := ⟨.hbm, 763, rfl⟩
abbrev main_v750 : Ref sig .tc := ⟨.hbm, 764, rfl⟩
abbrev main_v751 : Ref sig .tc := ⟨.hbm, 765, rfl⟩
abbrev main_v752 : Ref sig .tc := ⟨.hbm, 766, rfl⟩
abbrev main_v753 : Ref sig .tc := ⟨.hbm, 767, rfl⟩
abbrev main_v754 : Ref sig .tc := ⟨.hbm, 768, rfl⟩
abbrev main_v755 : Ref sig .tc := ⟨.hbm, 769, rfl⟩
abbrev main_v756 : Ref sig .tc := ⟨.hbm, 770, rfl⟩
abbrev main_v757 : Ref sig .tc := ⟨.hbm, 771, rfl⟩
abbrev main_v758 : Ref sig .tc := ⟨.hbm, 772, rfl⟩
abbrev main_v759 : Ref sig .tc := ⟨.hbm, 773, rfl⟩
abbrev main_v760 : Ref sig .tc := ⟨.hbm, 774, rfl⟩
abbrev main_v761 : Ref sig .tc := ⟨.hbm, 775, rfl⟩
abbrev main_v762 : Ref sig .tc := ⟨.hbm, 776, rfl⟩
abbrev main_v763 : Ref sig .tc := ⟨.hbm, 777, rfl⟩
abbrev main_v764 : Ref sig .tc := ⟨.hbm, 778, rfl⟩
abbrev main_v765 : Ref sig .tc := ⟨.hbm, 779, rfl⟩
abbrev main_v766 : Ref sig .tc := ⟨.hbm, 780, rfl⟩
abbrev main_v767 : Ref sig .tc := ⟨.hbm, 781, rfl⟩
abbrev main_v768 : Ref sig .tc := ⟨.hbm, 782, rfl⟩
abbrev main_v769 : Ref sig .tc := ⟨.hbm, 783, rfl⟩
abbrev main_v770 : Ref sig .tc := ⟨.hbm, 784, rfl⟩
abbrev main_v771 : Ref sig .tc := ⟨.hbm, 785, rfl⟩
abbrev main_v772 : Ref sig .tc := ⟨.hbm, 786, rfl⟩
abbrev main_v773 : Ref sig .tc := ⟨.hbm, 787, rfl⟩
abbrev main_v774 : Ref sig .tc := ⟨.hbm, 788, rfl⟩
abbrev main_v775 : Ref sig .tc := ⟨.hbm, 789, rfl⟩
abbrev main_v776 : Ref sig .tc := ⟨.hbm, 790, rfl⟩
abbrev main_v777 : Ref sig .tc := ⟨.hbm, 791, rfl⟩
abbrev main_v778 : Ref sig .tc := ⟨.hbm, 792, rfl⟩
abbrev main_v779 : Ref sig .tc := ⟨.hbm, 793, rfl⟩
abbrev main_v780 : Ref sig .tc := ⟨.hbm, 794, rfl⟩
abbrev main_v781 : Ref sig .tc := ⟨.hbm, 795, rfl⟩
abbrev main_v782 : Ref sig .tc := ⟨.hbm, 796, rfl⟩
abbrev main_v783 : Ref sig .tc := ⟨.hbm, 797, rfl⟩
abbrev main_v784 : Ref sig .tc := ⟨.hbm, 798, rfl⟩
abbrev main_v785 : Ref sig .tc := ⟨.hbm, 799, rfl⟩
abbrev main_v786 : Ref sig .tc := ⟨.hbm, 800, rfl⟩
abbrev main_v787 : Ref sig .tc := ⟨.hbm, 801, rfl⟩
abbrev main_v788 : Ref sig .tc := ⟨.hbm, 802, rfl⟩
abbrev main_v789 : Ref sig .tc := ⟨.hbm, 803, rfl⟩
abbrev main_v790 : Ref sig .tc := ⟨.hbm, 804, rfl⟩
abbrev main_v791 : Ref sig .tc := ⟨.hbm, 805, rfl⟩
abbrev main_v792 : Ref sig .tc := ⟨.hbm, 806, rfl⟩
abbrev main_v793 : Ref sig .tc := ⟨.hbm, 807, rfl⟩
abbrev main_v794 : Ref sig .tc := ⟨.hbm, 808, rfl⟩
abbrev main_v795 : Ref sig .tc := ⟨.hbm, 809, rfl⟩
abbrev main_v796 : Ref sig .tc := ⟨.hbm, 810, rfl⟩
abbrev main_v797 : Ref sig .tc := ⟨.hbm, 811, rfl⟩
abbrev main_v798 : Ref sig .tc := ⟨.hbm, 812, rfl⟩
abbrev main_v799 : Ref sig .tc := ⟨.hbm, 813, rfl⟩
abbrev main_v800 : Ref sig .tc := ⟨.hbm, 814, rfl⟩
abbrev main_v801 : Ref sig .tc := ⟨.hbm, 815, rfl⟩
abbrev main_v802 : Ref sig .tc := ⟨.hbm, 816, rfl⟩
abbrev main_v803 : Ref sig .tc := ⟨.hbm, 817, rfl⟩
abbrev main_v804 : Ref sig .tc := ⟨.hbm, 818, rfl⟩
abbrev main_v805 : Ref sig .tc := ⟨.hbm, 819, rfl⟩
abbrev main_v806 : Ref sig .tc := ⟨.hbm, 820, rfl⟩
abbrev main_v807 : Ref sig .tc := ⟨.hbm, 821, rfl⟩
abbrev main_v808 : Ref sig .tc := ⟨.hbm, 822, rfl⟩
abbrev main_v809 : Ref sig .tc := ⟨.hbm, 823, rfl⟩
abbrev main_v810 : Ref sig .tc := ⟨.hbm, 824, rfl⟩
abbrev main_v811 : Ref sig .tc := ⟨.hbm, 825, rfl⟩
abbrev main_v812 : Ref sig .tc := ⟨.hbm, 826, rfl⟩
abbrev main_v813 : Ref sig .tc := ⟨.hbm, 827, rfl⟩
abbrev main_v814 : Ref sig .tc := ⟨.hbm, 828, rfl⟩
abbrev main_v815 : Ref sig .tc := ⟨.hbm, 829, rfl⟩
abbrev main_v816 : Ref sig .tc := ⟨.hbm, 830, rfl⟩
abbrev main_v817 : Ref sig .tc := ⟨.hbm, 831, rfl⟩
abbrev main_v818 : Ref sig .tc := ⟨.hbm, 832, rfl⟩
abbrev main_v819 : Ref sig .tc := ⟨.hbm, 833, rfl⟩
abbrev main_v820 : Ref sig .tc := ⟨.hbm, 834, rfl⟩
abbrev main_v821 : Ref sig .tc := ⟨.hbm, 835, rfl⟩
abbrev main_v822 : Ref sig .tc := ⟨.hbm, 836, rfl⟩
abbrev main_v823 : Ref sig .tc := ⟨.hbm, 837, rfl⟩
abbrev main_v824 : Ref sig .tc := ⟨.hbm, 838, rfl⟩
abbrev main_v825 : Ref sig .tc := ⟨.hbm, 839, rfl⟩
abbrev main_v826 : Ref sig .tc := ⟨.hbm, 840, rfl⟩
abbrev main_v827 : Ref sig .tc := ⟨.hbm, 841, rfl⟩
abbrev main_v828 : Ref sig .tc := ⟨.hbm, 842, rfl⟩
abbrev main_v829 : Ref sig .tc := ⟨.hbm, 843, rfl⟩
abbrev main_v830 : Ref sig .tc := ⟨.hbm, 844, rfl⟩
abbrev main_v831 : Ref sig .tc := ⟨.hbm, 845, rfl⟩
abbrev main_v832 : Ref sig .tc := ⟨.hbm, 846, rfl⟩
abbrev main_v833 : Ref sig .tc := ⟨.hbm, 847, rfl⟩
abbrev main_v834 : Ref sig .tc := ⟨.hbm, 848, rfl⟩
abbrev main_v835 : Ref sig .tc := ⟨.hbm, 849, rfl⟩
abbrev main_v836 : Ref sig .tc := ⟨.hbm, 850, rfl⟩
abbrev main_v837 : Ref sig .tc := ⟨.hbm, 851, rfl⟩
abbrev main_v838 : Ref sig .tc := ⟨.hbm, 852, rfl⟩
abbrev main_v839 : Ref sig .tc := ⟨.hbm, 853, rfl⟩
abbrev main_v840 : Ref sig .tc := ⟨.hbm, 854, rfl⟩
abbrev main_v841 : Ref sig .tc := ⟨.hbm, 855, rfl⟩
abbrev main_v842 : Ref sig .tc := ⟨.hbm, 856, rfl⟩
abbrev main_v843 : Ref sig .tc := ⟨.hbm, 857, rfl⟩
abbrev main_v844 : Ref sig .tc := ⟨.hbm, 858, rfl⟩
abbrev main_v845 : Ref sig .tc := ⟨.hbm, 859, rfl⟩
abbrev main_v846 : Ref sig .tc := ⟨.hbm, 860, rfl⟩
abbrev main_v847 : Ref sig .tc := ⟨.hbm, 861, rfl⟩
abbrev main_v848 : Ref sig .tc := ⟨.hbm, 862, rfl⟩
abbrev main_v849 : Ref sig .tc := ⟨.hbm, 863, rfl⟩
abbrev main_v850 : Ref sig .tc := ⟨.hbm, 864, rfl⟩
abbrev main_v851 : Ref sig .tc := ⟨.hbm, 865, rfl⟩
abbrev main_v852 : Ref sig .tc := ⟨.hbm, 866, rfl⟩
abbrev main_v853 : Ref sig .tc := ⟨.hbm, 867, rfl⟩
abbrev main_v854 : Ref sig .tc := ⟨.hbm, 868, rfl⟩
abbrev main_v855 : Ref sig .tc := ⟨.hbm, 869, rfl⟩
abbrev main_v856 : Ref sig .tc := ⟨.hbm, 870, rfl⟩
abbrev main_v857 : Ref sig .tc := ⟨.hbm, 871, rfl⟩
abbrev main_v858 : Ref sig .tc := ⟨.hbm, 872, rfl⟩
abbrev main_v859 : Ref sig .tc := ⟨.hbm, 873, rfl⟩
abbrev main_v860 : Ref sig .tc := ⟨.hbm, 874, rfl⟩
abbrev main_v861 : Ref sig .tc := ⟨.hbm, 875, rfl⟩
abbrev main_v862 : Ref sig .tc := ⟨.hbm, 876, rfl⟩
abbrev main_v863 : Ref sig .tc := ⟨.hbm, 877, rfl⟩
abbrev main_v864 : Ref sig .tc := ⟨.hbm, 878, rfl⟩
abbrev main_v865 : Ref sig .tc := ⟨.hbm, 879, rfl⟩
abbrev main_v866 : Ref sig .tc := ⟨.hbm, 880, rfl⟩
abbrev main_v867 : Ref sig .tc := ⟨.hbm, 881, rfl⟩
abbrev main_v868 : Ref sig .tc := ⟨.hbm, 882, rfl⟩
abbrev main_v869 : Ref sig .tc := ⟨.hbm, 883, rfl⟩
abbrev main_v870 : Ref sig .tc := ⟨.hbm, 884, rfl⟩
abbrev main_v871 : Ref sig .tc := ⟨.hbm, 885, rfl⟩
abbrev main_v872 : Ref sig .tc := ⟨.hbm, 886, rfl⟩
abbrev main_v873 : Ref sig .tc := ⟨.hbm, 887, rfl⟩
abbrev main_v874 : Ref sig .tc := ⟨.hbm, 888, rfl⟩
abbrev main_v875 : Ref sig .tc := ⟨.hbm, 889, rfl⟩
abbrev main_v876 : Ref sig .tc := ⟨.hbm, 890, rfl⟩
abbrev main_v877 : Ref sig .tc := ⟨.hbm, 891, rfl⟩
abbrev main_v878 : Ref sig .tc := ⟨.hbm, 892, rfl⟩
abbrev main_v879 : Ref sig .tc := ⟨.hbm, 893, rfl⟩
abbrev main_v880 : Ref sig .tc := ⟨.hbm, 894, rfl⟩
abbrev main_v881 : Ref sig .tc := ⟨.hbm, 895, rfl⟩
abbrev main_v882 : Ref sig .tc := ⟨.hbm, 896, rfl⟩
abbrev main_v883 : Ref sig .tc := ⟨.hbm, 897, rfl⟩
abbrev main_v884 : Ref sig .tc := ⟨.hbm, 898, rfl⟩
abbrev main_v885 : Ref sig .tc := ⟨.hbm, 899, rfl⟩
abbrev main_v886 : Ref sig .tc := ⟨.hbm, 900, rfl⟩
abbrev main_v887 : Ref sig .tc := ⟨.hbm, 901, rfl⟩
abbrev main_v888 : Ref sig .tc := ⟨.hbm, 902, rfl⟩
abbrev main_v889 : Ref sig .tc := ⟨.hbm, 903, rfl⟩
abbrev main_v890 : Ref sig .tc := ⟨.hbm, 904, rfl⟩
abbrev main_v891 : Ref sig .tc := ⟨.hbm, 905, rfl⟩
abbrev main_v892 : Ref sig .tc := ⟨.hbm, 906, rfl⟩
abbrev main_v893 : Ref sig .tc := ⟨.hbm, 907, rfl⟩
abbrev main_v894 : Ref sig .tc := ⟨.hbm, 908, rfl⟩
abbrev main_v895 : Ref sig .tc := ⟨.hbm, 909, rfl⟩
abbrev main_v896 : Ref sig .tc := ⟨.hbm, 910, rfl⟩
abbrev main_v897 : Ref sig .tc := ⟨.hbm, 911, rfl⟩
abbrev main_v898 : Ref sig .tc := ⟨.hbm, 912, rfl⟩
abbrev main_v899 : Ref sig .tc := ⟨.hbm, 913, rfl⟩
abbrev main_v900 : Ref sig .tc := ⟨.hbm, 914, rfl⟩
abbrev main_v901 : Ref sig .tc := ⟨.hbm, 915, rfl⟩
abbrev main_v902 : Ref sig .tc := ⟨.hbm, 916, rfl⟩
abbrev main_v903 : Ref sig .tc := ⟨.hbm, 917, rfl⟩
abbrev main_v904 : Ref sig .tc := ⟨.hbm, 918, rfl⟩
abbrev main_v905 : Ref sig .tc := ⟨.hbm, 919, rfl⟩
abbrev main_v906 : Ref sig .tc := ⟨.hbm, 920, rfl⟩
abbrev main_v907 : Ref sig .tc := ⟨.hbm, 921, rfl⟩
abbrev main_v908 : Ref sig .tc := ⟨.hbm, 922, rfl⟩
abbrev main_v909 : Ref sig .tc := ⟨.hbm, 923, rfl⟩
abbrev main_v910 : Ref sig .tc := ⟨.hbm, 924, rfl⟩
abbrev main_v911 : Ref sig .tc := ⟨.hbm, 925, rfl⟩
abbrev main_v912 : Ref sig .tc := ⟨.hbm, 926, rfl⟩
abbrev main_v913 : Ref sig .tc := ⟨.hbm, 927, rfl⟩
abbrev main_v914 : Ref sig .tc := ⟨.hbm, 928, rfl⟩
abbrev main_v915 : Ref sig .tc := ⟨.hbm, 929, rfl⟩
abbrev main_v916 : Ref sig .tc := ⟨.hbm, 930, rfl⟩
abbrev main_v917 : Ref sig .tc := ⟨.hbm, 931, rfl⟩
abbrev main_v918 : Ref sig .tc := ⟨.hbm, 932, rfl⟩
abbrev main_v919 : Ref sig .tc := ⟨.hbm, 933, rfl⟩
abbrev main_v920 : Ref sig .tc := ⟨.hbm, 934, rfl⟩
abbrev main_v921 : Ref sig .tc := ⟨.hbm, 935, rfl⟩
abbrev main_v922 : Ref sig .tc := ⟨.hbm, 936, rfl⟩
abbrev main_v923 : Ref sig .tc := ⟨.hbm, 937, rfl⟩
abbrev main_v924 : Ref sig .tc := ⟨.hbm, 938, rfl⟩
abbrev main_v925 : Ref sig .tc := ⟨.hbm, 939, rfl⟩
abbrev main_v926 : Ref sig .tc := ⟨.hbm, 940, rfl⟩
abbrev main_v927 : Ref sig .tc := ⟨.hbm, 941, rfl⟩
abbrev main_v928 : Ref sig .tc := ⟨.hbm, 942, rfl⟩
abbrev main_v929 : Ref sig .tc := ⟨.hbm, 943, rfl⟩
abbrev main_v930 : Ref sig .tc := ⟨.hbm, 944, rfl⟩
abbrev main_v931 : Ref sig .tc := ⟨.hbm, 945, rfl⟩
abbrev main_v932 : Ref sig .tc := ⟨.hbm, 946, rfl⟩
abbrev main_cst_8 : Ref sig .tc := ⟨.hbm, 947, rfl⟩
abbrev main_v933 : Ref sig .tc := ⟨.hbm, 948, rfl⟩
abbrev main_v934 : Ref sig .tc := ⟨.hbm, 949, rfl⟩
abbrev main_v935 : Ref sig .tc := ⟨.hbm, 950, rfl⟩
abbrev main_v936 : Ref sig .tc := ⟨.hbm, 951, rfl⟩
abbrev main_v937 : Ref sig .tc := ⟨.hbm, 952, rfl⟩
abbrev main_v938 : Ref sig .tc := ⟨.hbm, 953, rfl⟩
abbrev main_v939 : Ref sig .tc := ⟨.hbm, 954, rfl⟩
abbrev main_cst_9 : Ref sig .tc := ⟨.hbm, 955, rfl⟩
abbrev main_v940 : Ref sig .tc := ⟨.hbm, 956, rfl⟩
abbrev main_cst_10 : Ref sig .tc := ⟨.hbm, 957, rfl⟩
abbrev main_v941 : Ref sig .tc := ⟨.hbm, 958, rfl⟩
abbrev main_v942 : Ref sig .tc := ⟨.hbm, 959, rfl⟩
abbrev main_cst_11 : Ref sig .tc := ⟨.hbm, 960, rfl⟩
abbrev main_v943 : Ref sig .tc := ⟨.hbm, 961, rfl⟩
abbrev main_v944 : Ref sig .tc := ⟨.hbm, 962, rfl⟩
abbrev main_v945 : Ref sig .tc := ⟨.hbm, 963, rfl⟩
abbrev main_v946 : Ref sig .tc := ⟨.hbm, 964, rfl⟩
abbrev main_c_12 : Ref sig .tc := ⟨.hbm, 965, rfl⟩
abbrev main_v947 : Ref sig .tc := ⟨.hbm, 966, rfl⟩
abbrev main_v948 : Ref sig .tc := ⟨.hbm, 967, rfl⟩
abbrev main_v949 : Ref sig .tc := ⟨.hbm, 968, rfl⟩
abbrev main_v950 : Ref sig .tc := ⟨.hbm, 969, rfl⟩
abbrev main_v951 : Ref sig .tc := ⟨.hbm, 970, rfl⟩
abbrev main_v952 : Ref sig .tc := ⟨.hbm, 971, rfl⟩
abbrev main_v953 : Ref sig .tc := ⟨.hbm, 972, rfl⟩
abbrev main_v954 : Ref sig .tc := ⟨.hbm, 973, rfl⟩
abbrev main_v955 : Ref sig .tc := ⟨.hbm, 974, rfl⟩
abbrev main_v956 : Ref sig .tc := ⟨.hbm, 975, rfl⟩
abbrev main_v957 : Ref sig .tc := ⟨.hbm, 976, rfl⟩
abbrev main_v958 : Ref sig .tc := ⟨.hbm, 977, rfl⟩
abbrev main_v959 : Ref sig .tc := ⟨.hbm, 978, rfl⟩
abbrev main_v960 : Ref sig .tc := ⟨.hbm, 979, rfl⟩
abbrev main_v961 : Ref sig .tc := ⟨.hbm, 980, rfl⟩
abbrev main_v962 : Ref sig .tc := ⟨.hbm, 981, rfl⟩
abbrev main_v963 : Ref sig .tc := ⟨.hbm, 982, rfl⟩
abbrev main_v964 : Ref sig .tc := ⟨.hbm, 983, rfl⟩
abbrev main_v965 : Ref sig .tc := ⟨.hbm, 984, rfl⟩
abbrev main_v966 : Ref sig .tc := ⟨.hbm, 985, rfl⟩
abbrev main_v967 : Ref sig .tc := ⟨.hbm, 986, rfl⟩
abbrev main_v968 : Ref sig .tc := ⟨.hbm, 987, rfl⟩
abbrev main_v969 : Ref sig .tc := ⟨.hbm, 988, rfl⟩
abbrev main_v970 : Ref sig .tc := ⟨.hbm, 989, rfl⟩
abbrev main_v971 : Ref sig .tc := ⟨.hbm, 990, rfl⟩
abbrev main_v972 : Ref sig .tc := ⟨.hbm, 991, rfl⟩
abbrev main_v973 : Ref sig .tc := ⟨.hbm, 992, rfl⟩
abbrev main_v974 : Ref sig .tc := ⟨.hbm, 993, rfl⟩
abbrev main_v975 : Ref sig .tc := ⟨.hbm, 994, rfl⟩
abbrev main_v976 : Ref sig .tc := ⟨.hbm, 995, rfl⟩
abbrev main_v977 : Ref sig .tc := ⟨.hbm, 996, rfl⟩
abbrev main_v978 : Ref sig .tc := ⟨.hbm, 997, rfl⟩
abbrev main_v979 : Ref sig .tc := ⟨.hbm, 998, rfl⟩
abbrev main_v980 : Ref sig .tc := ⟨.hbm, 999, rfl⟩
abbrev main_v981 : Ref sig .tc := ⟨.hbm, 1000, rfl⟩
abbrev main_v982 : Ref sig .tc := ⟨.hbm, 1001, rfl⟩
abbrev main_v983 : Ref sig .tc := ⟨.hbm, 1002, rfl⟩
abbrev main_v984 : Ref sig .tc := ⟨.hbm, 1003, rfl⟩
abbrev main_v985 : Ref sig .tc := ⟨.hbm, 1004, rfl⟩
abbrev main_v986 : Ref sig .tc := ⟨.hbm, 1005, rfl⟩
abbrev main_v987 : Ref sig .tc := ⟨.hbm, 1006, rfl⟩
abbrev main_v988 : Ref sig .tc := ⟨.hbm, 1007, rfl⟩
abbrev main_v989 : Ref sig .tc := ⟨.hbm, 1008, rfl⟩
abbrev main_v990 : Ref sig .tc := ⟨.hbm, 1009, rfl⟩
abbrev main_v991 : Ref sig .tc := ⟨.hbm, 1010, rfl⟩
abbrev main_v992 : Ref sig .tc := ⟨.hbm, 1011, rfl⟩
abbrev main_v993 : Ref sig .tc := ⟨.hbm, 1012, rfl⟩
abbrev main_v994 : Ref sig .tc := ⟨.hbm, 1013, rfl⟩
abbrev main_v995 : Ref sig .tc := ⟨.hbm, 1014, rfl⟩
abbrev main_v996 : Ref sig .tc := ⟨.hbm, 1015, rfl⟩
abbrev main_v997 : Ref sig .tc := ⟨.hbm, 1016, rfl⟩
abbrev main_v998 : Ref sig .tc := ⟨.hbm, 1017, rfl⟩
abbrev main_v999 : Ref sig .tc := ⟨.hbm, 1018, rfl⟩
abbrev main_v1000 : Ref sig .tc := ⟨.hbm, 1019, rfl⟩
abbrev main_v1001 : Ref sig .tc := ⟨.hbm, 1020, rfl⟩
abbrev main_v1002 : Ref sig .tc := ⟨.hbm, 1021, rfl⟩
abbrev main_v1003 : Ref sig .tc := ⟨.hbm, 1022, rfl⟩
abbrev main_v1004 : Ref sig .tc := ⟨.hbm, 1023, rfl⟩
abbrev main_v1005 : Ref sig .tc := ⟨.hbm, 1024, rfl⟩
abbrev main_v1006 : Ref sig .tc := ⟨.hbm, 1025, rfl⟩
abbrev main_v1007 : Ref sig .tc := ⟨.hbm, 1026, rfl⟩
abbrev main_v1008 : Ref sig .tc := ⟨.hbm, 1027, rfl⟩
abbrev main_v1009 : Ref sig .tc := ⟨.hbm, 1028, rfl⟩
abbrev main_v1010 : Ref sig .tc := ⟨.hbm, 1029, rfl⟩
abbrev main_v1011 : Ref sig .tc := ⟨.hbm, 1030, rfl⟩
abbrev main_v1012 : Ref sig .tc := ⟨.hbm, 1031, rfl⟩
abbrev main_v1013 : Ref sig .tc := ⟨.hbm, 1032, rfl⟩
abbrev main_v1014 : Ref sig .tc := ⟨.hbm, 1033, rfl⟩
abbrev main_v1015 : Ref sig .tc := ⟨.hbm, 1034, rfl⟩
abbrev main_v1016 : Ref sig .tc := ⟨.hbm, 1035, rfl⟩
abbrev main_v1017 : Ref sig .tc := ⟨.hbm, 1036, rfl⟩
abbrev main_v1018 : Ref sig .tc := ⟨.hbm, 1037, rfl⟩
abbrev main_v1019 : Ref sig .tc := ⟨.hbm, 1038, rfl⟩
abbrev main_v1020 : Ref sig .tc := ⟨.hbm, 1039, rfl⟩
abbrev main_v1021 : Ref sig .tc := ⟨.hbm, 1040, rfl⟩
abbrev main_v1022 : Ref sig .tc := ⟨.hbm, 1041, rfl⟩
abbrev main_v1023 : Ref sig .tc := ⟨.hbm, 1042, rfl⟩
abbrev main_v1024 : Ref sig .tc := ⟨.hbm, 1043, rfl⟩
abbrev main_v1025 : Ref sig .tc := ⟨.hbm, 1044, rfl⟩
abbrev main_v1026 : Ref sig .tc := ⟨.hbm, 1045, rfl⟩
abbrev main_v1027 : Ref sig .tc := ⟨.hbm, 1046, rfl⟩
abbrev main_v1028 : Ref sig .tc := ⟨.hbm, 1047, rfl⟩
abbrev main_v1029 : Ref sig .tc := ⟨.hbm, 1048, rfl⟩
abbrev main_v1030 : Ref sig .tc := ⟨.hbm, 1049, rfl⟩
abbrev main_v1031 : Ref sig .tc := ⟨.hbm, 1050, rfl⟩
abbrev main_v1032 : Ref sig .tc := ⟨.hbm, 1051, rfl⟩
abbrev main_v1033 : Ref sig .tc := ⟨.hbm, 1052, rfl⟩
abbrev main_v1034 : Ref sig .tc := ⟨.hbm, 1053, rfl⟩
abbrev main_v1035 : Ref sig .tc := ⟨.hbm, 1054, rfl⟩
abbrev main_v1036 : Ref sig .tc := ⟨.hbm, 1055, rfl⟩
abbrev main_v1037 : Ref sig .tc := ⟨.hbm, 1056, rfl⟩
abbrev main_v1038 : Ref sig .tc := ⟨.hbm, 1057, rfl⟩
abbrev main_v1039 : Ref sig .tc := ⟨.hbm, 1058, rfl⟩
abbrev main_v1040 : Ref sig .tc := ⟨.hbm, 1059, rfl⟩
abbrev main_v1041 : Ref sig .tc := ⟨.hbm, 1060, rfl⟩
abbrev main_v1042 : Ref sig .tc := ⟨.hbm, 1061, rfl⟩
abbrev main_v1043 : Ref sig .tc := ⟨.hbm, 1062, rfl⟩
abbrev main_v1044 : Ref sig .tc := ⟨.hbm, 1063, rfl⟩
abbrev main_v1045 : Ref sig .tc := ⟨.hbm, 1064, rfl⟩
abbrev main_v1046 : Ref sig .tc := ⟨.hbm, 1065, rfl⟩
abbrev main_v1047 : Ref sig .tc := ⟨.hbm, 1066, rfl⟩
abbrev main_v1048 : Ref sig .tc := ⟨.hbm, 1067, rfl⟩
abbrev main_v1049 : Ref sig .tc := ⟨.hbm, 1068, rfl⟩
abbrev main_v1050 : Ref sig .tc := ⟨.hbm, 1069, rfl⟩
abbrev main_v1051 : Ref sig .tc := ⟨.hbm, 1070, rfl⟩
abbrev main_v1052 : Ref sig .tc := ⟨.hbm, 1071, rfl⟩
abbrev main_v1053 : Ref sig .tc := ⟨.hbm, 1072, rfl⟩
abbrev main_v1054 : Ref sig .tc := ⟨.hbm, 1073, rfl⟩
abbrev main_v1055 : Ref sig .tc := ⟨.hbm, 1074, rfl⟩
abbrev main_v1056 : Ref sig .tc := ⟨.hbm, 1075, rfl⟩
abbrev main_v1057 : Ref sig .tc := ⟨.hbm, 1076, rfl⟩
abbrev main_v1058 : Ref sig .tc := ⟨.hbm, 1077, rfl⟩
abbrev main_v1059 : Ref sig .tc := ⟨.hbm, 1078, rfl⟩
abbrev main_v1060 : Ref sig .tc := ⟨.hbm, 1079, rfl⟩
abbrev main_v1061 : Ref sig .tc := ⟨.hbm, 1080, rfl⟩
abbrev main_v1062 : Ref sig .tc := ⟨.hbm, 1081, rfl⟩
abbrev main_v1063 : Ref sig .tc := ⟨.hbm, 1082, rfl⟩
abbrev main_v1064 : Ref sig .tc := ⟨.hbm, 1083, rfl⟩
abbrev main_v1065 : Ref sig .tc := ⟨.hbm, 1084, rfl⟩
abbrev main_v1066 : Ref sig .tc := ⟨.hbm, 1085, rfl⟩
abbrev main_v1067 : Ref sig .tc := ⟨.hbm, 1086, rfl⟩
abbrev main_v1068 : Ref sig .tc := ⟨.hbm, 1087, rfl⟩
abbrev main_v1069 : Ref sig .tc := ⟨.hbm, 1088, rfl⟩
abbrev main_v1070 : Ref sig .tc := ⟨.hbm, 1089, rfl⟩
abbrev main_v1071 : Ref sig .tc := ⟨.hbm, 1090, rfl⟩
abbrev main_v1072 : Ref sig .tc := ⟨.hbm, 1091, rfl⟩
abbrev main_v1073 : Ref sig .tc := ⟨.hbm, 1092, rfl⟩
abbrev main_v1074 : Ref sig .tc := ⟨.hbm, 1093, rfl⟩
abbrev main_v1075 : Ref sig .tc := ⟨.hbm, 1094, rfl⟩
abbrev main_v1076 : Ref sig .tc := ⟨.hbm, 1095, rfl⟩
abbrev main_v1077 : Ref sig .tc := ⟨.hbm, 1096, rfl⟩
abbrev main_v1078 : Ref sig .tc := ⟨.hbm, 1097, rfl⟩
abbrev main_v1079 : Ref sig .tc := ⟨.hbm, 1098, rfl⟩
abbrev main_v1080 : Ref sig .tc := ⟨.hbm, 1099, rfl⟩
abbrev main_v1081 : Ref sig .tc := ⟨.hbm, 1100, rfl⟩
abbrev main_v1082 : Ref sig .tc := ⟨.hbm, 1101, rfl⟩
abbrev main_v1083 : Ref sig .tc := ⟨.hbm, 1102, rfl⟩
abbrev main_v1084 : Ref sig .tc := ⟨.hbm, 1103, rfl⟩
abbrev main_v1085 : Ref sig .tc := ⟨.hbm, 1104, rfl⟩
abbrev main_v1086 : Ref sig .tc := ⟨.hbm, 1105, rfl⟩
abbrev main_v1087 : Ref sig .tc := ⟨.hbm, 1106, rfl⟩
abbrev main_v1088 : Ref sig .tc := ⟨.hbm, 1107, rfl⟩
abbrev main_v1089 : Ref sig .tc := ⟨.hbm, 1108, rfl⟩
abbrev main_v1090 : Ref sig .tc := ⟨.hbm, 1109, rfl⟩
abbrev main_v1091 : Ref sig .tc := ⟨.hbm, 1110, rfl⟩
abbrev main_v1092 : Ref sig .tc := ⟨.hbm, 1111, rfl⟩
abbrev main_v1093 : Ref sig .tc := ⟨.hbm, 1112, rfl⟩
abbrev main_v1094 : Ref sig .tc := ⟨.hbm, 1113, rfl⟩
abbrev main_v1095 : Ref sig .tc := ⟨.hbm, 1114, rfl⟩
abbrev main_v1096 : Ref sig .tc := ⟨.hbm, 1115, rfl⟩
abbrev main_v1097 : Ref sig .tc := ⟨.hbm, 1116, rfl⟩
abbrev main_v1098 : Ref sig .tc := ⟨.hbm, 1117, rfl⟩
abbrev main_v1099 : Ref sig .tc := ⟨.hbm, 1118, rfl⟩
abbrev main_v1100 : Ref sig .tc := ⟨.hbm, 1119, rfl⟩
abbrev main_v1101 : Ref sig .tc := ⟨.hbm, 1120, rfl⟩
abbrev main_v1102 : Ref sig .tc := ⟨.hbm, 1121, rfl⟩
abbrev main_v1103 : Ref sig .tc := ⟨.hbm, 1122, rfl⟩
abbrev main_v1104 : Ref sig .tc := ⟨.hbm, 1123, rfl⟩
abbrev main_v1105 : Ref sig .tc := ⟨.hbm, 1124, rfl⟩
abbrev main_v1106 : Ref sig .tc := ⟨.hbm, 1125, rfl⟩
abbrev main_v1107 : Ref sig .tc := ⟨.hbm, 1126, rfl⟩
abbrev main_v1108 : Ref sig .tc := ⟨.hbm, 1127, rfl⟩
abbrev main_v1109 : Ref sig .tc := ⟨.hbm, 1128, rfl⟩
abbrev main_v1110 : Ref sig .tc := ⟨.hbm, 1129, rfl⟩
abbrev main_v1111 : Ref sig .tc := ⟨.hbm, 1130, rfl⟩
abbrev main_v1112 : Ref sig .tc := ⟨.hbm, 1131, rfl⟩
abbrev main_v1113 : Ref sig .tc := ⟨.hbm, 1132, rfl⟩
abbrev main_v1114 : Ref sig .tc := ⟨.hbm, 1133, rfl⟩
abbrev main_v1115 : Ref sig .tc := ⟨.hbm, 1134, rfl⟩
abbrev main_v1116 : Ref sig .tc := ⟨.hbm, 1135, rfl⟩
abbrev main_v1117 : Ref sig .tc := ⟨.hbm, 1136, rfl⟩
abbrev main_v1118 : Ref sig .tc := ⟨.hbm, 1137, rfl⟩
abbrev main_v1119 : Ref sig .tc := ⟨.hbm, 1138, rfl⟩
abbrev main_v1120 : Ref sig .tc := ⟨.hbm, 1139, rfl⟩
abbrev main_v1121 : Ref sig .tc := ⟨.hbm, 1140, rfl⟩
abbrev main_v1122 : Ref sig .tc := ⟨.hbm, 1141, rfl⟩
abbrev main_v1123 : Ref sig .tc := ⟨.hbm, 1142, rfl⟩
abbrev main_v1124 : Ref sig .tc := ⟨.hbm, 1143, rfl⟩
abbrev main_v1125 : Ref sig .tc := ⟨.hbm, 1144, rfl⟩
abbrev main_v1126 : Ref sig .tc := ⟨.hbm, 1145, rfl⟩
abbrev main_v1127 : Ref sig .tc := ⟨.hbm, 1146, rfl⟩
abbrev main_v1128 : Ref sig .tc := ⟨.hbm, 1147, rfl⟩
abbrev main_v1129 : Ref sig .tc := ⟨.hbm, 1148, rfl⟩
abbrev main_v1130 : Ref sig .tc := ⟨.hbm, 1149, rfl⟩
abbrev main_v1131 : Ref sig .tc := ⟨.hbm, 1150, rfl⟩
abbrev main_v1132 : Ref sig .tc := ⟨.hbm, 1151, rfl⟩
abbrev main_v1133 : Ref sig .tc := ⟨.hbm, 1152, rfl⟩
abbrev main_v1134 : Ref sig .tc := ⟨.hbm, 1153, rfl⟩
abbrev main_v1135 : Ref sig .tc := ⟨.hbm, 1154, rfl⟩
abbrev main_v1136 : Ref sig .tc := ⟨.hbm, 1155, rfl⟩
abbrev main_v1137 : Ref sig .tc := ⟨.hbm, 1156, rfl⟩
abbrev main_v1138 : Ref sig .tc := ⟨.hbm, 1157, rfl⟩
abbrev main_v1139 : Ref sig .tc := ⟨.hbm, 1158, rfl⟩
abbrev main_v1140 : Ref sig .tc := ⟨.hbm, 1159, rfl⟩
abbrev main_v1141 : Ref sig .tc := ⟨.hbm, 1160, rfl⟩
abbrev main_v1142 : Ref sig .tc := ⟨.hbm, 1161, rfl⟩
abbrev main_v1143 : Ref sig .tc := ⟨.hbm, 1162, rfl⟩
abbrev main_v1144 : Ref sig .tc := ⟨.hbm, 1163, rfl⟩
abbrev main_v1145 : Ref sig .tc := ⟨.hbm, 1164, rfl⟩
abbrev main_v1146 : Ref sig .tc := ⟨.hbm, 1165, rfl⟩
abbrev main_v1147 : Ref sig .tc := ⟨.hbm, 1166, rfl⟩
abbrev main_v1148 : Ref sig .tc := ⟨.hbm, 1167, rfl⟩
abbrev main_v1149 : Ref sig .tc := ⟨.hbm, 1168, rfl⟩
abbrev main_v1150 : Ref sig .tc := ⟨.hbm, 1169, rfl⟩
abbrev main_v1151 : Ref sig .tc := ⟨.hbm, 1170, rfl⟩
abbrev main_v1152 : Ref sig .tc := ⟨.hbm, 1171, rfl⟩
abbrev main_v1153 : Ref sig .tc := ⟨.hbm, 1172, rfl⟩
abbrev main_v1154 : Ref sig .tc := ⟨.hbm, 1173, rfl⟩
abbrev main_v1155 : Ref sig .tc := ⟨.hbm, 1174, rfl⟩
abbrev main_v1156 : Ref sig .tc := ⟨.hbm, 1175, rfl⟩
abbrev main_v1157 : Ref sig .tc := ⟨.hbm, 1176, rfl⟩
abbrev main_v1158 : Ref sig .tc := ⟨.hbm, 1177, rfl⟩
abbrev main_v1159 : Ref sig .tc := ⟨.hbm, 1178, rfl⟩
abbrev main_v1160 : Ref sig .tc := ⟨.hbm, 1179, rfl⟩
abbrev main_v1161 : Ref sig .tc := ⟨.hbm, 1180, rfl⟩
abbrev main_v1162 : Ref sig .tc := ⟨.hbm, 1181, rfl⟩
abbrev main_v1163 : Ref sig .tc := ⟨.hbm, 1182, rfl⟩
abbrev main_v1164 : Ref sig .tc := ⟨.hbm, 1183, rfl⟩
abbrev main_v1165 : Ref sig .tc := ⟨.hbm, 1184, rfl⟩
abbrev main_v1166 : Ref sig .tc := ⟨.hbm, 1185, rfl⟩
abbrev main_v1167 : Ref sig .tc := ⟨.hbm, 1186, rfl⟩
abbrev main_v1168 : Ref sig .tc := ⟨.hbm, 1187, rfl⟩
abbrev main_v1169 : Ref sig .tc := ⟨.hbm, 1188, rfl⟩
abbrev main_v1170 : Ref sig .tc := ⟨.hbm, 1189, rfl⟩
abbrev main_v1171 : Ref sig .tc := ⟨.hbm, 1190, rfl⟩
abbrev main_v1172 : Ref sig .tc := ⟨.hbm, 1191, rfl⟩
abbrev main_v1173 : Ref sig .tc := ⟨.hbm, 1192, rfl⟩
abbrev main_v1174 : Ref sig .tc := ⟨.hbm, 1193, rfl⟩
abbrev main_v1175 : Ref sig .tc := ⟨.hbm, 1194, rfl⟩
abbrev main_v1176 : Ref sig .tc := ⟨.hbm, 1195, rfl⟩
abbrev main_v1177 : Ref sig .tc := ⟨.hbm, 1196, rfl⟩
abbrev main_v1178 : Ref sig .tc := ⟨.hbm, 1197, rfl⟩
abbrev main_v1179 : Ref sig .tc := ⟨.hbm, 1198, rfl⟩
abbrev main_v1180 : Ref sig .tc := ⟨.hbm, 1199, rfl⟩
abbrev main_v1181 : Ref sig .tc := ⟨.hbm, 1200, rfl⟩
abbrev main_v1182 : Ref sig .tc := ⟨.hbm, 1201, rfl⟩
abbrev main_v1183 : Ref sig .tc := ⟨.hbm, 1202, rfl⟩
abbrev main_v1184 : Ref sig .tc := ⟨.hbm, 1203, rfl⟩
abbrev main_v1185 : Ref sig .tc := ⟨.hbm, 1204, rfl⟩
abbrev main_v1186 : Ref sig .tc := ⟨.hbm, 1205, rfl⟩
abbrev main_v1187 : Ref sig .tc := ⟨.hbm, 1206, rfl⟩
abbrev main_v1188 : Ref sig .tc := ⟨.hbm, 1207, rfl⟩
abbrev main_v1189 : Ref sig .tc := ⟨.hbm, 1208, rfl⟩
abbrev main_v1190 : Ref sig .tc := ⟨.hbm, 1209, rfl⟩
abbrev main_v1191 : Ref sig .tc := ⟨.hbm, 1210, rfl⟩
abbrev main_v1192 : Ref sig .tc := ⟨.hbm, 1211, rfl⟩
abbrev main_v1193 : Ref sig .tc := ⟨.hbm, 1212, rfl⟩
abbrev main_v1194 : Ref sig .tc := ⟨.hbm, 1213, rfl⟩
abbrev main_v1195 : Ref sig .tc := ⟨.hbm, 1214, rfl⟩
abbrev main_v1196 : Ref sig .tc := ⟨.hbm, 1215, rfl⟩
abbrev main_v1197 : Ref sig .tc := ⟨.hbm, 1216, rfl⟩
abbrev main_v1198 : Ref sig .tc := ⟨.hbm, 1217, rfl⟩
abbrev main_v1199 : Ref sig .tc := ⟨.hbm, 1218, rfl⟩
abbrev main_v1200 : Ref sig .tc := ⟨.hbm, 1219, rfl⟩
abbrev main_v1201 : Ref sig .tc := ⟨.hbm, 1220, rfl⟩
abbrev main_v1202 : Ref sig .tc := ⟨.hbm, 1221, rfl⟩
abbrev main_v1203 : Ref sig .tc := ⟨.hbm, 1222, rfl⟩
abbrev main_v1204 : Ref sig .tc := ⟨.hbm, 1223, rfl⟩
abbrev main_v1205 : Ref sig .tc := ⟨.hbm, 1224, rfl⟩
abbrev main_v1206 : Ref sig .tc := ⟨.hbm, 1225, rfl⟩
abbrev main_v1207 : Ref sig .tc := ⟨.hbm, 1226, rfl⟩
abbrev main_v1208 : Ref sig .tc := ⟨.hbm, 1227, rfl⟩
abbrev main_v1209 : Ref sig .tc := ⟨.hbm, 1228, rfl⟩
abbrev main_v1210 : Ref sig .tc := ⟨.hbm, 1229, rfl⟩
abbrev main_v1211 : Ref sig .tc := ⟨.hbm, 1230, rfl⟩
abbrev main_v1212 : Ref sig .tc := ⟨.hbm, 1231, rfl⟩
abbrev main_v1213 : Ref sig .tc := ⟨.hbm, 1232, rfl⟩
abbrev main_v1214 : Ref sig .tc := ⟨.hbm, 1233, rfl⟩
abbrev main_v1215 : Ref sig .tc := ⟨.hbm, 1234, rfl⟩
abbrev main_v1216 : Ref sig .tc := ⟨.hbm, 1235, rfl⟩
abbrev main_v1217 : Ref sig .tc := ⟨.hbm, 1236, rfl⟩
abbrev main_v1218 : Ref sig .tc := ⟨.hbm, 1237, rfl⟩
abbrev main_v1219 : Ref sig .tc := ⟨.hbm, 1238, rfl⟩
abbrev main_v1220 : Ref sig .tc := ⟨.hbm, 1239, rfl⟩
abbrev main_v1221 : Ref sig .tc := ⟨.hbm, 1240, rfl⟩
abbrev main_v1222 : Ref sig .tc := ⟨.hbm, 1241, rfl⟩
abbrev main_v1223 : Ref sig .tc := ⟨.hbm, 1242, rfl⟩
abbrev main_v1224 : Ref sig .tc := ⟨.hbm, 1243, rfl⟩
abbrev main_v1225 : Ref sig .tc := ⟨.hbm, 1244, rfl⟩
abbrev main_v1226 : Ref sig .tc := ⟨.hbm, 1245, rfl⟩
abbrev main_v1227 : Ref sig .tc := ⟨.hbm, 1246, rfl⟩
abbrev main_v1228 : Ref sig .tc := ⟨.hbm, 1247, rfl⟩
abbrev main_v1229 : Ref sig .tc := ⟨.hbm, 1248, rfl⟩
abbrev main_v1230 : Ref sig .tc := ⟨.hbm, 1249, rfl⟩
abbrev main_v1231 : Ref sig .tc := ⟨.hbm, 1250, rfl⟩
abbrev main_v1232 : Ref sig .tc := ⟨.hbm, 1251, rfl⟩
abbrev main_v1233 : Ref sig .tc := ⟨.hbm, 1252, rfl⟩
abbrev main_v1234 : Ref sig .tc := ⟨.hbm, 1253, rfl⟩
abbrev main_v1235 : Ref sig .tc := ⟨.hbm, 1254, rfl⟩
abbrev main_v1236 : Ref sig .tc := ⟨.hbm, 1255, rfl⟩
abbrev main_v1237 : Ref sig .tc := ⟨.hbm, 1256, rfl⟩
abbrev main_v1238 : Ref sig .tc := ⟨.hbm, 1257, rfl⟩
abbrev main_v1239 : Ref sig .tc := ⟨.hbm, 1258, rfl⟩
abbrev main_v1240 : Ref sig .tc := ⟨.hbm, 1259, rfl⟩
abbrev main_v1241 : Ref sig .tc := ⟨.hbm, 1260, rfl⟩
abbrev main_v1242 : Ref sig .tc := ⟨.hbm, 1261, rfl⟩
abbrev main_v1243 : Ref sig .tc := ⟨.hbm, 1262, rfl⟩
abbrev main_v1244 : Ref sig .tc := ⟨.hbm, 1263, rfl⟩
abbrev main_v1245 : Ref sig .tc := ⟨.hbm, 1264, rfl⟩
abbrev main_v1246 : Ref sig .tc := ⟨.hbm, 1265, rfl⟩
abbrev main_v1247 : Ref sig .tc := ⟨.hbm, 1266, rfl⟩
abbrev main_v1248 : Ref sig .tc := ⟨.hbm, 1267, rfl⟩
abbrev main_v1249 : Ref sig .tc := ⟨.hbm, 1268, rfl⟩
abbrev main_v1250 : Ref sig .tc := ⟨.hbm, 1269, rfl⟩
abbrev main_v1251 : Ref sig .tc := ⟨.hbm, 1270, rfl⟩
abbrev main_v1252 : Ref sig .tc := ⟨.hbm, 1271, rfl⟩
abbrev main_v1253 : Ref sig .tc := ⟨.hbm, 1272, rfl⟩
abbrev main_v1254 : Ref sig .tc := ⟨.hbm, 1273, rfl⟩
abbrev main_v1255 : Ref sig .tc := ⟨.hbm, 1274, rfl⟩
abbrev main_v1256 : Ref sig .tc := ⟨.hbm, 1275, rfl⟩
abbrev main_v1257 : Ref sig .tc := ⟨.hbm, 1276, rfl⟩
abbrev main_v1258 : Ref sig .tc := ⟨.hbm, 1277, rfl⟩
abbrev main_v1259 : Ref sig .tc := ⟨.hbm, 1278, rfl⟩
abbrev main_v1260 : Ref sig .tc := ⟨.hbm, 1279, rfl⟩
abbrev main_v1261 : Ref sig .tc := ⟨.hbm, 1280, rfl⟩
abbrev main_v1262 : Ref sig .tc := ⟨.hbm, 1281, rfl⟩
abbrev main_v1263 : Ref sig .tc := ⟨.hbm, 1282, rfl⟩
abbrev main_v1264 : Ref sig .tc := ⟨.hbm, 1283, rfl⟩
abbrev main_v1265 : Ref sig .tc := ⟨.hbm, 1284, rfl⟩
abbrev main_v1266 : Ref sig .tc := ⟨.hbm, 1285, rfl⟩
abbrev main_v1267 : Ref sig .tc := ⟨.hbm, 1286, rfl⟩
abbrev main_v1268 : Ref sig .tc := ⟨.hbm, 1287, rfl⟩
abbrev main_v1269 : Ref sig .tc := ⟨.hbm, 1288, rfl⟩
abbrev main_v1270 : Ref sig .tc := ⟨.hbm, 1289, rfl⟩
abbrev main_v1271 : Ref sig .tc := ⟨.hbm, 1290, rfl⟩
abbrev main_v1272 : Ref sig .tc := ⟨.hbm, 1291, rfl⟩
abbrev main_v1273 : Ref sig .tc := ⟨.hbm, 1292, rfl⟩
abbrev main_v1274 : Ref sig .tc := ⟨.hbm, 1293, rfl⟩
abbrev main_v1275 : Ref sig .tc := ⟨.hbm, 1294, rfl⟩
abbrev main_v1276 : Ref sig .tc := ⟨.hbm, 1295, rfl⟩
abbrev main_v1277 : Ref sig .tc := ⟨.hbm, 1296, rfl⟩
abbrev main_v1278 : Ref sig .tc := ⟨.hbm, 1297, rfl⟩
abbrev main_v1279 : Ref sig .tc := ⟨.hbm, 1298, rfl⟩
abbrev main_v1280 : Ref sig .tc := ⟨.hbm, 1299, rfl⟩
abbrev main_v1281 : Ref sig .tc := ⟨.hbm, 1300, rfl⟩
abbrev main_v1282 : Ref sig .tc := ⟨.hbm, 1301, rfl⟩
abbrev main_v1283 : Ref sig .tc := ⟨.hbm, 1302, rfl⟩
abbrev main_v1284 : Ref sig .tc := ⟨.hbm, 1303, rfl⟩
abbrev main_v1285 : Ref sig .tc := ⟨.hbm, 1304, rfl⟩
abbrev main_v1286 : Ref sig .tc := ⟨.hbm, 1305, rfl⟩
abbrev main_v1287 : Ref sig .tc := ⟨.hbm, 1306, rfl⟩
abbrev main_v1288 : Ref sig .tc := ⟨.hbm, 1307, rfl⟩
abbrev main_v1289 : Ref sig .tc := ⟨.hbm, 1308, rfl⟩
abbrev main_v1290 : Ref sig .tc := ⟨.hbm, 1309, rfl⟩
abbrev main_v1291 : Ref sig .tc := ⟨.hbm, 1310, rfl⟩
abbrev main_v1292 : Ref sig .tc := ⟨.hbm, 1311, rfl⟩
abbrev main_v1293 : Ref sig .tc := ⟨.hbm, 1312, rfl⟩
abbrev main_v1294 : Ref sig .tc := ⟨.hbm, 1313, rfl⟩
abbrev main_v1295 : Ref sig .tc := ⟨.hbm, 1314, rfl⟩
abbrev main_v1296 : Ref sig .tc := ⟨.hbm, 1315, rfl⟩
abbrev main_v1297 : Ref sig .tc := ⟨.hbm, 1316, rfl⟩
abbrev main_v1298 : Ref sig .tc := ⟨.hbm, 1317, rfl⟩
abbrev main_v1299 : Ref sig .tc := ⟨.hbm, 1318, rfl⟩
abbrev main_v1300 : Ref sig .tc := ⟨.hbm, 1319, rfl⟩
abbrev main_v1301 : Ref sig .tc := ⟨.hbm, 1320, rfl⟩
abbrev main_v1302 : Ref sig .tc := ⟨.hbm, 1321, rfl⟩
abbrev main_v1303 : Ref sig .tc := ⟨.hbm, 1322, rfl⟩
abbrev main_v1304 : Ref sig .tc := ⟨.hbm, 1323, rfl⟩
abbrev main_v1305 : Ref sig .tc := ⟨.hbm, 1324, rfl⟩
abbrev main_v1306 : Ref sig .tc := ⟨.hbm, 1325, rfl⟩
abbrev main_v1307 : Ref sig .tc := ⟨.hbm, 1326, rfl⟩
abbrev main_v1308 : Ref sig .tc := ⟨.hbm, 1327, rfl⟩
abbrev main_v1309 : Ref sig .tc := ⟨.hbm, 1328, rfl⟩
abbrev main_v1310 : Ref sig .tc := ⟨.hbm, 1329, rfl⟩
abbrev main_v1311 : Ref sig .tc := ⟨.hbm, 1330, rfl⟩
abbrev main_v1312 : Ref sig .tc := ⟨.hbm, 1331, rfl⟩
abbrev main_v1313 : Ref sig .tc := ⟨.hbm, 1332, rfl⟩
abbrev main_v1314 : Ref sig .tc := ⟨.hbm, 1333, rfl⟩
abbrev main_v1315 : Ref sig .tc := ⟨.hbm, 1334, rfl⟩
abbrev main_v1316 : Ref sig .tc := ⟨.hbm, 1335, rfl⟩
abbrev main_v1317 : Ref sig .tc := ⟨.hbm, 1336, rfl⟩
abbrev main_v1318 : Ref sig .tc := ⟨.hbm, 1337, rfl⟩
abbrev main_v1319 : Ref sig .tc := ⟨.hbm, 1338, rfl⟩
abbrev main_v1320 : Ref sig .tc := ⟨.hbm, 1339, rfl⟩
abbrev main_v1321 : Ref sig .tc := ⟨.hbm, 1340, rfl⟩
abbrev main_v1322 : Ref sig .tc := ⟨.hbm, 1341, rfl⟩
abbrev main_v1323 : Ref sig .tc := ⟨.hbm, 1342, rfl⟩
abbrev main_v1324 : Ref sig .tc := ⟨.hbm, 1343, rfl⟩
abbrev main_v1325 : Ref sig .tc := ⟨.hbm, 1344, rfl⟩
abbrev main_v1326 : Ref sig .tc := ⟨.hbm, 1345, rfl⟩
abbrev main_v1327 : Ref sig .tc := ⟨.hbm, 1346, rfl⟩
abbrev main_v1328 : Ref sig .tc := ⟨.hbm, 1347, rfl⟩
abbrev main_v1329 : Ref sig .tc := ⟨.hbm, 1348, rfl⟩
abbrev main_v1330 : Ref sig .tc := ⟨.hbm, 1349, rfl⟩
abbrev main_v1331 : Ref sig .tc := ⟨.hbm, 1350, rfl⟩
abbrev main_v1332 : Ref sig .tc := ⟨.hbm, 1351, rfl⟩
abbrev main_v1333 : Ref sig .tc := ⟨.hbm, 1352, rfl⟩
abbrev main_v1334 : Ref sig .tc := ⟨.hbm, 1353, rfl⟩
abbrev main_v1335 : Ref sig .tc := ⟨.hbm, 1354, rfl⟩
abbrev main_v1336 : Ref sig .tc := ⟨.hbm, 1355, rfl⟩
abbrev main_v1337 : Ref sig .tc := ⟨.hbm, 1356, rfl⟩
abbrev main_v1338 : Ref sig .tc := ⟨.hbm, 1357, rfl⟩
abbrev main_v1339 : Ref sig .tc := ⟨.hbm, 1358, rfl⟩
abbrev main_v1340 : Ref sig .tc := ⟨.hbm, 1359, rfl⟩
abbrev main_v1341 : Ref sig .tc := ⟨.hbm, 1360, rfl⟩
abbrev main_v1342 : Ref sig .tc := ⟨.hbm, 1361, rfl⟩
abbrev main_v1343 : Ref sig .tc := ⟨.hbm, 1362, rfl⟩
abbrev main_v1344 : Ref sig .tc := ⟨.hbm, 1363, rfl⟩
abbrev main_v1345 : Ref sig .tc := ⟨.hbm, 1364, rfl⟩
abbrev main_v1346 : Ref sig .tc := ⟨.hbm, 1365, rfl⟩
abbrev main_v1347 : Ref sig .tc := ⟨.hbm, 1366, rfl⟩
abbrev main_v1348 : Ref sig .tc := ⟨.hbm, 1367, rfl⟩
abbrev main_v1349 : Ref sig .tc := ⟨.hbm, 1368, rfl⟩
abbrev main_v1350 : Ref sig .tc := ⟨.hbm, 1369, rfl⟩
abbrev main_v1351 : Ref sig .tc := ⟨.hbm, 1370, rfl⟩
abbrev main_v1352 : Ref sig .tc := ⟨.hbm, 1371, rfl⟩
abbrev main_v1353 : Ref sig .tc := ⟨.hbm, 1372, rfl⟩
abbrev main_v1354 : Ref sig .tc := ⟨.hbm, 1373, rfl⟩
abbrev main_v1355 : Ref sig .tc := ⟨.hbm, 1374, rfl⟩
abbrev main_v1356 : Ref sig .tc := ⟨.hbm, 1375, rfl⟩
abbrev main_v1357 : Ref sig .tc := ⟨.hbm, 1376, rfl⟩
abbrev main_v1358 : Ref sig .tc := ⟨.hbm, 1377, rfl⟩
abbrev main_v1359 : Ref sig .tc := ⟨.hbm, 1378, rfl⟩
abbrev main_v1360 : Ref sig .tc := ⟨.hbm, 1379, rfl⟩
abbrev main_v1361 : Ref sig .tc := ⟨.hbm, 1380, rfl⟩
abbrev main_v1362 : Ref sig .tc := ⟨.hbm, 1381, rfl⟩
abbrev main_v1363 : Ref sig .tc := ⟨.hbm, 1382, rfl⟩
abbrev main_v1364 : Ref sig .tc := ⟨.hbm, 1383, rfl⟩
abbrev main_v1365 : Ref sig .tc := ⟨.hbm, 1384, rfl⟩
abbrev main_v1366 : Ref sig .tc := ⟨.hbm, 1385, rfl⟩
abbrev main_v1367 : Ref sig .tc := ⟨.hbm, 1386, rfl⟩
abbrev main_v1368 : Ref sig .tc := ⟨.hbm, 1387, rfl⟩
abbrev main_v1369 : Ref sig .tc := ⟨.hbm, 1388, rfl⟩
abbrev main_v1370 : Ref sig .tc := ⟨.hbm, 1389, rfl⟩
abbrev main_v1371 : Ref sig .tc := ⟨.hbm, 1390, rfl⟩
abbrev main_v1372 : Ref sig .tc := ⟨.hbm, 1391, rfl⟩
abbrev main_v1373 : Ref sig .tc := ⟨.hbm, 1392, rfl⟩
abbrev main_v1374 : Ref sig .tc := ⟨.hbm, 1393, rfl⟩
abbrev main_v1375 : Ref sig .tc := ⟨.hbm, 1394, rfl⟩
abbrev main_v1376 : Ref sig .tc := ⟨.hbm, 1395, rfl⟩
abbrev main_v1377 : Ref sig .tc := ⟨.hbm, 1396, rfl⟩
abbrev main_v1378 : Ref sig .tc := ⟨.hbm, 1397, rfl⟩
abbrev main_v1379 : Ref sig .tc := ⟨.hbm, 1398, rfl⟩
abbrev main_v1380 : Ref sig .tc := ⟨.hbm, 1399, rfl⟩
abbrev main_v1381 : Ref sig .tc := ⟨.hbm, 1400, rfl⟩
abbrev main_v1382 : Ref sig .tc := ⟨.hbm, 1401, rfl⟩
abbrev main_v1383 : Ref sig .tc := ⟨.hbm, 1402, rfl⟩
abbrev main_v1384 : Ref sig .tc := ⟨.hbm, 1403, rfl⟩
abbrev main_v1385 : Ref sig .tc := ⟨.hbm, 1404, rfl⟩
abbrev main_v1386 : Ref sig .tc := ⟨.hbm, 1405, rfl⟩
abbrev main_v1387 : Ref sig .tc := ⟨.hbm, 1406, rfl⟩
abbrev main_v1388 : Ref sig .tc := ⟨.hbm, 1407, rfl⟩
abbrev main_v1389 : Ref sig .tc := ⟨.hbm, 1408, rfl⟩
abbrev main_v1390 : Ref sig .tc := ⟨.hbm, 1409, rfl⟩
abbrev main_v1391 : Ref sig .tc := ⟨.hbm, 1410, rfl⟩
abbrev main_v1392 : Ref sig .tc := ⟨.hbm, 1411, rfl⟩
abbrev main_v1393 : Ref sig .tc := ⟨.hbm, 1412, rfl⟩
abbrev main_v1394 : Ref sig .tc := ⟨.hbm, 1413, rfl⟩
abbrev main_v1395 : Ref sig .tc := ⟨.hbm, 1414, rfl⟩
abbrev main_v1396 : Ref sig .tc := ⟨.hbm, 1415, rfl⟩
abbrev main_v1397 : Ref sig .tc := ⟨.hbm, 1416, rfl⟩
abbrev main_v1398 : Ref sig .tc := ⟨.hbm, 1417, rfl⟩
abbrev main_v1399 : Ref sig .tc := ⟨.hbm, 1418, rfl⟩
abbrev main_v1400 : Ref sig .tc := ⟨.hbm, 1419, rfl⟩
abbrev main_v1401 : Ref sig .tc := ⟨.hbm, 1420, rfl⟩
abbrev main_v1402 : Ref sig .tc := ⟨.hbm, 1421, rfl⟩
abbrev main_v1403 : Ref sig .tc := ⟨.hbm, 1422, rfl⟩
abbrev main_v1404 : Ref sig .tc := ⟨.hbm, 1423, rfl⟩
abbrev main_v1405 : Ref sig .tc := ⟨.hbm, 1424, rfl⟩
abbrev main_v1406 : Ref sig .tc := ⟨.hbm, 1425, rfl⟩
abbrev main_v1407 : Ref sig .tc := ⟨.hbm, 1426, rfl⟩
abbrev main_v1408 : Ref sig .tc := ⟨.hbm, 1427, rfl⟩
abbrev main_v1409 : Ref sig .tc := ⟨.hbm, 1428, rfl⟩
abbrev main_v1410 : Ref sig .tc := ⟨.hbm, 1429, rfl⟩
abbrev main_v1411 : Ref sig .tc := ⟨.hbm, 1430, rfl⟩
abbrev main_v1412 : Ref sig .tc := ⟨.hbm, 1431, rfl⟩
abbrev main_v1413 : Ref sig .tc := ⟨.hbm, 1432, rfl⟩
abbrev main_v1414 : Ref sig .tc := ⟨.hbm, 1433, rfl⟩
abbrev main_v1415 : Ref sig .tc := ⟨.hbm, 1434, rfl⟩
abbrev main_v1416 : Ref sig .tc := ⟨.hbm, 1435, rfl⟩
abbrev main_v1417 : Ref sig .tc := ⟨.hbm, 1436, rfl⟩
abbrev main_v1418 : Ref sig .tc := ⟨.hbm, 1437, rfl⟩
abbrev main_v1419 : Ref sig .tc := ⟨.hbm, 1438, rfl⟩
abbrev main_v1420 : Ref sig .tc := ⟨.hbm, 1439, rfl⟩
abbrev main_v1421 : Ref sig .tc := ⟨.hbm, 1440, rfl⟩
abbrev main_v1422 : Ref sig .tc := ⟨.hbm, 1441, rfl⟩
abbrev main_v1423 : Ref sig .tc := ⟨.hbm, 1442, rfl⟩
abbrev main_v1424 : Ref sig .tc := ⟨.hbm, 1443, rfl⟩
abbrev main_v1425 : Ref sig .tc := ⟨.hbm, 1444, rfl⟩
abbrev main_v1426 : Ref sig .tc := ⟨.hbm, 1445, rfl⟩
abbrev main_v1427 : Ref sig .tc := ⟨.hbm, 1446, rfl⟩
abbrev main_v1428 : Ref sig .tc := ⟨.hbm, 1447, rfl⟩
abbrev main_v1429 : Ref sig .tc := ⟨.hbm, 1448, rfl⟩
abbrev main_v1430 : Ref sig .tc := ⟨.hbm, 1449, rfl⟩
abbrev main_v1431 : Ref sig .tc := ⟨.hbm, 1450, rfl⟩
abbrev main_v1432 : Ref sig .tc := ⟨.hbm, 1451, rfl⟩
abbrev main_v1433 : Ref sig .tc := ⟨.hbm, 1452, rfl⟩
abbrev main_v1434 : Ref sig .tc := ⟨.hbm, 1453, rfl⟩
abbrev main_v1435 : Ref sig .tc := ⟨.hbm, 1454, rfl⟩
abbrev main_v1436 : Ref sig .tc := ⟨.hbm, 1455, rfl⟩
abbrev main_v1437 : Ref sig .tc := ⟨.hbm, 1456, rfl⟩
abbrev main_v1438 : Ref sig .tc := ⟨.hbm, 1457, rfl⟩
abbrev main_v1439 : Ref sig .tc := ⟨.hbm, 1458, rfl⟩
abbrev main_v1440 : Ref sig .tc := ⟨.hbm, 1459, rfl⟩
abbrev main_v1441 : Ref sig .tc := ⟨.hbm, 1460, rfl⟩
abbrev main_v1442 : Ref sig .tc := ⟨.hbm, 1461, rfl⟩
abbrev main_v1443 : Ref sig .tc := ⟨.hbm, 1462, rfl⟩
abbrev main_v1444 : Ref sig .tc := ⟨.hbm, 1463, rfl⟩
abbrev main_v1445 : Ref sig .tc := ⟨.hbm, 1464, rfl⟩
abbrev main_v1446 : Ref sig .tc := ⟨.hbm, 1465, rfl⟩
abbrev main_v1447 : Ref sig .tc := ⟨.hbm, 1466, rfl⟩
abbrev main_v1448 : Ref sig .tc := ⟨.hbm, 1467, rfl⟩
abbrev main_v1449 : Ref sig .tc := ⟨.hbm, 1468, rfl⟩
abbrev main_v1450 : Ref sig .tc := ⟨.hbm, 1469, rfl⟩
abbrev main_v1451 : Ref sig .tc := ⟨.hbm, 1470, rfl⟩
abbrev main_v1452 : Ref sig .tc := ⟨.hbm, 1471, rfl⟩
abbrev main_v1453 : Ref sig .tc := ⟨.hbm, 1472, rfl⟩
abbrev main_v1454 : Ref sig .tc := ⟨.hbm, 1473, rfl⟩
abbrev main_v1455 : Ref sig .tc := ⟨.hbm, 1474, rfl⟩
abbrev main_v1456 : Ref sig .tc := ⟨.hbm, 1475, rfl⟩
abbrev main_v1457 : Ref sig .tc := ⟨.hbm, 1476, rfl⟩
abbrev main_v1458 : Ref sig .tc := ⟨.hbm, 1477, rfl⟩
abbrev main_v1459 : Ref sig .tc := ⟨.hbm, 1478, rfl⟩
abbrev main_v1460 : Ref sig .tc := ⟨.hbm, 1479, rfl⟩
abbrev main_v1461 : Ref sig .tc := ⟨.hbm, 1480, rfl⟩
abbrev main_v1462 : Ref sig .tc := ⟨.hbm, 1481, rfl⟩
abbrev main_v1463 : Ref sig .tc := ⟨.hbm, 1482, rfl⟩
abbrev main_v1464 : Ref sig .tc := ⟨.hbm, 1483, rfl⟩
abbrev main_v1465 : Ref sig .tc := ⟨.hbm, 1484, rfl⟩
abbrev main_v1466 : Ref sig .tc := ⟨.hbm, 1485, rfl⟩
abbrev main_v1467 : Ref sig .tc := ⟨.hbm, 1486, rfl⟩
abbrev main_v1468 : Ref sig .tc := ⟨.hbm, 1487, rfl⟩
abbrev main_v1469 : Ref sig .tc := ⟨.hbm, 1488, rfl⟩
abbrev main_v1470 : Ref sig .tc := ⟨.hbm, 1489, rfl⟩
abbrev main_v1471 : Ref sig .tc := ⟨.hbm, 1490, rfl⟩
abbrev main_v1472 : Ref sig .tc := ⟨.hbm, 1491, rfl⟩
abbrev main_v1473 : Ref sig .tc := ⟨.hbm, 1492, rfl⟩
abbrev main_v1474 : Ref sig .tc := ⟨.hbm, 1493, rfl⟩
abbrev main_v1475 : Ref sig .tc := ⟨.hbm, 1494, rfl⟩
abbrev main_v1476 : Ref sig .tc := ⟨.hbm, 1495, rfl⟩
abbrev main_v1477 : Ref sig .tc := ⟨.hbm, 1496, rfl⟩
abbrev main_v1478 : Ref sig .tc := ⟨.hbm, 1497, rfl⟩
abbrev main_v1479 : Ref sig .tc := ⟨.hbm, 1498, rfl⟩
abbrev main_v1480 : Ref sig .tc := ⟨.hbm, 1499, rfl⟩
abbrev main_v1481 : Ref sig .tc := ⟨.hbm, 1500, rfl⟩
abbrev main_v1482 : Ref sig .tc := ⟨.hbm, 1501, rfl⟩
abbrev main_v1483 : Ref sig .tc := ⟨.hbm, 1502, rfl⟩
abbrev main_v1484 : Ref sig .tc := ⟨.hbm, 1503, rfl⟩
abbrev main_v1485 : Ref sig .tc := ⟨.hbm, 1504, rfl⟩
abbrev main_v1486 : Ref sig .tc := ⟨.hbm, 1505, rfl⟩
abbrev main_v1487 : Ref sig .tc := ⟨.hbm, 1506, rfl⟩
abbrev main_v1488 : Ref sig .tc := ⟨.hbm, 1507, rfl⟩
abbrev main_v1489 : Ref sig .tc := ⟨.hbm, 1508, rfl⟩
abbrev main_v1490 : Ref sig .tc := ⟨.hbm, 1509, rfl⟩
abbrev main_v1491 : Ref sig .tc := ⟨.hbm, 1510, rfl⟩
abbrev main_v1492 : Ref sig .tc := ⟨.hbm, 1511, rfl⟩
abbrev main_v1493 : Ref sig .tc := ⟨.hbm, 1512, rfl⟩
abbrev main_v1494 : Ref sig .tc := ⟨.hbm, 1513, rfl⟩
abbrev main_v1495 : Ref sig .tc := ⟨.hbm, 1514, rfl⟩
abbrev main_v1496 : Ref sig .tc := ⟨.hbm, 1515, rfl⟩
abbrev main_v1497 : Ref sig .tc := ⟨.hbm, 1516, rfl⟩
abbrev main_v1498 : Ref sig .tc := ⟨.hbm, 1517, rfl⟩
abbrev main_v1499 : Ref sig .tc := ⟨.hbm, 1518, rfl⟩
abbrev main_v1500 : Ref sig .tc := ⟨.hbm, 1519, rfl⟩
abbrev main_v1501 : Ref sig .tc := ⟨.hbm, 1520, rfl⟩
abbrev main_v1502 : Ref sig .tc := ⟨.hbm, 1521, rfl⟩
abbrev main_v1503 : Ref sig .tc := ⟨.hbm, 1522, rfl⟩
abbrev main_v1504 : Ref sig .tc := ⟨.hbm, 1523, rfl⟩
abbrev main_v1505 : Ref sig .tc := ⟨.hbm, 1524, rfl⟩
abbrev main_v1506 : Ref sig .tc := ⟨.hbm, 1525, rfl⟩
abbrev main_v1507 : Ref sig .tc := ⟨.hbm, 1526, rfl⟩
abbrev main_v1508 : Ref sig .tc := ⟨.hbm, 1527, rfl⟩
abbrev main_v1509 : Ref sig .tc := ⟨.hbm, 1528, rfl⟩
abbrev main_v1510 : Ref sig .tc := ⟨.hbm, 1529, rfl⟩
abbrev main_v1511 : Ref sig .tc := ⟨.hbm, 1530, rfl⟩
abbrev main_v1512 : Ref sig .tc := ⟨.hbm, 1531, rfl⟩
abbrev main_v1513 : Ref sig .tc := ⟨.hbm, 1532, rfl⟩
abbrev main_v1514 : Ref sig .tc := ⟨.hbm, 1533, rfl⟩
abbrev main_v1515 : Ref sig .tc := ⟨.hbm, 1534, rfl⟩
abbrev main_v1516 : Ref sig .tc := ⟨.hbm, 1535, rfl⟩
abbrev main_v1517 : Ref sig .tc := ⟨.hbm, 1536, rfl⟩
abbrev main_v1518 : Ref sig .tc := ⟨.hbm, 1537, rfl⟩
abbrev main_v1519 : Ref sig .tc := ⟨.hbm, 1538, rfl⟩
abbrev main_v1520 : Ref sig .tc := ⟨.hbm, 1539, rfl⟩
abbrev main_v1521 : Ref sig .tc := ⟨.hbm, 1540, rfl⟩
abbrev main_v1522 : Ref sig .tc := ⟨.hbm, 1541, rfl⟩
abbrev main_v1523 : Ref sig .tc := ⟨.hbm, 1542, rfl⟩
abbrev main_v1524 : Ref sig .tc := ⟨.hbm, 1543, rfl⟩
abbrev main_v1525 : Ref sig .tc := ⟨.hbm, 1544, rfl⟩
abbrev main_v1526 : Ref sig .tc := ⟨.hbm, 1545, rfl⟩
abbrev main_v1527 : Ref sig .tc := ⟨.hbm, 1546, rfl⟩
abbrev main_v1528 : Ref sig .tc := ⟨.hbm, 1547, rfl⟩
abbrev main_v1529 : Ref sig .tc := ⟨.hbm, 1548, rfl⟩
abbrev main_v1530 : Ref sig .tc := ⟨.hbm, 1549, rfl⟩
abbrev main_v1531 : Ref sig .tc := ⟨.hbm, 1550, rfl⟩
abbrev main_v1532 : Ref sig .tc := ⟨.hbm, 1551, rfl⟩
abbrev main_v1533 : Ref sig .tc := ⟨.hbm, 1552, rfl⟩
abbrev main_v1534 : Ref sig .tc := ⟨.hbm, 1553, rfl⟩
abbrev main_v1535 : Ref sig .tc := ⟨.hbm, 1554, rfl⟩
abbrev main_v1536 : Ref sig .tc := ⟨.hbm, 1555, rfl⟩
abbrev main_v1537 : Ref sig .tc := ⟨.hbm, 1556, rfl⟩
abbrev main_v1538 : Ref sig .tc := ⟨.hbm, 1557, rfl⟩
abbrev main_v1539 : Ref sig .tc := ⟨.hbm, 1558, rfl⟩
abbrev main_v1540 : Ref sig .tc := ⟨.hbm, 1559, rfl⟩
abbrev main_v1541 : Ref sig .tc := ⟨.hbm, 1560, rfl⟩
abbrev main_v1542 : Ref sig .tc := ⟨.hbm, 1561, rfl⟩
abbrev main_v1543 : Ref sig .tc := ⟨.hbm, 1562, rfl⟩
abbrev main_v1544 : Ref sig .tc := ⟨.hbm, 1563, rfl⟩
abbrev main_v1545 : Ref sig .tc := ⟨.hbm, 1564, rfl⟩
abbrev main_v1546 : Ref sig .tc := ⟨.hbm, 1565, rfl⟩
abbrev main_v1547 : Ref sig .tc := ⟨.hbm, 1566, rfl⟩
abbrev main_v1548 : Ref sig .tc := ⟨.hbm, 1567, rfl⟩
abbrev main_v1549 : Ref sig .tc := ⟨.hbm, 1568, rfl⟩
abbrev main_v1550 : Ref sig .tc := ⟨.hbm, 1569, rfl⟩
abbrev main_v1551 : Ref sig .tc := ⟨.hbm, 1570, rfl⟩
abbrev main_v1552 : Ref sig .tc := ⟨.hbm, 1571, rfl⟩
abbrev main_v1553 : Ref sig .tc := ⟨.hbm, 1572, rfl⟩
abbrev main_v1554 : Ref sig .tc := ⟨.hbm, 1573, rfl⟩
abbrev main_v1555 : Ref sig .tc := ⟨.hbm, 1574, rfl⟩
abbrev main_v1556 : Ref sig .tc := ⟨.hbm, 1575, rfl⟩
abbrev main_v1557 : Ref sig .tc := ⟨.hbm, 1576, rfl⟩
abbrev main_v1558 : Ref sig .tc := ⟨.hbm, 1577, rfl⟩
abbrev main_v1559 : Ref sig .tc := ⟨.hbm, 1578, rfl⟩
abbrev main_v1560 : Ref sig .tc := ⟨.hbm, 1579, rfl⟩
abbrev main_v1561 : Ref sig .tc := ⟨.hbm, 1580, rfl⟩
abbrev main_v1562 : Ref sig .tc := ⟨.hbm, 1581, rfl⟩
abbrev main_v1563 : Ref sig .tc := ⟨.hbm, 1582, rfl⟩
abbrev main_v1564 : Ref sig .tc := ⟨.hbm, 1583, rfl⟩
abbrev main_v1565 : Ref sig .tc := ⟨.hbm, 1584, rfl⟩
abbrev main_v1566 : Ref sig .tc := ⟨.hbm, 1585, rfl⟩
abbrev main_v1567 : Ref sig .tc := ⟨.hbm, 1586, rfl⟩
abbrev main_v1568 : Ref sig .tc := ⟨.hbm, 1587, rfl⟩
abbrev main_v1569 : Ref sig .tc := ⟨.hbm, 1588, rfl⟩
abbrev main_v1570 : Ref sig .tc := ⟨.hbm, 1589, rfl⟩
abbrev main_v1571 : Ref sig .tc := ⟨.hbm, 1590, rfl⟩
abbrev main_v1572 : Ref sig .tc := ⟨.hbm, 1591, rfl⟩
abbrev main_v1573 : Ref sig .tc := ⟨.hbm, 1592, rfl⟩
abbrev main_v1574 : Ref sig .tc := ⟨.hbm, 1593, rfl⟩
abbrev main_v1575 : Ref sig .tc := ⟨.hbm, 1594, rfl⟩
abbrev main_v1576 : Ref sig .tc := ⟨.hbm, 1595, rfl⟩
abbrev main_v1577 : Ref sig .tc := ⟨.hbm, 1596, rfl⟩
abbrev main_v1578 : Ref sig .tc := ⟨.hbm, 1597, rfl⟩
abbrev main_v1579 : Ref sig .tc := ⟨.hbm, 1598, rfl⟩
abbrev main_v1580 : Ref sig .tc := ⟨.hbm, 1599, rfl⟩
abbrev main_v1581 : Ref sig .tc := ⟨.hbm, 1600, rfl⟩
abbrev main_v1582 : Ref sig .tc := ⟨.hbm, 1601, rfl⟩
abbrev main_v1583 : Ref sig .tc := ⟨.hbm, 1602, rfl⟩
abbrev main_v1584 : Ref sig .tc := ⟨.hbm, 1603, rfl⟩
abbrev main_v1585 : Ref sig .tc := ⟨.hbm, 1604, rfl⟩
abbrev main_v1586 : Ref sig .tc := ⟨.hbm, 1605, rfl⟩
abbrev main_v1587 : Ref sig .tc := ⟨.hbm, 1606, rfl⟩
abbrev main_v1588 : Ref sig .tc := ⟨.hbm, 1607, rfl⟩
abbrev main_v1589 : Ref sig .tc := ⟨.hbm, 1608, rfl⟩
abbrev main_v1590 : Ref sig .tc := ⟨.hbm, 1609, rfl⟩
abbrev main_v1591 : Ref sig .tc := ⟨.hbm, 1610, rfl⟩
abbrev main_v1592 : Ref sig .tc := ⟨.hbm, 1611, rfl⟩
abbrev main_v1593 : Ref sig .tc := ⟨.hbm, 1612, rfl⟩
abbrev main_v1594 : Ref sig .tc := ⟨.hbm, 1613, rfl⟩
abbrev main_v1595 : Ref sig .tc := ⟨.hbm, 1614, rfl⟩
abbrev main_v1596 : Ref sig .tc := ⟨.hbm, 1615, rfl⟩
abbrev main_v1597 : Ref sig .tc := ⟨.hbm, 1616, rfl⟩
abbrev main_v1598 : Ref sig .tc := ⟨.hbm, 1617, rfl⟩
abbrev main_v1599 : Ref sig .tc := ⟨.hbm, 1618, rfl⟩
abbrev main_v1600 : Ref sig .tc := ⟨.hbm, 1619, rfl⟩
abbrev main_v1601 : Ref sig .tc := ⟨.hbm, 1620, rfl⟩
abbrev main_v1602 : Ref sig .tc := ⟨.hbm, 1621, rfl⟩
abbrev main_v1603 : Ref sig .tc := ⟨.hbm, 1622, rfl⟩
abbrev main_v1604 : Ref sig .tc := ⟨.hbm, 1623, rfl⟩
abbrev main_v1605 : Ref sig .tc := ⟨.hbm, 1624, rfl⟩
abbrev main_v1606 : Ref sig .tc := ⟨.hbm, 1625, rfl⟩
abbrev main_v1607 : Ref sig .tc := ⟨.hbm, 1626, rfl⟩
abbrev main_v1608 : Ref sig .tc := ⟨.hbm, 1627, rfl⟩
abbrev main_v1609 : Ref sig .tc := ⟨.hbm, 1628, rfl⟩
abbrev main_v1610 : Ref sig .tc := ⟨.hbm, 1629, rfl⟩
abbrev main_v1611 : Ref sig .tc := ⟨.hbm, 1630, rfl⟩
abbrev main_v1612 : Ref sig .tc := ⟨.hbm, 1631, rfl⟩
abbrev main_v1613 : Ref sig .tc := ⟨.hbm, 1632, rfl⟩
abbrev main_v1614 : Ref sig .tc := ⟨.hbm, 1633, rfl⟩
abbrev main_v1615 : Ref sig .tc := ⟨.hbm, 1634, rfl⟩
abbrev main_v1616 : Ref sig .tc := ⟨.hbm, 1635, rfl⟩
abbrev main_v1617 : Ref sig .tc := ⟨.hbm, 1636, rfl⟩
abbrev main_v1618 : Ref sig .tc := ⟨.hbm, 1637, rfl⟩
abbrev main_v1619 : Ref sig .tc := ⟨.hbm, 1638, rfl⟩
abbrev main_v1620 : Ref sig .tc := ⟨.hbm, 1639, rfl⟩
abbrev main_v1621 : Ref sig .tc := ⟨.hbm, 1640, rfl⟩
abbrev main_v1622 : Ref sig .tc := ⟨.hbm, 1641, rfl⟩
abbrev main_v1623 : Ref sig .tc := ⟨.hbm, 1642, rfl⟩
abbrev main_v1624 : Ref sig .tc := ⟨.hbm, 1643, rfl⟩
abbrev main_v1625 : Ref sig .tc := ⟨.hbm, 1644, rfl⟩
abbrev main_v1626 : Ref sig .tc := ⟨.hbm, 1645, rfl⟩
abbrev main_v1627 : Ref sig .tc := ⟨.hbm, 1646, rfl⟩
abbrev main_v1628 : Ref sig .tc := ⟨.hbm, 1647, rfl⟩
abbrev main_v1629 : Ref sig .tc := ⟨.hbm, 1648, rfl⟩
abbrev main_v1630 : Ref sig .tc := ⟨.hbm, 1649, rfl⟩
abbrev main_v1631 : Ref sig .tc := ⟨.hbm, 1650, rfl⟩
abbrev main_v1632 : Ref sig .tc := ⟨.hbm, 1651, rfl⟩
abbrev main_v1633 : Ref sig .tc := ⟨.hbm, 1652, rfl⟩
abbrev main_v1634 : Ref sig .tc := ⟨.hbm, 1653, rfl⟩
abbrev main_v1635 : Ref sig .tc := ⟨.hbm, 1654, rfl⟩
abbrev main_v1636 : Ref sig .tc := ⟨.hbm, 1655, rfl⟩
abbrev main_v1637 : Ref sig .tc := ⟨.hbm, 1656, rfl⟩
abbrev main_v1638 : Ref sig .tc := ⟨.hbm, 1657, rfl⟩
abbrev main_v1639 : Ref sig .tc := ⟨.hbm, 1658, rfl⟩
abbrev main_v1640 : Ref sig .tc := ⟨.hbm, 1659, rfl⟩
abbrev main_v1641 : Ref sig .tc := ⟨.hbm, 1660, rfl⟩
abbrev main_v1642 : Ref sig .tc := ⟨.hbm, 1661, rfl⟩
abbrev main_v1643 : Ref sig .tc := ⟨.hbm, 1662, rfl⟩
abbrev main_v1644 : Ref sig .tc := ⟨.hbm, 1663, rfl⟩
abbrev main_v1645 : Ref sig .tc := ⟨.hbm, 1664, rfl⟩
abbrev main_v1646 : Ref sig .tc := ⟨.hbm, 1665, rfl⟩
abbrev main_v1647 : Ref sig .tc := ⟨.hbm, 1666, rfl⟩
abbrev main_v1648 : Ref sig .tc := ⟨.hbm, 1667, rfl⟩
abbrev main_v1649 : Ref sig .tc := ⟨.hbm, 1668, rfl⟩
abbrev main_v1650 : Ref sig .tc := ⟨.hbm, 1669, rfl⟩
abbrev main_v1651 : Ref sig .tc := ⟨.hbm, 1670, rfl⟩
abbrev main_v1652 : Ref sig .tc := ⟨.hbm, 1671, rfl⟩
abbrev main_v1653 : Ref sig .tc := ⟨.hbm, 1672, rfl⟩
abbrev main_v1654 : Ref sig .tc := ⟨.hbm, 1673, rfl⟩
abbrev main_v1655 : Ref sig .tc := ⟨.hbm, 1674, rfl⟩
abbrev main_v1656 : Ref sig .tc := ⟨.hbm, 1675, rfl⟩
abbrev main_v1657 : Ref sig .tc := ⟨.hbm, 1676, rfl⟩
abbrev main_v1658 : Ref sig .tc := ⟨.hbm, 1677, rfl⟩
abbrev main_v1659 : Ref sig .tc := ⟨.hbm, 1678, rfl⟩
abbrev main_v1660 : Ref sig .tc := ⟨.hbm, 1679, rfl⟩
abbrev main_v1661 : Ref sig .tc := ⟨.hbm, 1680, rfl⟩
abbrev main_v1662 : Ref sig .tc := ⟨.hbm, 1681, rfl⟩
abbrev main_v1663 : Ref sig .tc := ⟨.hbm, 1682, rfl⟩
abbrev main_v1664 : Ref sig .tc := ⟨.hbm, 1683, rfl⟩
abbrev main_v1665 : Ref sig .tc := ⟨.hbm, 1684, rfl⟩
abbrev main_v1666 : Ref sig .tc := ⟨.hbm, 1685, rfl⟩
abbrev main_v1667 : Ref sig .tc := ⟨.hbm, 1686, rfl⟩
abbrev main_v1668 : Ref sig .tc := ⟨.hbm, 1687, rfl⟩
abbrev main_v1669 : Ref sig .tc := ⟨.hbm, 1688, rfl⟩
abbrev main_v1670 : Ref sig .tc := ⟨.hbm, 1689, rfl⟩
abbrev main_v1671 : Ref sig .tc := ⟨.hbm, 1690, rfl⟩
abbrev main_v1672 : Ref sig .tc := ⟨.hbm, 1691, rfl⟩
abbrev main_v1673 : Ref sig .tc := ⟨.hbm, 1692, rfl⟩
abbrev main_v1674 : Ref sig .tc := ⟨.hbm, 1693, rfl⟩
abbrev main_v1675 : Ref sig .tc := ⟨.hbm, 1694, rfl⟩
abbrev main_v1676 : Ref sig .tc := ⟨.hbm, 1695, rfl⟩
abbrev main_v1677 : Ref sig .tc := ⟨.hbm, 1696, rfl⟩
abbrev main_v1678 : Ref sig .tc := ⟨.hbm, 1697, rfl⟩
abbrev main_v1679 : Ref sig .tc := ⟨.hbm, 1698, rfl⟩
abbrev main_v1680 : Ref sig .tc := ⟨.hbm, 1699, rfl⟩
abbrev main_v1681 : Ref sig .tc := ⟨.hbm, 1700, rfl⟩
abbrev main_v1682 : Ref sig .tc := ⟨.hbm, 1701, rfl⟩
abbrev main_v1683 : Ref sig .tc := ⟨.hbm, 1702, rfl⟩
abbrev main_v1684 : Ref sig .tc := ⟨.hbm, 1703, rfl⟩
abbrev main_v1685 : Ref sig .tc := ⟨.hbm, 1704, rfl⟩
abbrev main_v1686 : Ref sig .tc := ⟨.hbm, 1705, rfl⟩
abbrev main_v1687 : Ref sig .tc := ⟨.hbm, 1706, rfl⟩
abbrev main_v1688 : Ref sig .tc := ⟨.hbm, 1707, rfl⟩
abbrev main_v1689 : Ref sig .tc := ⟨.hbm, 1708, rfl⟩
abbrev main_v1690 : Ref sig .tc := ⟨.hbm, 1709, rfl⟩
abbrev main_v1691 : Ref sig .tc := ⟨.hbm, 1710, rfl⟩
abbrev main_v1692 : Ref sig .tc := ⟨.hbm, 1711, rfl⟩
abbrev main_v1693 : Ref sig .tc := ⟨.hbm, 1712, rfl⟩
abbrev main_v1694 : Ref sig .tc := ⟨.hbm, 1713, rfl⟩
abbrev main_v1695 : Ref sig .tc := ⟨.hbm, 1714, rfl⟩
abbrev main_v1696 : Ref sig .tc := ⟨.hbm, 1715, rfl⟩
abbrev main_v1697 : Ref sig .tc := ⟨.hbm, 1716, rfl⟩
abbrev main_v1698 : Ref sig .tc := ⟨.hbm, 1717, rfl⟩
abbrev main_v1699 : Ref sig .tc := ⟨.hbm, 1718, rfl⟩
abbrev main_v1700 : Ref sig .tc := ⟨.hbm, 1719, rfl⟩
abbrev main_v1701 : Ref sig .tc := ⟨.hbm, 1720, rfl⟩
abbrev main_v1702 : Ref sig .tc := ⟨.hbm, 1721, rfl⟩
abbrev main_v1703 : Ref sig .tc := ⟨.hbm, 1722, rfl⟩
abbrev main_v1704 : Ref sig .tc := ⟨.hbm, 1723, rfl⟩
abbrev main_v1705 : Ref sig .tc := ⟨.hbm, 1724, rfl⟩
abbrev main_v1706 : Ref sig .tc := ⟨.hbm, 1725, rfl⟩
abbrev main_v1707 : Ref sig .tc := ⟨.hbm, 1726, rfl⟩
abbrev main_v1708 : Ref sig .tc := ⟨.hbm, 1727, rfl⟩
abbrev main_v1709 : Ref sig .tc := ⟨.hbm, 1728, rfl⟩
abbrev main_v1710 : Ref sig .tc := ⟨.hbm, 1729, rfl⟩
abbrev main_v1711 : Ref sig .tc := ⟨.hbm, 1730, rfl⟩
abbrev main_v1712 : Ref sig .tc := ⟨.hbm, 1731, rfl⟩
abbrev main_v1713 : Ref sig .tc := ⟨.hbm, 1732, rfl⟩
abbrev main_v1714 : Ref sig .tc := ⟨.hbm, 1733, rfl⟩
abbrev main_v1715 : Ref sig .tc := ⟨.hbm, 1734, rfl⟩
abbrev main_v1716 : Ref sig .tc := ⟨.hbm, 1735, rfl⟩
abbrev main_v1717 : Ref sig .tc := ⟨.hbm, 1736, rfl⟩
abbrev main_v1718 : Ref sig .tc := ⟨.hbm, 1737, rfl⟩
abbrev main_v1719 : Ref sig .tc := ⟨.hbm, 1738, rfl⟩
abbrev main_v1720 : Ref sig .tc := ⟨.hbm, 1739, rfl⟩
abbrev main_v1721 : Ref sig .tc := ⟨.hbm, 1740, rfl⟩
abbrev main_v1722 : Ref sig .tc := ⟨.hbm, 1741, rfl⟩
abbrev main_v1723 : Ref sig .tc := ⟨.hbm, 1742, rfl⟩
abbrev main_v1724 : Ref sig .tc := ⟨.hbm, 1743, rfl⟩
abbrev main_v1725 : Ref sig .tc := ⟨.hbm, 1744, rfl⟩
abbrev main_v1726 : Ref sig .tc := ⟨.hbm, 1745, rfl⟩
abbrev main_v1727 : Ref sig .tc := ⟨.hbm, 1746, rfl⟩
abbrev main_v1728 : Ref sig .tc := ⟨.hbm, 1747, rfl⟩
abbrev main_v1729 : Ref sig .tc := ⟨.hbm, 1748, rfl⟩
abbrev main_v1730 : Ref sig .tc := ⟨.hbm, 1749, rfl⟩
abbrev main_v1731 : Ref sig .tc := ⟨.hbm, 1750, rfl⟩
abbrev main_v1732 : Ref sig .tc := ⟨.hbm, 1751, rfl⟩
abbrev main_v1733 : Ref sig .tc := ⟨.hbm, 1752, rfl⟩
abbrev main_v1734 : Ref sig .tc := ⟨.hbm, 1753, rfl⟩
abbrev main_v1735 : Ref sig .tc := ⟨.hbm, 1754, rfl⟩
abbrev main_v1736 : Ref sig .tc := ⟨.hbm, 1755, rfl⟩
abbrev main_v1737 : Ref sig .tc := ⟨.hbm, 1756, rfl⟩
abbrev main_v1738 : Ref sig .tc := ⟨.hbm, 1757, rfl⟩
abbrev main_v1739 : Ref sig .tc := ⟨.hbm, 1758, rfl⟩
abbrev main_v1740 : Ref sig .tc := ⟨.hbm, 1759, rfl⟩
abbrev main_v1741 : Ref sig .tc := ⟨.hbm, 1760, rfl⟩
abbrev main_v1742 : Ref sig .tc := ⟨.hbm, 1761, rfl⟩
abbrev main_v1743 : Ref sig .tc := ⟨.hbm, 1762, rfl⟩
abbrev main_v1744 : Ref sig .tc := ⟨.hbm, 1763, rfl⟩
abbrev main_v1745 : Ref sig .tc := ⟨.hbm, 1764, rfl⟩
abbrev main_v1746 : Ref sig .tc := ⟨.hbm, 1765, rfl⟩
abbrev main_v1747 : Ref sig .tc := ⟨.hbm, 1766, rfl⟩
abbrev main_v1748 : Ref sig .tc := ⟨.hbm, 1767, rfl⟩
abbrev main_v1749 : Ref sig .tc := ⟨.hbm, 1768, rfl⟩
abbrev main_v1750 : Ref sig .tc := ⟨.hbm, 1769, rfl⟩
abbrev main_v1751 : Ref sig .tc := ⟨.hbm, 1770, rfl⟩
abbrev main_v1752 : Ref sig .tc := ⟨.hbm, 1771, rfl⟩
abbrev main_v1753 : Ref sig .tc := ⟨.hbm, 1772, rfl⟩
abbrev main_v1754 : Ref sig .tc := ⟨.hbm, 1773, rfl⟩
abbrev main_v1755 : Ref sig .tc := ⟨.hbm, 1774, rfl⟩
abbrev main_v1756 : Ref sig .tc := ⟨.hbm, 1775, rfl⟩
abbrev main_v1757 : Ref sig .tc := ⟨.hbm, 1776, rfl⟩
abbrev main_v1758 : Ref sig .tc := ⟨.hbm, 1777, rfl⟩
abbrev main_v1759 : Ref sig .tc := ⟨.hbm, 1778, rfl⟩
abbrev main_v1760 : Ref sig .tc := ⟨.hbm, 1779, rfl⟩
abbrev main_v1761 : Ref sig .tc := ⟨.hbm, 1780, rfl⟩
abbrev main_v1762 : Ref sig .tc := ⟨.hbm, 1781, rfl⟩
abbrev main_v1763 : Ref sig .tc := ⟨.hbm, 1782, rfl⟩
abbrev main_v1764 : Ref sig .tc := ⟨.hbm, 1783, rfl⟩
abbrev main_v1765 : Ref sig .tc := ⟨.hbm, 1784, rfl⟩
abbrev main_v1766 : Ref sig .tc := ⟨.hbm, 1785, rfl⟩
abbrev main_v1767 : Ref sig .tc := ⟨.hbm, 1786, rfl⟩
abbrev main_v1768 : Ref sig .tc := ⟨.hbm, 1787, rfl⟩
abbrev main_v1769 : Ref sig .tc := ⟨.hbm, 1788, rfl⟩
abbrev main_v1770 : Ref sig .tc := ⟨.hbm, 1789, rfl⟩
abbrev main_v1771 : Ref sig .tc := ⟨.hbm, 1790, rfl⟩
abbrev main_v1772 : Ref sig .tc := ⟨.hbm, 1791, rfl⟩
abbrev main_v1773 : Ref sig .tc := ⟨.hbm, 1792, rfl⟩
abbrev main_v1774 : Ref sig .tc := ⟨.hbm, 1793, rfl⟩
abbrev main_v1775 : Ref sig .tc := ⟨.hbm, 1794, rfl⟩
abbrev main_v1776 : Ref sig .tc := ⟨.hbm, 1795, rfl⟩
abbrev main_v1777 : Ref sig .tc := ⟨.hbm, 1796, rfl⟩
abbrev main_v1778 : Ref sig .tc := ⟨.hbm, 1797, rfl⟩
abbrev main_v1779 : Ref sig .tc := ⟨.hbm, 1798, rfl⟩
abbrev main_v1780 : Ref sig .tc := ⟨.hbm, 1799, rfl⟩
abbrev main_v1781 : Ref sig .tc := ⟨.hbm, 1800, rfl⟩
abbrev main_v1782 : Ref sig .tc := ⟨.hbm, 1801, rfl⟩
abbrev main_v1783 : Ref sig .tc := ⟨.hbm, 1802, rfl⟩
abbrev main_v1784 : Ref sig .tc := ⟨.hbm, 1803, rfl⟩
abbrev main_v1785 : Ref sig .tc := ⟨.hbm, 1804, rfl⟩
abbrev main_v1786 : Ref sig .tc := ⟨.hbm, 1805, rfl⟩
abbrev main_v1787 : Ref sig .tc := ⟨.hbm, 1806, rfl⟩
abbrev main_v1788 : Ref sig .tc := ⟨.hbm, 1807, rfl⟩
abbrev main_v1789 : Ref sig .tc := ⟨.hbm, 1808, rfl⟩
abbrev main_v1790 : Ref sig .tc := ⟨.hbm, 1809, rfl⟩
abbrev main_v1791 : Ref sig .tc := ⟨.hbm, 1810, rfl⟩
abbrev main_v1792 : Ref sig .tc := ⟨.hbm, 1811, rfl⟩
abbrev main_v1793 : Ref sig .tc := ⟨.hbm, 1812, rfl⟩
abbrev main_v1794 : Ref sig .tc := ⟨.hbm, 1813, rfl⟩
abbrev main_v1795 : Ref sig .tc := ⟨.hbm, 1814, rfl⟩
abbrev main_v1796 : Ref sig .tc := ⟨.hbm, 1815, rfl⟩
abbrev main_v1797 : Ref sig .tc := ⟨.hbm, 1816, rfl⟩
abbrev main_v1798 : Ref sig .tc := ⟨.hbm, 1817, rfl⟩
abbrev main_v1799 : Ref sig .tc := ⟨.hbm, 1818, rfl⟩
abbrev main_v1800 : Ref sig .tc := ⟨.hbm, 1819, rfl⟩
abbrev main_v1801 : Ref sig .tc := ⟨.hbm, 1820, rfl⟩
abbrev main_v1802 : Ref sig .tc := ⟨.hbm, 1821, rfl⟩
abbrev main_v1803 : Ref sig .tc := ⟨.hbm, 1822, rfl⟩
abbrev main_v1804 : Ref sig .tc := ⟨.hbm, 1823, rfl⟩
abbrev main_v1805 : Ref sig .tc := ⟨.hbm, 1824, rfl⟩
abbrev main_v1806 : Ref sig .tc := ⟨.hbm, 1825, rfl⟩
abbrev main_v1807 : Ref sig .tc := ⟨.hbm, 1826, rfl⟩
abbrev main_v1808 : Ref sig .tc := ⟨.hbm, 1827, rfl⟩
abbrev main_v1809 : Ref sig .tc := ⟨.hbm, 1828, rfl⟩
abbrev main_v1810 : Ref sig .tc := ⟨.hbm, 1829, rfl⟩
abbrev main_v1811 : Ref sig .tc := ⟨.hbm, 1830, rfl⟩
abbrev main_v1812 : Ref sig .tc := ⟨.hbm, 1831, rfl⟩
abbrev main_v1813 : Ref sig .tc := ⟨.hbm, 1832, rfl⟩
abbrev main_v1814 : Ref sig .tc := ⟨.hbm, 1833, rfl⟩
abbrev main_v1815 : Ref sig .tc := ⟨.hbm, 1834, rfl⟩
abbrev main_v1816 : Ref sig .tc := ⟨.hbm, 1835, rfl⟩
abbrev main_v1817 : Ref sig .tc := ⟨.hbm, 1836, rfl⟩
abbrev main_v1818 : Ref sig .tc := ⟨.hbm, 1837, rfl⟩
abbrev main_v1819 : Ref sig .tc := ⟨.hbm, 1838, rfl⟩
abbrev main_v1820 : Ref sig .tc := ⟨.hbm, 1839, rfl⟩
abbrev main_v1821 : Ref sig .tc := ⟨.hbm, 1840, rfl⟩
abbrev main_v1822 : Ref sig .tc := ⟨.hbm, 1841, rfl⟩
abbrev main_v1823 : Ref sig .tc := ⟨.hbm, 1842, rfl⟩
abbrev main_v1824 : Ref sig .tc := ⟨.hbm, 1843, rfl⟩
abbrev main_v1825 : Ref sig .tc := ⟨.hbm, 1844, rfl⟩
abbrev main_v1826 : Ref sig .tc := ⟨.hbm, 1845, rfl⟩
abbrev main_v1827 : Ref sig .tc := ⟨.hbm, 1846, rfl⟩
abbrev main_v1828 : Ref sig .tc := ⟨.hbm, 1847, rfl⟩
abbrev main_v1829 : Ref sig .tc := ⟨.hbm, 1848, rfl⟩
abbrev main_v1830 : Ref sig .tc := ⟨.hbm, 1849, rfl⟩
abbrev main_v1831 : Ref sig .tc := ⟨.hbm, 1850, rfl⟩
abbrev main_v1832 : Ref sig .tc := ⟨.hbm, 1851, rfl⟩
abbrev main_v1833 : Ref sig .tc := ⟨.hbm, 1852, rfl⟩
abbrev main_v1834 : Ref sig .tc := ⟨.hbm, 1853, rfl⟩
abbrev main_v1835 : Ref sig .tc := ⟨.hbm, 1854, rfl⟩
abbrev main_v1836 : Ref sig .tc := ⟨.hbm, 1855, rfl⟩
abbrev main_v1837 : Ref sig .tc := ⟨.hbm, 1856, rfl⟩
abbrev main_v1838 : Ref sig .tc := ⟨.hbm, 1857, rfl⟩
abbrev main_v1839 : Ref sig .tc := ⟨.hbm, 1858, rfl⟩
abbrev main_v1840 : Ref sig .tc := ⟨.hbm, 1859, rfl⟩
abbrev main_v1841 : Ref sig .tc := ⟨.hbm, 1860, rfl⟩
abbrev main_v1842 : Ref sig .tc := ⟨.hbm, 1861, rfl⟩
abbrev main_v1843 : Ref sig .tc := ⟨.hbm, 1862, rfl⟩
abbrev main_cst_13 : Ref sig .tc := ⟨.hbm, 1863, rfl⟩
abbrev main_v1844 : Ref sig .tc := ⟨.hbm, 1864, rfl⟩
abbrev main_v1845 : Ref sig .tc := ⟨.hbm, 1865, rfl⟩
abbrev main_v1846 : Ref sig .tc := ⟨.hbm, 1866, rfl⟩
abbrev main_v1847 : Ref sig .tc := ⟨.hbm, 1867, rfl⟩
abbrev main_v1848 : Ref sig .tc := ⟨.hbm, 1868, rfl⟩
abbrev main_v1849 : Ref sig .tc := ⟨.hbm, 1869, rfl⟩
abbrev main_v1850 : Ref sig .tc := ⟨.hbm, 1870, rfl⟩
abbrev main_v1851 : Ref sig .tc := ⟨.hbm, 1871, rfl⟩
abbrev main_v1852 : Ref sig .tc := ⟨.hbm, 1872, rfl⟩
abbrev main_v1853 : Ref sig .tc := ⟨.hbm, 1873, rfl⟩
abbrev main_v1854 : Ref sig .tc := ⟨.hbm, 1874, rfl⟩
abbrev main_v1855 : Ref sig .tc := ⟨.hbm, 1875, rfl⟩
abbrev main_v1856 : Ref sig .tc := ⟨.hbm, 1876, rfl⟩
abbrev main_v1857 : Ref sig .tc := ⟨.hbm, 1877, rfl⟩
abbrev main_v1858 : Ref sig .tc := ⟨.hbm, 1878, rfl⟩
abbrev main_v1859 : Ref sig .tc := ⟨.hbm, 1879, rfl⟩
abbrev main_v1860 : Ref sig .tc := ⟨.hbm, 1880, rfl⟩
abbrev main_v1861 : Ref sig .tc := ⟨.hbm, 1881, rfl⟩
abbrev main_v1862 : Ref sig .tc := ⟨.hbm, 1882, rfl⟩
abbrev main_v1863 : Ref sig .tc := ⟨.hbm, 1883, rfl⟩
abbrev main_v1864 : Ref sig .tc := ⟨.hbm, 1884, rfl⟩
abbrev main_cst_14 : Ref sig .tc := ⟨.hbm, 1885, rfl⟩
abbrev main_v1865 : Ref sig .tc := ⟨.hbm, 1886, rfl⟩
abbrev main_v1866 : Ref sig .tc := ⟨.hbm, 1887, rfl⟩
abbrev main_v1867 : Ref sig .tc := ⟨.hbm, 1888, rfl⟩
abbrev main_v1868 : Ref sig .tc := ⟨.hbm, 1889, rfl⟩
abbrev main_v1869 : Ref sig .tc := ⟨.hbm, 1890, rfl⟩
abbrev main_v1870 : Ref sig .tc := ⟨.hbm, 1891, rfl⟩
abbrev main_v1871 : Ref sig .tc := ⟨.hbm, 1892, rfl⟩
abbrev main_v1872 : Ref sig .tc := ⟨.hbm, 1893, rfl⟩
abbrev main_v1873 : Ref sig .tc := ⟨.hbm, 1894, rfl⟩
abbrev main_cst_15 : Ref sig .tc := ⟨.hbm, 1895, rfl⟩
abbrev main_v1874 : Ref sig .tc := ⟨.hbm, 1896, rfl⟩
abbrev main_cst_16 : Ref sig .tc := ⟨.hbm, 1897, rfl⟩
abbrev main_v1875 : Ref sig .tc := ⟨.hbm, 1898, rfl⟩
abbrev main_v1876 : Ref sig .tc := ⟨.hbm, 1899, rfl⟩
abbrev main_cst_17 : Ref sig .tc := ⟨.hbm, 1900, rfl⟩
abbrev main_v1877 : Ref sig .tc := ⟨.hbm, 1901, rfl⟩
abbrev main_v1878 : Ref sig .tc := ⟨.hbm, 1902, rfl⟩
abbrev main_v1879 : Ref sig .tc := ⟨.hbm, 1903, rfl⟩
abbrev main_cst_18 : Ref sig .tc := ⟨.hbm, 1904, rfl⟩
abbrev main_v1880 : Ref sig .tc := ⟨.hbm, 1905, rfl⟩
abbrev main_cst_19 : Ref sig .tc := ⟨.hbm, 1906, rfl⟩
abbrev main_v1881 : Ref sig .tc := ⟨.hbm, 1907, rfl⟩
abbrev main_cst_20 : Ref sig .tc := ⟨.hbm, 1908, rfl⟩
abbrev main_v1882 : Ref sig .tc := ⟨.hbm, 1909, rfl⟩
abbrev main_v1883 : Ref sig .tc := ⟨.hbm, 1910, rfl⟩

abbrev nD : Nat := 1
abbrev τ : Topo := Topo.v7x

variable {F : FTy → Type} [FloatOps F]
-- ==== Proof.Jacobi.lean ====
module

public import Mathlib.Analysis.SpecialFunctions.Pow.Real
public import Mathlib.Tactic.Ring
public import Mathlib.Tactic.Linarith
public import Mathlib.Tactic.FieldSimp

@[expose] public section

noncomputable section

namespace Cert.Value

/-- A symmetric 3 x 3 matrix by its upper triangle, and a 3 x 3 matrix of eigenvectors. -/
structure St (α : Type) where
  (a00 a01 a02 a11 a12 a22 v00 v01 v02 v10 v11 v12 v20 v21 v22 : α)

/-- Half the difference of the diagonal over the entry to annul. -/
def rTau (app aqq apq : ℝ) : ℝ := (aqq - app) / (2 * if apq = 0 then 1 else apq)

/-- The smaller root of `t² + 2 τ t - 1`: the tangent of the rotation's angle. -/
def rTan (τ : ℝ) : ℝ := (if 0 ≤ τ then 1 else -1) / (|τ| + √(1 + τ * τ))

/-- The cosine of the rotation; one where there is nothing to annul. -/
def rCos (app aqq apq : ℝ) : ℝ :=
  if apq = 0 then 1 else 1 / √(1 + rTan (rTau app aqq apq) * rTan (rTau app aqq apq))

/-- The sine of the rotation; zero where there is nothing to annul. -/
def rSin (app aqq apq : ℝ) : ℝ :=
  if apq = 0 then 0 else rTan (rTau app aqq apq) * (1 / √(1 + rTan (rTau app aqq apq) * rTan (rTau app aqq apq)))

/-- The root of one plus a square is positive. -/
theorem sqrt_pos_one_add (τ : ℝ) : 0 < √(1 + τ * τ) := Real.sqrt_pos.2 (by nlinarith [mul_self_nonneg τ])

/-- A number is smaller than the root of one plus its square. -/
theorem abs_lt_sqrt_one_add (τ : ℝ) : |τ| < √(1 + τ * τ) := by
  apply Real.lt_sqrt_of_sq_lt
  rw [sq_abs]; nlinarith

/-- The tangent by the two branches that avoid cancellation. -/
theorem rTan_eq (τ : ℝ) : rTan τ = if 0 ≤ τ then 1 / (τ + √(1 + τ * τ)) else -1 / (√(1 + τ * τ) - τ) := by
  unfold rTan
  split_ifs with h
  · rw [abs_of_nonneg h]
  · rw [abs_of_neg (not_le.1 h), neg_add_eq_sub]

/-- The first diagonal entry of the rotated matrix. -/
def rPP (c s app apq aqq : ℝ) : ℝ := c * c * app - 2 * s * c * apq + s * s * aqq
/-- The second diagonal entry of the rotated matrix. -/
def rQQ (c s app apq aqq : ℝ) : ℝ := s * s * app + 2 * s * c * apq + c * c * aqq
/-- The entry of the rotated matrix that is to be zero. -/
def rPQ (c s app apq aqq : ℝ) : ℝ := s * c * (app - aqq) + (c * c - s * s) * apq
/-- The left one of two numbers after the rotation. -/
def rL (c s x y : ℝ) : ℝ := c * x - s * y
/-- The right one of two numbers after the rotation. -/
def rR (c s x y : ℝ) : ℝ := s * x + c * y

/-- The rotation in the plane (0, 2) by the angle of cosine `c` and sine `s`. -/
def rRot02 (c s : ℝ) (x : St ℝ) : St ℝ where
  a00 := rPP c s x.a00 x.a02 x.a22
  a01 := rL c s x.a01 x.a12
  a02 := rPQ c s x.a00 x.a02 x.a22
  a11 := x.a11
  a12 := rR c s x.a01 x.a12
  a22 := rQQ c s x.a00 x.a02 x.a22
  v00 := rL c s x.v00 x.v02
  v01 := x.v01
  v02 := rR c s x.v00 x.v02
  v10 := rL c s x.v10 x.v12
  v11 := x.v11
  v12 := rR c s x.v10 x.v12
  v20 := rL c s x.v20 x.v22
  v21 := x.v21
  v22 := rR c s x.v20 x.v22

/-- The rotation in the plane (1, 2). -/
def rRot12 (c s : ℝ) (x : St ℝ) : St ℝ where
  a00 := x.a00
  a01 := rL c s x.a01 x.a02
  a02 := rR c s x.a01 x.a02
  a11 := rPP c s x.a11 x.a12 x.a22
  a12 := rPQ c s x.a11 x.a12 x.a22
  a22 := rQQ c s x.a11 x.a12 x.a22
  v00 := x.v00
  v01 := rL c s x.v01 x.v02
  v02 := rR c s x.v01 x.v02
  v10 := x.v10
  v11 := rL c s x.v11 x.v12
  v12 := rR c s x.v11 x.v12
  v20 := x.v20
  v21 := rL c s x.v21 x.v22
  v22 := rR c s x.v21 x.v22

/-- The rotation in the plane (0, 1). -/
def rRot01 (c s : ℝ) (x : St ℝ) : St ℝ where
  a00 := rPP c s x.a00 x.a01 x.a11
  a01 := rPQ c s x.a00 x.a01 x.a11
  a02 := rL c s x.a02 x.a12
  a11 := rQQ c s x.a00 x.a01 x.a11
  a12 := rR c s x.a02 x.a12
  a22 := x.a22
  v00 := rL c s x.v00 x.v01
  v01 := rR c s x.v00 x.v01
  v02 := x.v02
  v10 := rL c s x.v10 x.v11
  v11 := rR c s x.v10 x.v11
  v12 := x.v12
  v20 := rL c s x.v20 x.v21
  v21 := rR c s x.v20 x.v21
  v22 := x.v22

/-- One rotation in the plane (0, 2). -/
def rStep02 (x : St ℝ) : St ℝ := rRot02 (rCos x.a00 x.a22 x.a02) (rSin x.a00 x.a22 x.a02) x
/-- One rotation in the plane (1, 2). -/
def rStep12 (x : St ℝ) : St ℝ := rRot12 (rCos x.a11 x.a22 x.a12) (rSin x.a11 x.a22 x.a12) x
/-- One rotation in the plane (0, 1). -/
def rStep01 (x : St ℝ) : St ℝ := rRot01 (rCos x.a00 x.a11 x.a01) (rSin x.a00 x.a11 x.a01) x

/-- One sweep of cyclic Jacobi. -/
def rSweep (x : St ℝ) : St ℝ := rStep01 (rStep12 (rStep02 x))

/-- Seven sweeps. -/
def rSweeps (x : St ℝ) : St ℝ := rSweep (rSweep (rSweep (rSweep (rSweep (rSweep (rSweep x))))))

/-- A matrix with the identity for its eigenvectors. -/
def rStart (a00 a01 a02 a11 a12 a22 : ℝ) : St ℝ := ⟨a00, a01, a02, a11, a12, a22, 1, 0, 0, 0, 1, 0, 0, 0, 1⟩

/-- An entry of the symmetric root: a sum of three products. -/
def rH (x0 x1 x2 r0 r1 r2 y0 y1 y2 : ℝ) : ℝ := x0 * r0 * y0 + x1 * r1 * y1 + x2 * r2 * y2

/-- The root of an eigenvalue, that of a negative one being zero. -/
def rRoot (l : ℝ) : ℝ := √(max l 0)

/-- The symmetric root from a matrix's Jacobi iteration, ready for the next one. -/
def rHalf (x : St ℝ) : St ℝ :=
  rStart (rH x.v00 x.v01 x.v02 (rRoot x.a00) (rRoot x.a11) (rRoot x.a22) x.v00 x.v01 x.v02)
    (rH x.v00 x.v01 x.v02 (rRoot x.a00) (rRoot x.a11) (rRoot x.a22) x.v10 x.v11 x.v12)
    (rH x.v00 x.v01 x.v02 (rRoot x.a00) (rRoot x.a11) (rRoot x.a22) x.v20 x.v21 x.v22)
    (rH x.v10 x.v11 x.v12 (rRoot x.a00) (rRoot x.a11) (rRoot x.a22) x.v10 x.v11 x.v12)
    (rH x.v10 x.v11 x.v12 (rRoot x.a00) (rRoot x.a11) (rRoot x.a22) x.v20 x.v21 x.v22)
    (rH x.v20 x.v21 x.v22 (rRoot x.a00) (rRoot x.a11) (rRoot x.a22) x.v20 x.v21 x.v22)

/-- Of three values the one of the least clipped eigenvalue, the last among equals. -/
def rPick (x : St ℝ) (y0 y1 y2 : ℝ) : ℝ :=
  if max x.a22 0 ≤ min (max x.a00 0) (max x.a11 0) then y2 else if max x.a11 0 ≤ max x.a00 0 then y1 else y0

/-- The product of a displacement with the normal. -/
def rAlong (x : St ℝ) (dx dy dz : ℝ) : ℝ :=
  dx * rPick x x.v00 x.v01 x.v02 + dy * rPick x x.v10 x.v11 x.v12 + dz * rPick x x.v20 x.v21 x.v22

/-- The signed distance along the normal, from the centred Gram matrix and the offset from the centre. -/
def rPtof (a00 a01 a02 a11 a12 a22 dx dy dz : ℝ) : ℝ :=
  rAlong (rSweeps (rHalf (rSweeps (rStart a00 a01 a02 a11 a12 a22)))) dx dy dz

/-- The choice by equality with the least of the three, which the kernel makes, is the same choice. -/
theorem rPick_eq (x : St ℝ) (y0 y1 y2 : ℝ) :
    rPick x y0 y1 y2 =
      if max x.a22 0 = min (min (max x.a00 0) (max x.a11 0)) (max x.a22 0) then y2
      else if max x.a11 0 = min (min (max x.a00 0) (max x.a11 0)) (max x.a22 0) then y1 else y0 := by
  unfold rPick
  generalize max x.a00 0 = w0
  generalize max x.a11 0 = w1
  generalize max x.a22 0 = w2
  by_cases h2 : w2 ≤ min w0 w1
  · rw [if_pos h2, if_pos (min_eq_right h2).symm]
  · rw [if_neg h2, min_eq_left (not_le.1 h2).le, if_neg (fun h : w2 = min w0 w1 => h2 h.le)]
    by_cases h1 : w1 ≤ w0
    · rw [if_pos h1, if_pos (min_eq_right h1).symm]
    · rw [if_neg h1, if_neg (fun h : w1 = min w0 w1 => h1 (h.le.trans (min_le_left _ _)))]

end Cert.Value

end
-- ==== Proof.KernelRot.lean ====
module

public import proofs.«01_k».proof.KernelIdeal
public import proofs.«01_k».proof.Proof.Jacobi

@[expose] public section

noncomputable section

namespace Cert.Value

open Idealize.ShloMosaic

variable {F : FTy → Type} [FloatOps F] {S : Shape}

/-- One 32-bit word at every index. -/
def kw (S : Shape) (w : BitVec 32) : FVec F S .f32 := broadcast S (Scalar.ofBits .f32 w : F .f32)

/-- Zero everywhere. -/
def kZero (S : Shape) : FVec F S .f32 := kw S 0x00000000#32
/-- One everywhere. -/
def kOne (S : Shape) : FVec F S .f32 := kw S 0x3F800000#32
/-- Two everywhere. -/
def kTwo (S : Shape) : FVec F S .f32 := kw S 0x40000000#32

/-- Half the difference of the diagonal over the entry to annul. -/
def kTau (app aqq apq : FVec F S .f32) : FVec F S .f32 :=
  divf (subf aqq app) (mulf (kTwo S) (select (cmpf .one apq (kZero S)) apq (kOne S)))

/-- The kernel's tangent of the rotation's angle. -/
def kTan (tau : FVec F S .f32) : FVec F S .f32 :=
  let rt := sqrt (addf (kOne S) (mulf tau tau))
  select (cmpf .oge tau (kZero S)) (divf (kOne S) (addf tau rt))
    (divf (broadcast S (Scalar.subf (Scalar.ofBits .f32 0x00000000#32) (Scalar.ofBits .f32 0x3F800000#32) : F .f32)) (subf rt tau))

/-- The cosine of a tangent. -/
def kCosOf (t : FVec F S .f32) : FVec F S .f32 := rsqrt (addf (kOne S) (mulf t t))

/-- The kernel's cosine of the rotation. -/
def kCos (app aqq apq : FVec F S .f32) : FVec F S .f32 :=
  select (cmpf .one apq (kZero S)) (kCosOf (kTan (kTau app aqq apq))) (kOne S)

/-- The kernel's sine of the rotation. -/
def kSin (app aqq apq : FVec F S .f32) : FVec F S .f32 :=
  select (cmpf .one apq (kZero S)) (mulf (kTan (kTau app aqq apq)) (kCosOf (kTan (kTau app aqq apq)))) (kZero S)

/-- The kernel's first diagonal entry of the rotated matrix. -/
def kPP (c s app apq aqq : FVec F S .f32) : FVec F S .f32 :=
  addf (subf (mulf (mulf c c) app) (mulf (mulf (mulf (kTwo S) s) c) apq)) (mulf (mulf s s) aqq)

/-- The kernel's second diagonal entry of the rotated matrix. -/
def kQQ (c s app apq aqq : FVec F S .f32) : FVec F S .f32 :=
  addf (addf (mulf (mulf s s) app) (mulf (mulf (mulf (kTwo S) s) c) apq)) (mulf (mulf c c) aqq)

/-- The kernel's entry of the rotated matrix that is to be zero. -/
def kPQ (c s app apq aqq : FVec F S .f32) : FVec F S .f32 :=
  addf (mulf (mulf s c) (subf app aqq)) (mulf (subf (mulf c c) (mulf s s)) apq)

/-- The kernel's left one of two numbers after the rotation. -/
def kL (c s x y : FVec F S .f32) : FVec F S .f32 := subf (mulf c x) (mulf s y)

/-- The kernel's right one of two numbers after the rotation. -/
def kR (c s x y : FVec F S .f32) : FVec F S .f32 := addf (mulf s x) (mulf c y)

/-- The kernel's rotation in the plane (0, 2), its cosine and sine given. -/
def kRot02 (c s : FVec F S .f32) (x : St (FVec F S .f32)) : St (FVec F S .f32) where
  a00 := kPP c s x.a00 x.a02 x.a22
  a01 := kL c s x.a01 x.a12
  a02 := kPQ c s x.a00 x.a02 x.a22
  a11 := x.a11
  a12 := kR c s x.a01 x.a12
  a22 := kQQ c s x.a00 x.a02 x.a22
  v00 := kL c s x.v00 x.v02
  v01 := x.v01
  v02 := kR c s x.v00 x.v02
  v10 := kL c s x.v10 x.v12
  v11 := x.v11
  v12 := kR c s x.v10 x.v12
  v20 := kL c s x.v20 x.v22
  v21 := x.v21
  v22 := kR c s x.v20 x.v22

/-- The kernel's rotation in the plane (1, 2). -/
def kRot12 (c s : FVec F S .f32) (x : St (FVec F S .f32)) : St (FVec F S .f32) where
  a00 := x.a00
  a01 := kL c s x.a01 x.a02
  a02 := kR c s x.a01 x.a02
  a11 := kPP c s x.a11 x.a12 x.a22
  a12 := kPQ c s x.a11 x.a12 x.a22
  a22 := kQQ c s x.a11 x.a12 x.a22
  v00 := x.v00
  v01 := kL c s x.v01 x.v02
  v02 := kR c s x.v01 x.v02
  v10 := x.v10
  v11 := kL c s x.v11 x.v12
  v12 := kR c s x.v11 x.v12
  v20 := x.v20
  v21 := kL c s x.v21 x.v22
  v22 := kR c s x.v21 x.v22

/-- The kernel's rotation in the plane (0, 1). -/
def kRot01 (c s : FVec F S .f32) (x : St (FVec F S .f32)) : St (FVec F S .f32) where
  a00 := kPP c s x.a00 x.a01 x.a11
  a01 := kPQ c s x.a00 x.a01 x.a11
  a02 := kL c s x.a02 x.a12
  a11 := kQQ c s x.a00 x.a01 x.a11
  a12 := kR c s x.a02 x.a12
  a22 := x.a22
  v00 := kL c s x.v00 x.v01
  v01 := kR c s x.v00 x.v01
  v02 := x.v02
  v10 := kL c s x.v10 x.v11
  v11 := kR c s x.v10 x.v11
  v12 := x.v12
  v20 := kL c s x.v20 x.v21
  v21 := kR c s x.v20 x.v21
  v22 := x.v22

/-- The kernel's rotation in the plane (0, 2). -/
def kStep02 (x : St (FVec F S .f32)) : St (FVec F S .f32) := kRot02 (kCos x.a00 x.a22 x.a02) (kSin x.a00 x.a22 x.a02) x
/-- The kernel's rotation in the plane (1, 2). -/
def kStep12 (x : St (FVec F S .f32)) : St (FVec F S .f32) := kRot12 (kCos x.a11 x.a22 x.a12) (kSin x.a11 x.a22 x.a12) x
/-- The kernel's rotation in the plane (0, 1). -/
def kStep01 (x : St (FVec F S .f32)) : St (FVec F S .f32) := kRot01 (kCos x.a00 x.a11 x.a01) (kSin x.a00 x.a11 x.a01) x

/-- One sweep of the kernel's Jacobi iteration. -/
def kSweep (x : St (FVec F S .f32)) : St (FVec F S .f32) := kStep01 (kStep12 (kStep02 x))

/-- Seven sweeps. -/
def kSweeps (x : St (FVec F S .f32)) : St (FVec F S .f32) :=
  kSweep (kSweep (kSweep (kSweep (kSweep (kSweep (kSweep x))))))

/-- A matrix with the identity for its eigenvectors. -/
def kStart (a00 a01 a02 a11 a12 a22 : FVec F S .f32) : St (FVec F S .f32) :=
  ⟨a00, a01, a02, a11, a12, a22, kOne S, kZero S, kZero S, kZero S, kOne S, kZero S, kZero S, kZero S, kOne S⟩

/-- One entry of `W diag(r) Wᵀ`. -/
def kH (x0 x1 x2 r0 r1 r2 y0 y1 y2 : FVec F S .f32) : FVec F S .f32 :=
  addf (addf (mulf (mulf x0 r0) y0) (mulf (mulf x1 r1) y1)) (mulf (mulf x2 r2) y2)

/-- The kernel's root of an eigenvalue. -/
def kRoot (l : FVec F S .f32) : FVec F S .f32 := sqrt (maximumf l (kZero S))

/-- The symmetric root from a matrix's Jacobi iteration, ready for the next one. -/
def kHalf (x : St (FVec F S .f32)) : St (FVec F S .f32) :=
  let r0 := kRoot x.a00
  let r1 := kRoot x.a11
  let r2 := kRoot x.a22
  kStart (kH x.v00 x.v01 x.v02 r0 r1 r2 x.v00 x.v01 x.v02)
    (kH x.v00 x.v01 x.v02 r0 r1 r2 x.v10 x.v11 x.v12)
    (kH x.v00 x.v01 x.v02 r0 r1 r2 x.v20 x.v21 x.v22)
    (kH x.v10 x.v11 x.v12 r0 r1 r2 x.v10 x.v11 x.v12)
    (kH x.v10 x.v11 x.v12 r0 r1 r2 x.v20 x.v21 x.v22)
    (kH x.v20 x.v21 x.v22 r0 r1 r2 x.v20 x.v21 x.v22)

/-- The kernel's choice among three values: the one of the least eigenvalue, the last among equals. -/
def kPick (x : St (FVec F S .f32)) (y0 y1 y2 : FVec F S .f32) : FVec F S .f32 :=
  let w0 := maximumf x.a00 (kZero S)
  let w1 := maximumf x.a11 (kZero S)
  let w2 := maximumf x.a22 (kZero S)
  let m := minimumf (minimumf w0 w1) w2
  select (cmpf .oeq w2 m) y2 (select (cmpf .oeq w1 m) y1 y0)

/-- The point's offset from the centre along the normal. -/
def kAlong (x : St (FVec F S .f32)) (dx dy dz : FVec F S .f32) : FVec F S .f32 :=
  addf (addf (mulf dx (kPick x x.v00 x.v01 x.v02)) (mulf dy (kPick x x.v10 x.v11 x.v12)))
    (mulf dz (kPick x x.v20 x.v21 x.v22))

variable [Named F]

/-- A tenth everywhere: the named constant. -/
def kTenth (S : Shape) : FVec F S .f32 := broadcast S (Named.named Cert.KernelIdeal.κ "tenth" 0x3DCCCCCD#32 : F .f32)

/-- One entry of the Gram matrix from the raw moments. -/
def kGram (sab sa sb : FVec F S .f32) : FVec F S .f32 := subf sab (mulf (mulf sa sb) (kTenth S))

/-- The signed distance of a point from the plane of its neighbourhood, from the neighbourhood's nine raw moments. -/
def kPtof (sx sy sz sxx sxy sxz syy syz szz px py pz : FVec F S .f32) : FVec F S .f32 :=
  kAlong (kSweeps (kHalf (kSweeps (kStart (kGram sxx sx sx) (kGram sxy sx sy) (kGram sxz sx sz)
      (kGram syy sy sy) (kGram syz sy sz) (kGram szz sz sz)))))
    (subf px (mulf sx (kTenth S))) (subf py (mulf sy (kTenth S))) (subf pz (mulf sz (kTenth S)))

end Cert.Value

end
-- ==== Proof.KernelBlock.lean ====
module

public import proofs.«01_k».proof.Proof.KernelRot
public import proofs.«01_k».proof.Proof.Gen.KernelIdeal.Frame

@[expose] public section

noncomputable section

namespace Cert.Value

open Idealize.ShloMosaic Cert.KernelIdeal Cert.KernelIdeal.Gen

variable {F : FTy → Type} [FloatOps F] [Named F]

/-- The least value of every row. -/
def rowMin (x : FVec F S1024x4096 .f32) : FVec F S1024 .f32 :=
  multiReduction .minimumf [1] S1024 x 0x7F800000#32 reduces_S1024x4096_S1024 (.inl rfl) rfl

/-- One value for every row, along the row. -/
def alongRow (v : FVec F S1024 .f32) : FVec F S1024x4096 .f32 :=
  broadcastTo S1024x4096 (shapeCast S1024x1 v shapeCasts_S1024_S1024x1) broadcasts_S1024x1_S1024x4096

/-- The least value of every row above a given one. -/
def nextMin (d : FVec F S1024x4096 .f32) (v : FVec F S1024 .f32) : FVec F S1024 .f32 :=
  rowMin (select (cmpf .ogt d (alongRow v)) d (broadcast S1024x4096 (Scalar.ofBits .f32 0x7F800000#32)))

/-- The tenth least of the distinct values of every row. -/
def tenthMin (d : FVec F S1024x4096 .f32) : FVec F S1024 .f32 := (nextMin d)^[9] (rowMin d)

/-- The eighteen rows of raw moments of one block of points. -/
def kMoments (x0 : Vec F S1x1024x3 .f32) (x1 x3 : Vec F S1x3x4096 .f32) : FVec F S18x1024 .f32 :=
  k0_pay18 (k0_pay11 (k0_pay7 x0 x1) (tenthMin (k0_pay7 x0 x1))) (k0_pay15 (k0_pay3 x1) (k0_pay5 x3))
    (k0_pay16 (k0_pay3 x1) (k0_pay5 x3) (k0_pay7 x0 x1) (tenthMin (k0_pay7 x0 x1)))
    (k0_pay17 (k0_pay3 x1) (k0_pay5 x3) (k0_pay7 x0 x1) (tenthMin (k0_pay7 x0 x1)))

/-- Row `k` of the moments, in the shape the iteration runs in. -/
def mRow (k : ℕ) (h : S18x1024.Slices ![k, 0] S1x1024) (s : FVec F S18x1024 .f32) : FVec F S8x128 .f32 :=
  shapeCast S8x128 (extractStridedSlice S1x1024 ![k, 0] s h) shapeCasts_S1x1024_S8x128

/-- Row `k` of the block's coordinates, in that shape. -/
def pRow (k : ℕ) (h : S3x1024.Slices ![k, 0] S1x1024) (x : Vec F S1x3x1024 .f32) : FVec F S8x128 .f32 :=
  shapeCast S8x128 (extractStridedSlice S1x1024 ![k, 0] (k0_pay4 x) h) shapeCasts_S1x1024_S8x128

/-- The signed distances for the first cloud. -/
def kPtof1 (x0 : Vec F S1x1024x3 .f32) (x1 : Vec F S1x3x4096 .f32) (x2 : Vec F S1x3x1024 .f32) (x3 : Vec F S1x3x4096 .f32) : FVec F S8x128 .f32 :=
  let s := kMoments x0 x1 x3
  kPtof (mRow 0 slices_S18x1024_o0_0_S1x1024 s) (mRow 1 slices_S18x1024_o1_0_S1x1024 s) (mRow 2 slices_S18x1024_o2_0_S1x1024 s)
    (mRow 3 slices_S18x1024_o3_0_S1x1024 s) (mRow 4 slices_S18x1024_o4_0_S1x1024 s) (mRow 5 slices_S18x1024_o5_0_S1x1024 s)
    (mRow 6 slices_S18x1024_o6_0_S1x1024 s) (mRow 7 slices_S18x1024_o7_0_S1x1024 s) (mRow 8 slices_S18x1024_o8_0_S1x1024 s)
    (pRow 0 slices_S3x1024_o0_0_S1x1024 x2) (pRow 1 slices_S3x1024_o1_0_S1x1024 x2) (pRow 2 slices_S3x1024_o2_0_S1x1024 x2)

/-- The signed distances for the second cloud. -/
def kPtof2 (x0 : Vec F S1x1024x3 .f32) (x1 x3 : Vec F S1x3x4096 .f32) (x4 : Vec F S1x3x1024 .f32) : FVec F S8x128 .f32 :=
  let s := kMoments x0 x1 x3
  kPtof (mRow 9 slices_S18x1024_o9_0_S1x1024 s) (mRow 10 slices_S18x1024_o10_0_S1x1024 s) (mRow 11 slices_S18x1024_o11_0_S1x1024 s)
    (mRow 12 slices_S18x1024_o12_0_S1x1024 s) (mRow 13 slices_S18x1024_o13_0_S1x1024 s) (mRow 14 slices_S18x1024_o14_0_S1x1024 s)
    (mRow 15 slices_S18x1024_o15_0_S1x1024 s) (mRow 16 slices_S18x1024_o16_0_S1x1024 s) (mRow 17 slices_S18x1024_o17_0_S1x1024 s)
    (pRow 0 slices_S3x1024_o0_0_S1x1024 x4) (pRow 1 slices_S3x1024_o1_0_S1x1024 x4) (pRow 2 slices_S3x1024_o2_0_S1x1024 x4)

end Cert.Value

end
-- ==== Proof.Scalars.lean ====
module

public import Idealize.ShloMosaic.Lib.IdealHost
public import Idealize.ShloMosaic.Lib.Pointwise.Select

@[expose] public section

noncomputable section

namespace Cert.Value

open Idealize.ShloMosaic

/-- The word of two is two. -/
theorem bits_two : Ideal.ofBits .f32 0x40000000#32 = ((2 : ℝ) : EReal) := by
  simp [Ideal.ofBits, Ideal.ieee, -EReal.coe_mul]; norm_num

/-- The word of five is five. -/
theorem bits_five : Ideal.ofBits .f32 0x40A00000#32 = ((5 : ℝ) : EReal) := by
  simp [Ideal.ofBits, Ideal.ieee, -EReal.coe_mul]; norm_num

/-- The word of ten is ten. -/
theorem bits_ten : Ideal.ofBits .f32 0x41200000#32 = ((10 : ℝ) : EReal) := by
  simp [Ideal.ofBits, Ideal.ieee, -EReal.coe_mul]; norm_num

/-- The word of the number of points is 8192. -/
theorem bits_count : Ideal.ofBits .f32 0x46000000#32 = ((8192 : ℝ) : EReal) := by
  simp [Ideal.ofBits, Ideal.ieee, -EReal.coe_mul]; norm_num

/-- The word of the kernel's scale is 1 / 8192. -/
theorem bits_per_count : Ideal.ofBits .f32 0x39000000#32 = ((1 / 8192 : ℝ) : EReal) := by
  simp [Ideal.ofBits, Ideal.ieee, -EReal.coe_mul]; norm_num

/-- The word of infinity is infinity. -/
theorem bits_inf : Ideal.ofBits .f32 0x7F800000#32 = ⊤ := by simp [Ideal.ofBits, Ideal.ieee]

/-- A quotient of reals by a real that is not zero. -/
theorem div_real (x : ℝ) {y : ℝ} (h : y ≠ 0) : Ideal.div (x : EReal) (y : EReal) = ((x / y : ℝ) : EReal) := by
  rw [Ideal.div_coe h, ← EReal.coe_mul, mul_one_div]

/-- The root of a real that is not negative. -/
theorem sqrt_real {x : ℝ} (h : 0 ≤ x) : Ideal.sqrt (x : EReal) = ((√x : ℝ) : EReal) := by
  rw [Ideal.sqrt_coe, if_neg (not_lt.2 h)]

/-- The reciprocal root of a positive real. -/
theorem rsqrt_real {x : ℝ} (h : 0 < x) : Ideal.rsqrt (x : EReal) = ((1 / √x : ℝ) : EReal) := by
  rw [Ideal.rsqrt_coe, if_neg (not_lt.2 h.le), if_neg h.ne', one_div]

/-- The absolute value of a real. -/
theorem abs_real (x : ℝ) : max (x : EReal) (-(x : EReal)) = ((|x| : ℝ) : EReal) := by
  rw [← EReal.coe_neg]; exact (EReal.coe_strictMono.monotone.map_max).symm

variable {S : Shape}

/-- A choice by a comparison, at an index where the two values it compares and the two it chooses from are known. -/
theorem select_at {α : Type} {p : Prop} [Decidable p] {c : IVec S 1} {x y : S.Idx → α} {i : S.Idx} {a b : α}
    (hc : c i = BitVec.ofBool (decide p)) (hx : x i = a) (hy : y i = b) :
    select c x y i = if p then a else b := by
  show (if c i = 1 then x i else y i) = _
  rw [hc, hx, hy]
  by_cases h : p <;> simp [h]

/-- A choice between two reals is real. -/
theorem coe_ite {p : Prop} [Decidable p] (a b : ℝ) : (if p then (a : EReal) else (b : EReal)) = ((if p then a else b : ℝ) : EReal) := by
  split_ifs <;> rfl

end Cert.Value

end
-- ==== Proof.KernelReal.lean ====
module

public import proofs.«01_k».proof.Proof.KernelRot
public import proofs.«01_k».proof.Proof.Scalars

@[expose] public section

noncomputable section

namespace Cert.Value

open Idealize.ShloMosaic

variable {S : Shape} {i : S.Idx}

/-- The vector holds the real number `r` at the index `i`. -/
def At (i : S.Idx) (x : FVec Ideal S .f32) (r : ℝ) : Prop := x i = ((r : ℝ) : EReal)

variable {x y z : FVec Ideal S .f32} {a b d : ℝ}

/-- A vector holds whatever equals the number it holds. -/
theorem At.of_eq (h : At i x a) (e : a = b) : At i x b := e ▸ h

/-- A sum holds the sum. -/
theorem At.add (hx : At i x a) (hy : At i y b) : At i (addf x y) (a + b) := by
  show x i + y i = _
  rw [show x i = _ from hx, show y i = _ from hy, EReal.coe_add]

/-- A difference holds the difference. -/
theorem At.sub (hx : At i x a) (hy : At i y b) : At i (subf x y) (a - b) := by
  show x i - y i = _
  rw [show x i = _ from hx, show y i = _ from hy, EReal.coe_sub]

/-- A product holds the product. -/
theorem At.mul (hx : At i x a) (hy : At i y b) : At i (mulf x y) (a * b) := by
  show x i * y i = _
  rw [show x i = _ from hx, show y i = _ from hy, EReal.coe_mul]

/-- A quotient holds the quotient, the divisor not being zero. -/
theorem At.div (hx : At i x a) (hy : At i y b) (h : b ≠ 0) : At i (divf x y) (a / b) := by
  show Ideal.div (x i) (y i) = _
  rw [show x i = _ from hx, show y i = _ from hy, div_real a h]

/-- A maximum holds the greater number. -/
theorem At.max (hx : At i x a) (hy : At i y b) : At i (maximumf x y) (max a b) := by
  show Max.max (x i) (y i) = _
  rw [show x i = _ from hx, show y i = _ from hy]
  exact (EReal.coe_strictMono.monotone.map_max).symm

/-- A minimum holds the smaller number. -/
theorem At.min (hx : At i x a) (hy : At i y b) : At i (minimumf x y) (min a b) := by
  show Min.min (x i) (y i) = _
  rw [show x i = _ from hx, show y i = _ from hy]
  exact (EReal.coe_strictMono.monotone.map_min).symm

/-- A root holds the root of a number that is not negative. -/
theorem At.sqrt (hx : At i x a) (h : 0 ≤ a) : At i (sqrt x) (√a) := by
  show Ideal.sqrt (x i) = _
  rw [show x i = _ from hx, sqrt_real h]

/-- A reciprocal root holds that of a positive number. -/
theorem At.rsqrt (hx : At i x a) (h : 0 < a) : At i (rsqrt x) (1 / √a) := by
  show Ideal.rsqrt (x i) = _
  rw [show x i = _ from hx, rsqrt_real h]

/-- An absolute value holds the absolute value. -/
theorem At.abs (hx : At i x a) : At i (absf x) |a| := by
  show Max.max (x i) (-(x i)) = _
  rw [show x i = _ from hx, abs_real]

/-- A selection holds the number that its condition names. -/
theorem At.select {p : Prop} [Decidable p] {c : IVec S 1} (hc : c i = BitVec.ofBool (decide p))
    (hx : At i x a) (hy : At i y b) : At i (select c x y) (if p then a else b) :=
  (select_at hc hx hy).trans (coe_ite a b)

/-- The bit of "at least" tells whether it is so. -/
theorem At.oge (hx : At i x a) (hy : At i y b) : cmpf .oge x y i = BitVec.ofBool (decide (b ≤ a)) := by
  show Ideal.cmp .oge (x i) (y i) = _
  rw [show x i = _ from hx, show y i = _ from hy, Ideal.cmp_oge]
  simp only [EReal.coe_le_coe_iff]

/-- The bit of "at most" tells whether it is so. -/
theorem At.ole (hx : At i x a) (hy : At i y b) : cmpf .ole x y i = BitVec.ofBool (decide (a ≤ b)) := by
  show Ideal.cmp .ole (x i) (y i) = _
  rw [show x i = _ from hx, show y i = _ from hy, Ideal.cmp_ole]
  simp only [EReal.coe_le_coe_iff]

/-- The bit of "equal" tells whether it is so. -/
theorem At.oeq (hx : At i x a) (hy : At i y b) : cmpf .oeq x y i = BitVec.ofBool (decide (a = b)) := by
  show Ideal.cmp .oeq (x i) (y i) = _
  rw [show x i = _ from hx, show y i = _ from hy, Ideal.cmp_oeq]
  simp only [EReal.coe_eq_coe_iff]

/-- The bit of "different" tells whether it is so. -/
theorem At.one (hx : At i x a) (hy : At i y b) : cmpf .one x y i = BitVec.ofBool (decide (a ≠ b)) := by
  show Ideal.cmp .one (x i) (y i) = _
  rw [show x i = _ from hx, show y i = _ from hy, Ideal.cmp_one]
  simp only [ne_eq, EReal.coe_eq_coe_iff]

/-- The kernel's zero is zero. -/
theorem at_zero : At i (kZero S) 0 := Ideal.ofBits_zero_f32
/-- The kernel's one is one. -/
theorem at_one : At i (kOne S) 1 := Ideal.ofBits_one_f32
/-- The kernel's two is two. -/
theorem at_two : At i (kTwo S) 2 := bits_two

/-- One plus a square is positive. -/
theorem one_add_pos (t : ℝ) : 0 < 1 + t * t := by nlinarith [mul_self_nonneg t]

/-- The kernel's quotient that gives the rotation is the real one. -/
theorem at_tau (hx : At i x a) (hy : At i y b) (hz : At i z d) : At i (kTau x y z) (rTau a b d) := by
  refine (hy.sub hx).div (at_two.mul ((hz.select (hz.one at_zero) at_one).of_eq (b := if d = 0 then 1 else d) ?_)) ?_
  · by_cases h : d = 0 <;> simp [h]
  · by_cases h : d = 0 <;> simp [h]

/-- The kernel's zero less one is minus one. -/
theorem at_neg_one : At i (broadcast S (Scalar.subf (Scalar.ofBits .f32 0x00000000#32) (Scalar.ofBits .f32 0x3F800000#32) : Ideal .f32)) (-1) := by
  show Ideal.ofBits .f32 0x00000000#32 - Ideal.ofBits .f32 0x3F800000#32 = _
  rw [Ideal.ofBits_zero_f32, Ideal.ofBits_one_f32]
  norm_num

/-- The kernel's tangent is the real one, though written in two cases. -/
theorem at_tan (hx : At i x a) : At i (kTan x) (rTan a) := by
  have hr : At i (Idealize.ShloMosaic.sqrt (addf (kOne S) (mulf x x))) (√(1 + a * a)) := (at_one.add (hx.mul hx)).sqrt (one_add_pos a).le
  have hl := abs_lt_sqrt_one_add a
  refine .of_eq ((at_one.div (hx.add hr) ?_).select (hx.oge at_zero) (at_neg_one.div (hr.sub hx) ?_)) (rTan_eq a).symm
  · exact ne_of_gt (by linarith [neg_abs_le a])
  · exact ne_of_gt (by linarith [le_abs_self a])

/-- The kernel's cosine of a tangent is the real one. -/
theorem at_cosOf (hx : At i x a) : At i (kCosOf x) (1 / √(1 + a * a)) := (at_one.add (hx.mul hx)).rsqrt (one_add_pos a)

/-- The kernel's cosine of a rotation is the real one. -/
theorem at_cos (hx : At i x a) (hy : At i y b) (hz : At i z d) : At i (kCos x y z) (rCos a b d) := by
  refine .of_eq ((at_cosOf (at_tan (at_tau hx hy hz))).select (hz.one at_zero) at_one) ?_
  unfold rCos; by_cases h : d = 0 <;> simp [h]

/-- The kernel's sine of a rotation is the real one. -/
theorem at_sin (hx : At i x a) (hy : At i y b) (hz : At i z d) : At i (kSin x y z) (rSin a b d) := by
  have ht := at_tan (at_tau hx hy hz)
  refine .of_eq ((ht.mul (at_cosOf ht)).select (hz.one at_zero) at_zero) ?_
  unfold rSin; by_cases h : d = 0 <;> simp [h]

variable {c s : FVec Ideal S .f32} {u v : ℝ}

/-- The kernel's first diagonal entry is the real one. -/
theorem at_pp (hc : At i c u) (hs : At i s v) (hx : At i x a) (hy : At i y b) (hz : At i z d) :
    At i (kPP c s x y z) (rPP u v a b d) :=
  (((hc.mul hc).mul hx).sub (((at_two.mul hs).mul hc).mul hy)).add ((hs.mul hs).mul hz)

/-- The kernel's second diagonal entry is the real one. -/
theorem at_qq (hc : At i c u) (hs : At i s v) (hx : At i x a) (hy : At i y b) (hz : At i z d) :
    At i (kQQ c s x y z) (rQQ u v a b d) :=
  (((hs.mul hs).mul hx).add (((at_two.mul hs).mul hc).mul hy)).add ((hc.mul hc).mul hz)

/-- The kernel's entry to annul is the real one. -/
theorem at_pq (hc : At i c u) (hs : At i s v) (hx : At i x a) (hy : At i y b) (hz : At i z d) :
    At i (kPQ c s x y z) (rPQ u v a b d) :=
  ((hs.mul hc).mul (hx.sub hz)).add (((hc.mul hc).sub (hs.mul hs)).mul hy)

/-- The kernel's left number of a rotated pair is the real one. -/
theorem at_l (hc : At i c u) (hs : At i s v) (hx : At i x a) (hy : At i y b) : At i (kL c s x y) (rL u v a b) :=
  (hc.mul hx).sub (hs.mul hy)

/-- The kernel's right number of a rotated pair is the real one. -/
theorem at_r (hc : At i c u) (hs : At i s v) (hx : At i x a) (hy : At i y b) : At i (kR c s x y) (rR u v a b) :=
  (hs.mul hx).add (hc.mul hy)

/-- The fifteen vectors of an iteration hold the fifteen reals of one at the index `i`. -/
structure StAt (i : S.Idx) (X : St (FVec Ideal S .f32)) (r : St ℝ) : Prop where
  a00 : At i X.a00 r.a00
  a01 : At i X.a01 r.a01
  a02 : At i X.a02 r.a02
  a11 : At i X.a11 r.a11
  a12 : At i X.a12 r.a12
  a22 : At i X.a22 r.a22
  v00 : At i X.v00 r.v00
  v01 : At i X.v01 r.v01
  v02 : At i X.v02 r.v02
  v10 : At i X.v10 r.v10
  v11 : At i X.v11 r.v11
  v12 : At i X.v12 r.v12
  v20 : At i X.v20 r.v20
  v21 : At i X.v21 r.v21
  v22 : At i X.v22 r.v22

variable {X : St (FVec Ideal S .f32)} {r : St ℝ}

/-- The kernel's rotation in the plane (0, 2) is the real one. -/
theorem StAt.step02 (h : StAt i X r) : StAt i (kStep02 X) (rStep02 r) := by
  have hc := at_cos h.a00 h.a22 h.a02
  have hs := at_sin h.a00 h.a22 h.a02
  exact ⟨at_pp hc hs h.a00 h.a02 h.a22, at_l hc hs h.a01 h.a12, at_pq hc hs h.a00 h.a02 h.a22, h.a11,
    at_r hc hs h.a01 h.a12, at_qq hc hs h.a00 h.a02 h.a22,
    at_l hc hs h.v00 h.v02, h.v01, at_r hc hs h.v00 h.v02, at_l hc hs h.v10 h.v12, h.v11, at_r hc hs h.v10 h.v12,
    at_l hc hs h.v20 h.v22, h.v21, at_r hc hs h.v20 h.v22⟩

/-- The kernel's rotation in the plane (1, 2) is the real one. -/
theorem StAt.step12 (h : StAt i X r) : StAt i (kStep12 X) (rStep12 r) := by
  have hc := at_cos h.a11 h.a22 h.a12
  have hs := at_sin h.a11 h.a22 h.a12
  exact ⟨h.a00, at_l hc hs h.a01 h.a02, at_r hc hs h.a01 h.a02, at_pp hc hs h.a11 h.a12 h.a22,
    at_pq hc hs h.a11 h.a12 h.a22, at_qq hc hs h.a11 h.a12 h.a22,
    h.v00, at_l hc hs h.v01 h.v02, at_r hc hs h.v01 h.v02, h.v10, at_l hc hs h.v11 h.v12, at_r hc hs h.v11 h.v12,
    h.v20, at_l hc hs h.v21 h.v22, at_r hc hs h.v21 h.v22⟩

/-- The kernel's rotation in the plane (0, 1) is the real one. -/
theorem StAt.step01 (h : StAt i X r) : StAt i (kStep01 X) (rStep01 r) := by
  have hc := at_cos h.a00 h.a11 h.a01
  have hs := at_sin h.a00 h.a11 h.a01
  exact ⟨at_pp hc hs h.a00 h.a01 h.a11, at_pq hc hs h.a00 h.a01 h.a11, at_l hc hs h.a02 h.a12,
    at_qq hc hs h.a00 h.a01 h.a11, at_r hc hs h.a02 h.a12, h.a22,
    at_l hc hs h.v00 h.v01, at_r hc hs h.v00 h.v01, h.v02, at_l hc hs h.v10 h.v11, at_r hc hs h.v10 h.v11, h.v12,
    at_l hc hs h.v20 h.v21, at_r hc hs h.v20 h.v21, h.v22⟩

/-- The kernel's sweep is the real one. -/
theorem StAt.sweep (h : StAt i X r) : StAt i (kSweep X) (rSweep r) := h.step02.step12.step01

/-- The kernel's seven sweeps are the real ones. -/
theorem StAt.sweeps (h : StAt i X r) : StAt i (kSweeps X) (rSweeps r) :=
  h.sweep.sweep.sweep.sweep.sweep.sweep.sweep

/-- The kernel's start of an iteration is the real one. -/
theorem at_start {x0 x1 x2 x3 x4 x5 : FVec Ideal S .f32} {r0 r1 r2 r3 r4 r5 : ℝ} (h0 : At i x0 r0) (h1 : At i x1 r1)
    (h2 : At i x2 r2) (h3 : At i x3 r3) (h4 : At i x4 r4) (h5 : At i x5 r5) :
    StAt i (kStart x0 x1 x2 x3 x4 x5) (rStart r0 r1 r2 r3 r4 r5) :=
  ⟨h0, h1, h2, h3, h4, h5, at_one, at_zero, at_zero, at_zero, at_one, at_zero, at_zero, at_zero, at_one⟩

/-- The kernel's root of an eigenvalue is the real one. -/
theorem at_root (hx : At i x a) : At i (kRoot x) (rRoot a) := (hx.max at_zero).sqrt (le_max_right _ _)

/-- The kernel's entry of the symmetric root is the real one. -/
theorem at_h {x0 x1 x2 y0 y1 y2 z0 z1 z2 : FVec Ideal S .f32} {a0 a1 a2 b0 b1 b2 d0 d1 d2 : ℝ}
    (h0 : At i x0 a0) (h1 : At i x1 a1) (h2 : At i x2 a2) (k0 : At i y0 b0) (k1 : At i y1 b1) (k2 : At i y2 b2)
    (l0 : At i z0 d0) (l1 : At i z1 d1) (l2 : At i z2 d2) :
    At i (kH x0 x1 x2 y0 y1 y2 z0 z1 z2) (rH a0 a1 a2 b0 b1 b2 d0 d1 d2) :=
  (((h0.mul k0).mul l0).add ((h1.mul k1).mul l1)).add ((h2.mul k2).mul l2)

/-- The kernel's start of the second iteration is the real one. -/
theorem StAt.half (h : StAt i X r) : StAt i (kHalf X) (rHalf r) := by
  have r0 := at_root h.a00
  have r1 := at_root h.a11
  have r2 := at_root h.a22
  exact at_start (at_h h.v00 h.v01 h.v02 r0 r1 r2 h.v00 h.v01 h.v02) (at_h h.v00 h.v01 h.v02 r0 r1 r2 h.v10 h.v11 h.v12)
    (at_h h.v00 h.v01 h.v02 r0 r1 r2 h.v20 h.v21 h.v22) (at_h h.v10 h.v11 h.v12 r0 r1 r2 h.v10 h.v11 h.v12)
    (at_h h.v10 h.v11 h.v12 r0 r1 r2 h.v20 h.v21 h.v22) (at_h h.v20 h.v21 h.v22 r0 r1 r2 h.v20 h.v21 h.v22)

/-- The kernel picks the component that the least eigenvalue names. -/
theorem StAt.pick (h : StAt i X r) {y0 y1 y2 : FVec Ideal S .f32} {b0 b1 b2 : ℝ} (k0 : At i y0 b0) (k1 : At i y1 b1)
    (k2 : At i y2 b2) : At i (kPick X y0 y1 y2) (rPick r b0 b1 b2) := by
  have w0 := h.a00.max at_zero
  have w1 := h.a11.max at_zero
  have w2 := h.a22.max at_zero
  have m := (w0.min w1).min w2
  exact (k2.select (w2.oeq m) (k1.select (w1.oeq m) k0)).of_eq (rPick_eq r b0 b1 b2).symm

/-- The kernel's product of a displacement with the normal is the real one. -/
theorem StAt.along (h : StAt i X r) (hx : At i x a) (hy : At i y b) (hz : At i z d) :
    At i (kAlong X x y z) (rAlong r a b d) :=
  ((hx.mul (h.pick h.v00 h.v01 h.v02)).add (hy.mul (h.pick h.v10 h.v11 h.v12))).add (hz.mul (h.pick h.v20 h.v21 h.v22))

/-- The kernel's tenth is a tenth. -/
theorem at_tenth : At i (kTenth S) (1 / 10) := IdealRules.named_const.ideal_named_scalar _ _ _ _ rfl

/-- The kernel's entry of the Gram matrix from moments is the real one. -/
theorem at_gram (hx : At i x a) (hy : At i y b) (hz : At i z d) : At i (kGram x y z) (a - b * d * (1 / 10)) :=
  hx.sub ((hy.mul hz).mul at_tenth)

/-- The kernel's signed distance is the real one of the Gram matrix and the offset its moments give. -/
theorem at_ptof {sx sy sz sxx sxy sxz syy syz szz px py pz : FVec Ideal S .f32} {ax ay az axx axy axz ayy ayz azz bx by' bz : ℝ}
    (hx : At i sx ax) (hy : At i sy ay) (hz : At i sz az) (hxx : At i sxx axx) (hxy : At i sxy axy) (hxz : At i sxz axz)
    (hyy : At i syy ayy) (hyz : At i syz ayz) (hzz : At i szz azz) (px' : At i px bx) (py' : At i py by') (pz' : At i pz bz) :
    At i (kPtof sx sy sz sxx sxy sxz syy syz szz px py pz)
      (rPtof (axx - ax * ax * (1 / 10)) (axy - ax * ay * (1 / 10)) (axz - ax * az * (1 / 10))
        (ayy - ay * ay * (1 / 10)) (ayz - ay * az * (1 / 10)) (azz - az * az * (1 / 10))
        (bx - ax * (1 / 10)) (by' - ay * (1 / 10)) (bz - az * (1 / 10))) :=
  (at_start (at_gram hxx hx hx) (at_gram hxy hx hy) (at_gram hxz hx hz) (at_gram hyy hy hy) (at_gram hyz hy hz)
    (at_gram hzz hz hz)).sweeps.half.sweeps.along (px'.sub (hx.mul at_tenth)) (py'.sub (hy.mul at_tenth)) (pz'.sub (hz.mul at_tenth))

end Cert.Value

end
-- ==== Proof.KernelDist.lean ====
module

public import proofs.«01_k».proof.Proof.KernelBlock
public import proofs.«01_k».proof.Proof.KernelReal
public import Idealize.ShloMosaic.Lib.Pipeline.Value
public import Idealize.ShloMosaic.Lib.ValueIdx
public import Idealize.ShloMosaic.PureOps.Ideal.Laws

@[expose] public section

noncomputable section

namespace Cert.Value

open Idealize.ShloMosaic Cert.KernelIdeal Cert.KernelIdeal.Gen

/-- The point `s` of the block and the point `j` of the cloud. -/
abbrev dIdx (s : Fin 1024) (j : Fin 4096) : S1024x4096.Idx := fun a => match a with
  | ⟨0, _⟩ => s
  | ⟨1, _⟩ => j

/-- Coordinate `k` of the point `j` of a cloud held by rows. -/
abbrev cIdx (k : Fin 3) (j : Fin 4096) : S1x3x4096.Idx := fun a => match a with
  | ⟨0, _⟩ => ⟨0, Nat.one_pos⟩
  | ⟨1, _⟩ => k
  | ⟨2, _⟩ => j

/-- The same without the leading axis. -/
abbrev eIdx (k : Fin 3) (j : Fin 4096) : S3x4096.Idx := fun a => match a with
  | ⟨0, _⟩ => k
  | ⟨1, _⟩ => j

/-- Coordinate `k` of the point `s` of the block. -/
abbrev bIdx (s : Fin 1024) (k : Fin 3) : S1x1024x3.Idx := fun a => match a with
  | ⟨0, _⟩ => ⟨0, Nat.one_pos⟩
  | ⟨1, _⟩ => s
  | ⟨2, _⟩ => k

/-- The same without the leading axis. -/
abbrev gIdx (s : Fin 1024) (k : Fin 3) : S1024x3.Idx := fun a => match a with
  | ⟨0, _⟩ => s
  | ⟨1, _⟩ => k

/-- A vector over one axis. -/
abbrev oneIdx {n : ℕ} (j : Fin n) : (⟨1, ![n]⟩ : Shape).Idx := fun a => match a with
  | ⟨0, _⟩ => j

/-- A sum of reals, taken in the extended reals, is the real sum. -/
theorem sum_coe {ι : Type} (t : Finset ι) (f : ι → ℝ) : (∑ k ∈ t, ((f k : ℝ) : EReal)) = ((∑ k ∈ t, f k : ℝ) : EReal) := by
  classical
  induction t using Finset.induction_on with
  | empty => simp
  | insert a t h ih => rw [Finset.sum_insert h, Finset.sum_insert h, ih, EReal.coe_add]

/-- The kernel's cloud without its leading axis, at one place. -/
theorem cloud_apply (x : Vec Ideal S1x3x4096 .f32) (k : Fin 3) (j : Fin 4096) : k0_pay3 x (eIdx k j) = x (cIdx k j) :=
  shapeCast_apply _ shapeCasts_S1x3x4096_S3x4096 _ _ (by
    rw [Shape.rowMajor_val_three, Shape.rowMajor_val_two]
    show (0 * 3 + k.val) * 4096 + j.val = k.val * 4096 + j.val
    omega)

/-- The kernel's block of points without its leading axis, at one place. -/
theorem block_apply (x : Vec Ideal S1x1024x3 .f32) (s : Fin 1024) (k : Fin 3) :
    (shapeCast S1024x3 x shapeCasts_S1x1024x3_S1024x3 : FVec Ideal S1024x3 .f32) (gIdx s k) = x (bIdx s k) :=
  shapeCast_apply _ shapeCasts_S1x1024x3_S1024x3 _ _ (by
    rw [Shape.rowMajor_val_three, Shape.rowMajor_val_two]
    show (0 * 1024 + s.val) * 3 + k.val = s.val * 3 + k.val
    omega)

/-- One number for each row, spread along the rows, at one place. -/
theorem alongRow_apply (v : FVec Ideal S1024 .f32) (s : Fin 1024) (j : Fin 4096) : alongRow v (dIdx s j) = v (oneIdx s) := by
  unfold alongRow
  refine (broadcastTo_apply _ broadcasts_S1024x1_S1024x4096 (dIdx s j) (fun a => match a with
    | ⟨0, _⟩ => s
    | ⟨1, _⟩ => ⟨0, Nat.one_pos⟩ : S1024x1.Idx) (fun a => match a with
    | ⟨0, _⟩ => rfl
    | ⟨1, _⟩ => rfl)).trans ?_
  exact shapeCast_apply _ shapeCasts_S1024_S1024x1 _ (oneIdx s) (by
    rw [Shape.rowMajor_val_one, Shape.rowMajor_val_two]
    show s.val = s.val * 1 + 0
    omega)

/-- The product of the block's points with the cloud's. -/
theorem prod_apply (a : FVec Ideal S1024x3 .bf16) (b : FVec Ideal S3x4096 .bf16) (s : Fin 1024) (j : Fin 4096) :
    matmul dot_S1024x3_S3x4096_S1024x4096_1_0_0_1_n_n none a b (constant S1024x4096 .f32 0x00000000#32) (dIdx s j)
      = ∑ k : Fin 3, a (gIdx s k) * b (eIdx k j) := by
  simp only [matmul]
  rw [Ideal.matmul_apply, ← Equiv.sum_comp (ValueIdx.contrEquiv1 dot_S1024x3_S3x4096_S1024x4096_1_0_0_1_n_n 3 rfl rfl).symm]
  refine (congrArg (· + _) Ideal.ofBits_zero_f32).trans ((zero_add _).trans ?_)
  refine Finset.sum_congr rfl fun k _ => ?_
  have hk := ValueIdx.contrEquiv1_symm_val dot_S1024x3_S3x4096_S1024x4096_1_0_0_1_n_n 3 rfl rfl k
  congr 2
  · funext a
    match a with
    | ⟨0, _⟩ => rfl
    | ⟨1, _⟩ => exact Fin.ext ((DotDims.lhsIdx_val_of_single _ rfl _ _).trans hk)
  · funext a
    match a with
    | ⟨0, _⟩ => exact Fin.ext ((DotDims.rhsIdx_val_of_single _ rfl _ _).trans hk)
    | ⟨1, _⟩ => rfl

/-- The sum of a point's coordinates. -/
theorem sumBlock_apply (x : FVec Ideal S1024x3 .f32) (s : Fin 1024) (j : Fin 4096) :
    broadcastTo S1024x4096 (shapeCast S1024x1 (multiReduction .add [1] S1024 x 0x00000000#32 reduces_S1024x3_S1024 (.inl rfl) rfl)
      shapeCasts_S1024_S1024x1) broadcasts_S1024x1_S1024x4096 (dIdx s j) = ∑ k : Fin 3, x (gIdx s k) := by
  refine (alongRow_apply _ s j).trans ((Ideal.multiReduction_add_single _ _ reduces_S1024x3_S1024 _ _ _).trans ?_)
  exact Finset.sum_congr rfl fun k _ => congrArg x (funext fun a => Fin.ext (match a with
    | ⟨0, _⟩ => rfl
    | ⟨1, _⟩ => rfl))

/-- The squared lengths of the cloud's points, spread over the rows, at one place. -/
theorem sumCloud_apply (x : FVec Ideal S3x4096 .f32) (s : Fin 1024) (j : Fin 4096) :
    broadcastTo S1024x4096 (shapeCast S1x4096 (multiReduction .add [0] S4096 x 0x00000000#32 reduces_S3x4096_S4096 (.inl rfl) rfl)
      shapeCasts_S4096_S1x4096) broadcasts_S1x4096_S1024x4096 (dIdx s j) = ∑ k : Fin 3, x (eIdx k j) := by
  refine (broadcastTo_apply _ broadcasts_S1x4096_S1024x4096 (dIdx s j) (fun a => match a with
    | ⟨0, _⟩ => ⟨0, Nat.one_pos⟩
    | ⟨1, _⟩ => j : S1x4096.Idx) (fun a => match a with
    | ⟨0, _⟩ => rfl
    | ⟨1, _⟩ => rfl)).trans ?_
  refine (shapeCast_apply _ shapeCasts_S4096_S1x4096 _ (oneIdx j) (by
    rw [Shape.rowMajor_val_one, Shape.rowMajor_val_two]
    show j.val = 0 * 4096 + j.val
    omega)).trans ((Ideal.multiReduction_add_single _ _ reduces_S3x4096_S4096 _ _ _).trans ?_)
  exact Finset.sum_congr rfl fun k _ => congrArg x (funext fun a => Fin.ext (match a with
    | ⟨0, _⟩ => rfl
    | ⟨1, _⟩ => rfl))

/-- The squared distance of the points `p` and `q`, as the two squared lengths less twice the product. -/
def rDist (p q : Fin 3 → ℝ) : ℝ := (∑ k, p k * p k) + (∑ k, q k * q k) - 2 * ∑ k, p k * q k

variable {x0 : Vec Ideal S1x1024x3 .f32} {x1 : Vec Ideal S1x3x4096 .f32} {s : Fin 1024} {p : Fin 3 → ℝ} {u : Fin 4096 → Fin 3 → ℝ}

/-- The kernel's distances are these. -/
theorem dist_apply (h0 : ∀ k, x0 (bIdx s k) = ((p k : ℝ) : EReal)) (h1 : ∀ k j, x1 (cIdx k j) = ((u j k : ℝ) : EReal)) (j : Fin 4096) :
    k0_pay7 x0 x1 (dIdx s j) = ((rDist p (u j) : ℝ) : EReal) := by
  have ha : ∀ k, (shapeCast S1024x3 x0 shapeCasts_S1x1024x3_S1024x3 : FVec Ideal S1024x3 .f32) (gIdx s k) = ((p k : ℝ) : EReal) :=
    fun k => (block_apply x0 s k).trans (h0 k)
  have hb : ∀ k, k0_pay3 x1 (eIdx k j) = ((u j k : ℝ) : EReal) := fun k => (cloud_apply x1 k j).trans (h1 k j)
  refine At.sub (At.add ?_ ?_) (At.mul (bits_two) ?_)
  · refine (sumBlock_apply _ s j).trans (Eq.trans ?_ (sum_coe Finset.univ fun k => p k * p k))
    exact Finset.sum_congr rfl fun k _ => At.mul (ha k) (ha k)
  · refine (sumCloud_apply _ s j).trans (Eq.trans ?_ (sum_coe Finset.univ fun k => u j k * u j k))
    exact Finset.sum_congr rfl fun k _ => At.mul (hb k) (hb k)
  · refine (prod_apply _ _ s j).trans (Eq.trans ?_ (sum_coe Finset.univ fun k => p k * u j k))
    exact Finset.sum_congr rfl fun k _ => by
      rw [EReal.coe_mul]; exact congrArg₂ (· * ·) (ha k) (hb k)

end Cert.Value

end
-- ==== Proof.Nearest.lean ====
module

public import Idealize.ShloMosaic.Lib.SortFacts
public import Idealize.ShloMosaic.Lib.Pointwise.Select

@[expose] public section

noncomputable section

namespace Cert.Value

open Idealize.ShloMosaic

/-- The positions of a row of distances in the order of a stable sort of the negated distances, the greatest first. -/
def near (D : Fin 4096 → EReal) : Fin 4096 → Fin 4096 :=
  sortedFrom (fun k k' => Ideal.cmp .ogt (-(D k)) (-(D k')) == 1#1)

variable (D : Fin 4096 → EReal)

/-- The sort's order on the negated distances is the order of the distances. -/
theorem near_order (a b : Fin 4096) : (Ideal.cmp .ogt (-(D a)) (-(D b)) == 1#1) = decide (D a < D b) := by
  rw [Ideal.cmp_ogt]
  by_cases h : D a < D b
  · rw [decide_eq_true (EReal.neg_lt_neg_iff.2 h), decide_eq_true h]; rfl
  · rw [decide_eq_false (mt EReal.neg_lt_neg_iff.1 h), decide_eq_false h]; rfl

/-- No position comes twice. -/
theorem near_injective : Function.Injective (near D) := sortedFrom_injective _
/-- Every position comes. -/
theorem near_surjective : Function.Surjective (near D) := sortedFrom_surjective _

/-- The distances in that order do not decrease. -/
theorem near_mono {i j : Fin 4096} (h : i ≤ j) : D (near D i) ≤ D (near D j) := by
  rcases eq_or_lt_of_le h with rfl | h
  · exact le_rfl
  have := sortedFrom_noInversion (fun k k' => Ideal.cmp .ogt (-(D k)) (-(D k')) == 1#1)
    (fun k k' => Ideal.cmp .ogt (-(D k)) (-(D k')) == 1#1)
    (by simp only [near_order, decide_eq_true_eq, decide_eq_false_iff_not]; exact fun a b h => not_lt.2 h.le)
    (fun _ _ h => h)
    (by simp only [near_order, decide_eq_false_iff_not]; exact fun a b c h h' => not_lt.2 ((not_lt.1 h').trans (not_lt.1 h))) i j h
  rw [near_order, decide_eq_false_iff_not] at this
  exact not_lt.1 this

/-- The first eleven distances in that order are all different. -/
def Untied : Prop := ∀ r : Fin 10, D (near D ⟨r.val, by omega⟩) < D (near D ⟨r.val + 1, by omega⟩)

/-- The least distance is the first. -/
theorem inf_eq : Finset.univ.inf D = D (near D ⟨0, by omega⟩) := by
  refine le_antisymm (Finset.inf_le (Finset.mem_univ _)) (Finset.le_inf fun j _ => ?_)
  obtain ⟨m, rfl⟩ := near_surjective D j
  exact near_mono D (Fin.mk_le_of_le_val (Nat.zero_le _))

variable {D}

/-- The least distance above the `r`-th is the next one. -/
theorem inf_next_eq (h : Untied D) (r : Fin 10) :
    (Finset.univ.inf fun j => if D (near D ⟨r.val, by omega⟩) < D j then D j else ⊤) = D (near D ⟨r.val + 1, by omega⟩) := by
  refine le_antisymm ((Finset.inf_le (Finset.mem_univ (near D ⟨r.val + 1, by omega⟩))).trans ?_) (Finset.le_inf fun j _ => ?_)
  · rw [if_pos (h r)]
  · obtain ⟨m, rfl⟩ := near_surjective D j
    split_ifs with hm
    · refine near_mono D (Fin.mk_le_of_le_val ?_)
      by_contra hc
      exact absurd hm (not_lt.2 (near_mono D (Fin.le_def.2 (show m.val ≤ r.val by omega))))
    · exact le_top

/-- The distances up to the tenth are the first ten. -/
theorem le_tenth_iff (h : Untied D) (m : Fin 4096) : D (near D m) ≤ D (near D ⟨9, by omega⟩) ↔ m.val < 10 := by
  constructor
  · intro hm
    by_contra hc
    exact absurd (hm.trans_lt (h 9)) (not_lt.2 (near_mono D (Fin.le_def.2 (show 10 ≤ m.val by omega))))
  · exact fun hm => near_mono D (Fin.le_def.2 (show m.val ≤ 9 by omega))

/-- A sum over all positions that counts only the first ten is the sum over these. -/
theorem sum_first (g : Fin 4096 → ℝ) :
    (∑ m : Fin 4096, (if m.val < 10 then 1 else 0) * g m) = ∑ r : Fin 10, g ⟨r.val, by omega⟩ := by
  rw [show (∑ m : Fin 4096, (if m.val < 10 then 1 else 0) * g m)
    = ∑ m : Fin (10 + 4086), (if m.val < 10 then (1 : ℝ) else 0) * g m from rfl, Fin.sum_univ_add]
  rw [Finset.sum_eq_zero (s := (Finset.univ : Finset (Fin 4086))) fun m _ => by
    rw [if_neg (by simp), zero_mul], add_zero]
  exact Finset.sum_congr rfl fun r _ => by rw [if_pos (by simp), one_mul]; rfl

/-- A sum over the positions up to the tenth distance is the sum over the first ten. -/
theorem sum_tenth (h : Untied D) (f : Fin 4096 → ℝ) :
    (∑ j, (if D j ≤ D (near D ⟨9, by omega⟩) then 1 else 0) * f j) = ∑ r : Fin 10, f (near D ⟨r.val, by omega⟩) := by
  refine Eq.trans ?_ (sum_first fun m => f (near D m))
  refine (Function.Bijective.sum_comp (e := near D) ⟨near_injective D, near_surjective D⟩
    fun j => (if D j ≤ D (near D ⟨9, by omega⟩) then (1 : ℝ) else 0) * f j).symm.trans ?_
  exact Finset.sum_congr rfl fun m _ => by simp only [le_tenth_iff h]

end Cert.Value

end
-- ==== Proof.KernelMoments.lean ====
module

public import proofs.«01_k».proof.Proof.KernelDist
public import proofs.«01_k».proof.Proof.Nearest

@[expose] public section

noncomputable section

namespace Cert.Value

open Idealize.ShloMosaic Cert.KernelIdeal Cert.KernelIdeal.Gen

/-- A reduction by the minimum over one axis, as a fold over that axis's coordinates. -/
theorem minimumf_single {s t : Shape} {a : Fin s.rank} (src : FVec Ideal s .f32) (acc : BitVec 32) (h : s.Reduces [a] t)
    (hφ : FKind.Formats .f32) (hacc : acc = FKind.minimumf.neutral .f32 hφ) (j : t.Idx) :
    multiReduction .minimumf [a] t src acc h hφ hacc j
      = (Finset.univ : Finset (Fin (s.size a))).fold min (FloatOps.ofBits .f32 acc) (src ∘ h.lift j) := by
  rw [multiReduction_minimumf_eq_fold]; exact h.fold_filter_drop_single _ _ src j

/-- The least value of a row of extended reals. -/
theorem rowMin_apply (x : FVec Ideal S1024x4096 .f32) (s : Fin 1024) :
    rowMin x (oneIdx s) = Finset.univ.inf fun j : Fin 4096 => (x (dIdx s j) : EReal) := by
  refine (minimumf_single x _ reduces_S1024x4096_S1024 _ _ (oneIdx s)).trans ?_
  show Finset.univ.fold min (Ideal.ofBits .f32 0x7F800000#32) _ = Finset.univ.fold min ⊤ _
  rw [bits_inf]
  exact Finset.fold_congr fun j _ => congrArg x (funext fun a => Fin.ext (match a with
    | ⟨0, _⟩ => rfl
    | ⟨1, _⟩ => rfl))

/-- The next minimum of a row: the least of the distances greater than the last one. -/
theorem nextMin_apply (d : FVec Ideal S1024x4096 .f32) (v : FVec Ideal S1024 .f32) (s : Fin 1024) :
    nextMin d v (oneIdx s) = Finset.univ.inf fun j : Fin 4096 =>
      if (v (oneIdx s) : EReal) < d (dIdx s j) then (d (dIdx s j) : EReal) else ⊤ := by
  unfold nextMin
  rw [rowMin_apply]
  refine Finset.inf_congr rfl fun j _ => ?_
  refine select_at (p := (v (oneIdx s) : EReal) < d (dIdx s j)) ?_ rfl bits_inf
  show Ideal.cmp .ogt (d (dIdx s j)) (alongRow v (dIdx s j)) = _
  rw [alongRow_apply, Ideal.cmp_ogt]

variable {d : FVec Ideal S1024x4096 .f32} {s : Fin 1024}

/-- The tenth least value of a row whose first eleven values are different is the tenth of the sorted row. -/
theorem tenthMin_apply (h : Untied fun j => d (dIdx s j)) :
    tenthMin d (oneIdx s) = d (dIdx s (near (fun j => d (dIdx s j)) ⟨9, by omega⟩)) := by
  have key : ∀ k (hk : k < 10), (nextMin d)^[k] (rowMin d) (oneIdx s)
      = d (dIdx s (near (fun j => d (dIdx s j)) ⟨k, by omega⟩)) := by
    intro k
    induction k with
    | zero => exact fun _ => (rowMin_apply d s).trans (inf_eq fun j => d (dIdx s j))
    | succ k ih =>
      intro hk
      rw [Function.iterate_succ_apply', nextMin_apply, ih (by omega)]
      exact inf_next_eq h ⟨k, by omega⟩
  exact key 9 (by omega)

/-- The mask of the points up to a distance. -/
theorem mask_apply (v : FVec Ideal S1024 .f32) (j : Fin 4096) :
    k0_pay11 d v (dIdx s j) = (((if (d (dIdx s j) : EReal) ≤ v (oneIdx s) then 1 else 0 : ℝ) : ℝ) : EReal) := by
  have e : cmpf .ole d (alongRow v) (dIdx s j) = BitVec.ofBool (decide ((d (dIdx s j) : EReal) ≤ v (oneIdx s))) := by
    show Ideal.cmp .ole (d (dIdx s j)) (alongRow v (dIdx s j)) = _
    rw [alongRow_apply, Ideal.cmp_ole]
  show (FloatOps.sitofp (F := Ideal) .f32 ((cmpf .ole d (alongRow v) (dIdx s j)).setWidth 32) : EReal) = _
  rw [e]
  by_cases h : (d (dIdx s j) : EReal) ≤ v (oneIdx s)
  · rw [decide_eq_true h, if_pos h]
    show (((BitVec.setWidth 32 1#1).toInt : ℝ) : EReal) = _
    norm_num
  · rw [decide_eq_false h, if_neg h]
    show (((BitVec.setWidth 32 0#1).toInt : ℝ) : EReal) = _
    norm_num

/-- Feature `k` of the point `j`. -/
abbrev fIdx (k : Fin 18) (j : Fin 4096) : S18x4096.Idx := fun a => match a with
  | ⟨0, _⟩ => k
  | ⟨1, _⟩ => j

/-- Moment `k` of the point `s` of the block. -/
abbrev oIdx (k : Fin 18) (s : Fin 1024) : S18x1024.Idx := fun a => match a with
  | ⟨0, _⟩ => k
  | ⟨1, _⟩ => s

/-- The eighteen features of two points: the coordinates of each and their products. -/
def feat (u w : Fin 3 → ℝ) : Fin 18 → ℝ :=
  ![u 0, u 1, u 2, u 0 * u 0, u 0 * u 1, u 0 * u 2, u 1 * u 1, u 1 * u 2, u 2 * u 2,
    w 0, w 1, w 2, w 0 * w 0, w 0 * w 1, w 0 * w 2, w 1 * w 1, w 1 * w 2, w 2 * w 2]

/-- A row of the features. -/
abbrev rIdx (j : Fin 4096) : S1x4096.Idx := fun a => match a with
  | ⟨0, _⟩ => ⟨0, Nat.one_pos⟩
  | ⟨1, _⟩ => j

/-- One row of a cloud, at one place. -/
theorem row_apply (k : Fin 3) (h : S3x4096.Slices ![k.val, 0] S1x4096) (x : FVec Ideal S3x4096 .f32) (j : Fin 4096) :
    extractStridedSlice S1x4096 ![k.val, 0] x h (rIdx j) = x (eIdx k j) :=
  extractStridedSlice_apply _ x h _ _ (fun a => match a with
    | ⟨0, _⟩ => rfl
    | ⟨1, _⟩ => (Nat.zero_add _).symm)

variable {x y : FVec Ideal S3x4096 .f32} {u w : Fin 4096 → Fin 3 → ℝ}

/-- The eighteen features of a point, at one place, are its real features. -/
theorem feat_apply (hx : ∀ k j, x (eIdx k j) = ((u j k : ℝ) : EReal)) (hy : ∀ k j, y (eIdx k j) = ((w j k : ℝ) : EReal))
    (k : Fin 18) (j : Fin 4096) : k0_pay10 x y (fIdx k j) = ((feat (u j) (w j) k : ℝ) : EReal) := by
  have rx : ∀ (k : Fin 3) (h : S3x4096.Slices ![k.val, 0] S1x4096), At (rIdx j) (extractStridedSlice S1x4096 ![k.val, 0] x h) (u j k) :=
    fun k h => (row_apply k h x j).trans (hx k j)
  have ry : ∀ (k : Fin 3) (h : S3x4096.Slices ![k.val, 0] S1x4096), At (rIdx j) (extractStridedSlice S1x4096 ![k.val, 0] y h) (w j k) :=
    fun k h => (row_apply k h y j).trans (hy k j)
  let R : ∀ (z : FVec Ideal S3x4096 .f32), Fin 3 → FVec Ideal S1x4096 .f32 := fun z =>
    ![extractStridedSlice S1x4096 ![0, 0] z slices_S3x4096_o0_0_S1x4096, extractStridedSlice S1x4096 ![1, 0] z slices_S3x4096_o1_0_S1x4096,
      extractStridedSlice S1x4096 ![2, 0] z slices_S3x4096_o2_0_S1x4096]
  have hRx : ∀ k, At (rIdx j) (R x k) (u j k) := fun k => match k with
    | ⟨0, _⟩ => rx 0 slices_S3x4096_o0_0_S1x4096
    | ⟨1, _⟩ => rx 1 slices_S3x4096_o1_0_S1x4096
    | ⟨2, _⟩ => rx 2 slices_S3x4096_o2_0_S1x4096
  have hRy : ∀ k, At (rIdx j) (R y k) (w j k) := fun k => match k with
    | ⟨0, _⟩ => ry 0 slices_S3x4096_o0_0_S1x4096
    | ⟨1, _⟩ => ry 1 slices_S3x4096_o1_0_S1x4096
    | ⟨2, _⟩ => ry 2 slices_S3x4096_o2_0_S1x4096
  let L : Fin 18 → FVec Ideal S1x4096 .f32 := ![R x 0, R x 1, R x 2, mulf (R x 0) (R x 0), mulf (R x 0) (R x 1), mulf (R x 0) (R x 2),
    mulf (R x 1) (R x 1), mulf (R x 1) (R x 2), mulf (R x 2) (R x 2), R y 0, R y 1, R y 2, mulf (R y 0) (R y 0), mulf (R y 0) (R y 1),
    mulf (R y 0) (R y 2), mulf (R y 1) (R y 1), mulf (R y 1) (R y 2), mulf (R y 2) (R y 2)]
  refine (concatenate_ofFn_unit_apply (t := S18x4096) (s₁ := S1x4096) 0 L
    concatenates_S1x4096_S1x4096_S1x4096_S1x4096_S1x4096_S1x4096_S1x4096_S1x4096_S1x4096_S1x4096_S1x4096_S1x4096_S1x4096_S1x4096_S1x4096_S1x4096_S1x4096_S1x4096_S18x4096_d0
    rfl rfl _ k rfl (rIdx j) (fun b hb => match b, hb with
    | ⟨0, _⟩, hb => absurd rfl hb
    | ⟨1, _⟩, _ => rfl)).trans ?_
  have hL : ∀ k, At (rIdx j) (L k) (feat (u j) (w j) k) := fun k => match k with
    | ⟨0, _⟩ => hRx 0
    | ⟨1, _⟩ => hRx 1
    | ⟨2, _⟩ => hRx 2
    | ⟨3, _⟩ => (hRx 0).mul (hRx 0)
    | ⟨4, _⟩ => (hRx 0).mul (hRx 1)
    | ⟨5, _⟩ => (hRx 0).mul (hRx 2)
    | ⟨6, _⟩ => (hRx 1).mul (hRx 1)
    | ⟨7, _⟩ => (hRx 1).mul (hRx 2)
    | ⟨8, _⟩ => (hRx 2).mul (hRx 2)
    | ⟨9, _⟩ => hRy 0
    | ⟨10, _⟩ => hRy 1
    | ⟨11, _⟩ => hRy 2
    | ⟨12, _⟩ => (hRy 0).mul (hRy 0)
    | ⟨13, _⟩ => (hRy 0).mul (hRy 1)
    | ⟨14, _⟩ => (hRy 0).mul (hRy 2)
    | ⟨15, _⟩ => (hRy 1).mul (hRy 1)
    | ⟨16, _⟩ => (hRy 1).mul (hRy 2)
    | ⟨17, _⟩ => (hRy 2).mul (hRy 2)
    | ⟨n + 18, h⟩ => absurd h (by omega)
  exact hL k

/-- The product of the features with the mask. -/
theorem gather_apply (a : FVec Ideal S18x4096 .bf16) (b : FVec Ideal S1024x4096 .bf16) (k : Fin 18) (s : Fin 1024) :
    matmul dot_S18x4096_S1024x4096_S18x1024_1_1_0_0_n_n none a b (constant S18x1024 .f32 0x00000000#32) (oIdx k s)
      = ∑ j : Fin 4096, a (fIdx k j) * b (dIdx s j) := by
  simp only [matmul]
  rw [Ideal.matmul_apply, ← Equiv.sum_comp (ValueIdx.contrEquiv1 dot_S18x4096_S1024x4096_S18x1024_1_1_0_0_n_n 4096 rfl rfl).symm]
  refine (congrArg (· + _) Ideal.ofBits_zero_f32).trans ((zero_add _).trans ?_)
  refine Finset.sum_congr rfl fun k _ => ?_
  have hk := ValueIdx.contrEquiv1_symm_val dot_S18x4096_S1024x4096_S18x1024_1_1_0_0_n_n 4096 rfl rfl k
  congr 2
  · funext a
    match a with
    | ⟨0, _⟩ => rfl
    | ⟨1, _⟩ => exact Fin.ext ((DotDims.lhsIdx_val_of_single _ rfl _ _).trans hk)
  · funext a
    match a with
    | ⟨0, _⟩ => rfl
    | ⟨1, _⟩ => exact Fin.ext ((DotDims.rhsIdx_val_of_single _ rfl _ _).trans hk)

/-- The product of the features with the mask sums the features of the masked points. -/
theorem gather_at {a : FVec Ideal S18x4096 .bf16} {b : FVec Ideal S1024x4096 .bf16} {k : Fin 18} {s : Fin 1024} {f m : Fin 4096 → ℝ}
    (ha : ∀ j, a (fIdx k j) = ((f j : ℝ) : EReal)) (hb : ∀ j, b (dIdx s j) = ((m j : ℝ) : EReal)) :
    At (oIdx k s) (matmul dot_S18x4096_S1024x4096_S18x1024_1_1_0_0_n_n none a b (constant S18x1024 .f32 0x00000000#32)) (∑ j, m j * f j) := by
  refine (gather_apply a b k s).trans (Eq.trans ?_ (sum_coe Finset.univ fun j => m j * f j))
  exact Finset.sum_congr rfl fun j _ => by rw [ha, hb, mul_comm, EReal.coe_mul]

variable {x0 : Vec Ideal S1x1024x3 .f32} {x1 x3 : Vec Ideal S1x3x4096 .f32} {p : Fin 3 → ℝ}

/-- The kernel's moments of a point whose first eleven distances are different are the sums of the features over the
ten points that are nearest to it. -/
theorem moments_apply (h0 : ∀ k, x0 (bIdx s k) = ((p k : ℝ) : EReal)) (h1 : ∀ k j, x1 (cIdx k j) = ((u j k : ℝ) : EReal))
    (h3 : ∀ k j, x3 (cIdx k j) = ((w j k : ℝ) : EReal)) (hU : Untied fun j => ((rDist p (u j) : ℝ) : EReal)) (k : Fin 18) :
    At (oIdx k s) (kMoments x0 x1 x3) (∑ r : Fin 10,
      feat (u (near (fun j => ((rDist p (u j) : ℝ) : EReal)) ⟨r.val, by omega⟩))
        (w (near (fun j => ((rDist p (u j) : ℝ) : EReal)) ⟨r.val, by omega⟩)) k) := by
  have hd : (fun j => (k0_pay7 x0 x1 (dIdx s j) : EReal)) = fun j => ((rDist p (u j) : ℝ) : EReal) := funext (dist_apply h0 h1)
  have ht : tenthMin (k0_pay7 x0 x1) (oneIdx s)
      = ((rDist p (u (near (fun j => ((rDist p (u j) : ℝ) : EReal)) ⟨9, by omega⟩)) : ℝ) : EReal) := by
    rw [tenthMin_apply (by rw [hd]; exact hU), hd]; exact dist_apply h0 h1 _
  have hm : ∀ j, k0_pay11 (k0_pay7 x0 x1) (tenthMin (k0_pay7 x0 x1)) (dIdx s j) = (((if ((rDist p (u j) : ℝ) : EReal)
      ≤ ((rDist p (u (near (fun j => ((rDist p (u j) : ℝ) : EReal)) ⟨9, by omega⟩)) : ℝ) : EReal) then 1 else 0 : ℝ) : ℝ) : EReal) :=
    fun j => by rw [mask_apply, ht, dist_apply h0 h1]
  have hf := feat_apply (x := k0_pay3 x1) (y := k0_pay5 x3) (u := u) (w := w) (fun k j => (cloud_apply x1 k j).trans (h1 k j))
    (fun k j => (cloud_apply x3 k j).trans (h3 k j))
  have hr : ∀ k j, k0_pay13 (k0_pay3 x1) (k0_pay5 x3) (fIdx k j) = ((0 : ℝ) : EReal) := fun k j =>
    (At.sub (hf k j) (hf k j)).of_eq (sub_self _)
  have hl : ∀ k j, k0_pay15 (k0_pay3 x1) (k0_pay5 x3) (fIdx k j) = ((0 : ℝ) : EReal) := fun k j =>
    (At.sub (hr k j) (hr k j)).of_eq (sub_self _)
  refine At.of_eq (((gather_at (hf k) hm).add (gather_at (hr k) hm)).add (gather_at (hl k) hm)) ?_
  simp only [mul_zero, Finset.sum_const_zero, add_zero]
  exact sum_tenth hU fun j => feat (u j) (w j) k

end Cert.Value

end
-- ==== Proof.KernelPtof.lean ====
module

public import proofs.«01_k».proof.Proof.KernelMoments

@[expose] public section

noncomputable section

namespace Cert.Value

open Idealize.ShloMosaic Cert.KernelIdeal Cert.KernelIdeal.Gen

/-- The mean of ten points. -/
def rMean (q : Fin 10 → Fin 3 → ℝ) (k : Fin 3) : ℝ := (∑ r, q r k) / 10

/-- An entry of the Gram matrix of ten points about their mean. -/
def rGram (q : Fin 10 → Fin 3 → ℝ) (a b : Fin 3) : ℝ := ∑ r, (q r a - rMean q a) * (q r b - rMean q b)

/-- The signed distance of the point `p` from the plane fitted to ten points. -/
def rPlane (q : Fin 10 → Fin 3 → ℝ) (p : Fin 3 → ℝ) : ℝ :=
  rPtof (rGram q 0 0) (rGram q 0 1) (rGram q 0 2) (rGram q 1 1) (rGram q 1 2) (rGram q 2 2)
    (p 0 - rMean q 0) (p 1 - rMean q 1) (p 2 - rMean q 2)

/-- The Gram matrix of the centred points from the points' first and second moments. -/
theorem rGram_eq (q : Fin 10 → Fin 3 → ℝ) (a b : Fin 3) :
    (∑ r, q r a * q r b) - (∑ r, q r a) * (∑ r, q r b) * (1 / 10) = rGram q a b := by
  unfold rGram rMean
  simp only [sub_mul, mul_sub, Finset.sum_sub_distrib, ← Finset.sum_mul, ← Finset.mul_sum, Finset.sum_const, Finset.card_univ,
    Fintype.card_fin, nsmul_eq_mul]
  push_cast
  ring

/-- A displacement from the mean, the mean written as a product with a tenth. -/
theorem rMean_eq (q : Fin 10 → Fin 3 → ℝ) (x : ℝ) (k : Fin 3) : x - (∑ r, q r k) * (1 / 10) = x - rMean q k := by
  unfold rMean; ring

/-- The place of the point `s` of the block in the shape the iteration runs in. -/
abbrev nIdx (s : Fin 1024) : S8x128.Idx := fun a => match a with
  | ⟨0, _⟩ => ⟨s.val / 128, by have := s.isLt; show _ < 8; omega⟩
  | ⟨1, _⟩ => ⟨s.val % 128, Nat.mod_lt _ (by decide)⟩

/-- A row of numbers in the shape that the iteration runs in, at one place. -/
theorem lane_apply (x : FVec Ideal S1x1024 .f32) (s : Fin 1024) :
    shapeCast S8x128 x shapeCasts_S1x1024_S8x128 (nIdx s) = x (fun a => match a with
      | ⟨0, _⟩ => ⟨0, Nat.one_pos⟩
      | ⟨1, _⟩ => s) :=
  shapeCast_apply _ shapeCasts_S1x1024_S8x128 _ _ (by
    rw [Shape.rowMajor_val_two, Shape.rowMajor_val_two]
    show 0 * 1024 + s.val = s.val / 128 * 128 + s.val % 128
    omega)

/-- One moment in the shape that the iteration runs in, at one place. -/
theorem mRow_apply (k : Fin 18) (h : S18x1024.Slices ![k.val, 0] S1x1024) (x : FVec Ideal S18x1024 .f32) (s : Fin 1024) :
    mRow k.val h x (nIdx s) = x (oIdx k s) :=
  (lane_apply _ s).trans (extractStridedSlice_apply _ x h _ _ (fun a => match a with
    | ⟨0, _⟩ => rfl
    | ⟨1, _⟩ => (Nat.zero_add _).symm))

/-- Coordinate `k` of the point `s` of the block, held by rows. -/
abbrev tIdx (k : Fin 3) (s : Fin 1024) : S1x3x1024.Idx := fun a => match a with
  | ⟨0, _⟩ => ⟨0, Nat.one_pos⟩
  | ⟨1, _⟩ => k
  | ⟨2, _⟩ => s

/-- One coordinate of the block's points in the shape that the iteration runs in, at one place. -/
theorem pRow_apply (k : Fin 3) (h : S3x1024.Slices ![k.val, 0] S1x1024) (x : Vec Ideal S1x3x1024 .f32) (s : Fin 1024) :
    pRow k.val h x (nIdx s) = x (tIdx k s) :=
  (lane_apply _ s).trans ((extractStridedSlice_apply _ (k0_pay4 x) h _ (fun a => match a with
    | ⟨0, _⟩ => k
    | ⟨1, _⟩ => s) (fun a => match a with
    | ⟨0, _⟩ => rfl
    | ⟨1, _⟩ => (Nat.zero_add _).symm)).trans (shapeCast_apply _ shapeCasts_S1x3x1024_S3x1024 _ _ (by
      rw [Shape.rowMajor_val_three, Shape.rowMajor_val_two]
      show (0 * 3 + k.val) * 1024 + s.val = k.val * 1024 + s.val
      omega)))

variable {x0 : Vec Ideal S1x1024x3 .f32} {x1 x3 : Vec Ideal S1x3x4096 .f32} {x2 x4 : Vec Ideal S1x3x1024 .f32} {s : Fin 1024}
  {p v : Fin 3 → ℝ} {u w : Fin 4096 → Fin 3 → ℝ}

/-- The ten points of the first cloud that are nearest to `p`, by their positions. -/
def nearest (p : Fin 3 → ℝ) (u : Fin 4096 → Fin 3 → ℝ) (r : Fin 10) : Fin 4096 :=
  near (fun j => ((rDist p (u j) : ℝ) : EReal)) ⟨r.val, by omega⟩

/-- The kernel's signed distances for the first cloud. -/
theorem ptof1_apply (h0 : ∀ k, x0 (bIdx s k) = ((p k : ℝ) : EReal)) (h1 : ∀ k j, x1 (cIdx k j) = ((u j k : ℝ) : EReal))
    (h2 : ∀ k, x2 (tIdx k s) = ((v k : ℝ) : EReal))
    (h3 : ∀ k j, x3 (cIdx k j) = ((w j k : ℝ) : EReal)) (hU : Untied fun j => ((rDist p (u j) : ℝ) : EReal)) :
    At (nIdx s) (kPtof1 x0 x1 x2 x3) (rPlane (fun r => u (nearest p u r)) v) := by
  have hm := moments_apply h0 h1 h3 hU
  have hM : ∀ (k : Fin 18) (h : S18x1024.Slices ![k.val, 0] S1x1024), At (nIdx s) (mRow k.val h (kMoments x0 x1 x3)) _ :=
    fun k h => (mRow_apply k h _ s).trans (hm k)
  have hP : ∀ (k : Fin 3) (h : S3x1024.Slices ![k.val, 0] S1x1024), At (nIdx s) (pRow k.val h x2) _ :=
    fun k h => (pRow_apply k h _ s).trans (h2 k)
  refine (at_ptof (hM 0 _) (hM 1 _) (hM 2 _) (hM 3 _) (hM 4 _) (hM 5 _) (hM 6 _) (hM 7 _) (hM 8 _) (hP 0 _) (hP 1 _) (hP 2 _)).of_eq ?_
  unfold rPlane
  simp only [← rGram_eq, ← rMean_eq]
  rfl

/-- The kernel's signed distances for the second cloud. -/
theorem ptof2_apply (h0 : ∀ k, x0 (bIdx s k) = ((p k : ℝ) : EReal)) (h1 : ∀ k j, x1 (cIdx k j) = ((u j k : ℝ) : EReal))
    (h4 : ∀ k, x4 (tIdx k s) = ((v k : ℝ) : EReal))
    (h3 : ∀ k j, x3 (cIdx k j) = ((w j k : ℝ) : EReal)) (hU : Untied fun j => ((rDist p (u j) : ℝ) : EReal)) :
    At (nIdx s) (kPtof2 x0 x1 x3 x4) (rPlane (fun r => w (nearest p u r)) v) := by
  have hm := moments_apply h0 h1 h3 hU
  have hM : ∀ (k : Fin 18) (h : S18x1024.Slices ![k.val, 0] S1x1024), At (nIdx s) (mRow k.val h (kMoments x0 x1 x3)) _ :=
    fun k h => (mRow_apply k h _ s).trans (hm k)
  have hP : ∀ (k : Fin 3) (h : S3x1024.Slices ![k.val, 0] S1x1024), At (nIdx s) (pRow k.val h x4) _ :=
    fun k h => (pRow_apply k h _ s).trans (h4 k)
  refine (at_ptof (hM 9 _) (hM 10 _) (hM 11 _) (hM 12 _) (hM 13 _) (hM 14 _) (hM 15 _) (hM 16 _) (hM 17 _) (hP 0 _) (hP 1 _) (hP 2 _)).of_eq ?_
  unfold rPlane
  simp only [← rGram_eq, ← rMean_eq]
  rfl

end Cert.Value

end
-- ==== Proof.KernelLoss.lean ====
module

public import proofs.«01_k».proof.Proof.KernelPtof

@[expose] public section

noncomputable section

namespace Cert.Value

open Idealize.ShloMosaic Cert.KernelIdeal Cert.KernelIdeal.Gen

/-- The loss of one point: the squared difference of the two distances, and five times the squared excess of the second. -/
def rLoss (a b : ℝ) : ℝ := (|a| - |b|) * (|a| - |b|) + 5 * max (b - a) 0 * max (b - a) 0

/-- A sum over the shape that the iteration runs in is the sum over the points of the block. -/
theorem sum_lanes (z : FVec Ideal S8x128 .f32) :
    (∑ i : S1x8x128.Idx, (shapeCast S1x8x128 z shapeCasts_S8x128_S1x8x128 : FVec Ideal S1x8x128 .f32) i : EReal)
      = ∑ s : Fin 1024, (z (nIdx s) : EReal) := by
  have hn : 1024 = S1x8x128.numel := by decide
  rw [← Equiv.sum_comp S1x8x128.rowMajor.symm, ← Equiv.sum_comp (finCongr hn)]
  refine Finset.sum_congr rfl fun s _ => shapeCast_apply _ shapeCasts_S8x128_S1x8x128 _ (nIdx s) ?_
  rw [Equiv.apply_symm_apply, Shape.rowMajor_val_two]
  show s.val / 128 * 128 + s.val % 128 = s.val
  omega

/-- The reduction of all the lanes is their sum. -/
theorem total_apply (z : FVec Ideal S1x8x128 .f32) (j : S1.Idx) :
    multiReduction .add [1, 2] S1 z 0x00000000#32 reduces_S1x8x128_S1 (.inl rfl) rfl j = ∑ i : S1x8x128.Idx, (z i : EReal) :=
  Ideal.multiReduction_add_total z _ reduces_S1x8x128_S1 (by decide) _ _ j

variable {a b : FVec Ideal S8x128 .f32} {r t : Fin 1024 → ℝ}

/-- The loss of a block. -/
theorem blockLoss_apply (ha : ∀ s, At (nIdx s) a (r s)) (hb : ∀ s, At (nIdx s) b (t s)) (i : S1x1.Idx) :
    At i (k0_pay1 a b) (∑ s, rLoss (r s) (t s)) := by
  refine (total_apply _ _).trans ?_
  refine (sum_lanes _).trans (Eq.trans ?_ (sum_coe Finset.univ fun s => rLoss (r s) (t s)))
  refine Finset.sum_congr rfl fun s _ => ?_
  have h5 : At (nIdx s) (broadcast S8x128 (Scalar.ofBits .f32 0x40A00000#32) : FVec Ideal S8x128 .f32) 5 := bits_five
  have h0 : At (nIdx s) (broadcast S8x128 (Scalar.ofBits .f32 0x00000000#32) : FVec Ideal S8x128 .f32) 0 := Ideal.ofBits_zero_f32
  have hd := (ha s).abs.sub (hb s).abs
  have hm := ((hb s).sub (ha s)).max h0
  exact (hd.mul hd).add ((h5.mul hm).mul hm)

/-- A later grid step adds its block's loss to what the result holds. -/
theorem blockAdd_apply (ha : ∀ s, At (nIdx s) a (r s)) (hb : ∀ s, At (nIdx s) b (t s)) {o : Vec Ideal S1x1 .f32} {i : S1x1.Idx} {l : ℝ}
    (ho : o i = ((l : ℝ) : EReal)) : At i (k0_pay2 a b o) (l + ∑ s, rLoss (r s) (t s)) :=
  At.add ((shapeCast_apply _ shapeCasts_S1x1_S1x1 i i rfl).trans ho) (blockLoss_apply ha hb i)

end Cert.Value

end
-- ==== Proof.KernelIn.lean ====
module

public import proofs.«01_k».proof.Proof.KernelLoss
public import Idealize.ShloMosaic.Lib.StableHlo.Run
public import Idealize.ShloMosaic.Lib.Tactic

@[expose] public section

noncomputable section

namespace Cert.Value

open Idealize.ShloMosaic Idealize.ShloMosaic.TcCoe Cert.KernelIdeal Cert.KernelIdeal.Gen

variable {F : FTy → Type} [FloatOps F] [Named F]
variable (m : (ℓ : Loc nD τ sig) → Buf (Elt F) ℓ) (c : Dev nD)

/-- Coordinate `k` of the point `n` of the cloud of the batch `b`. -/
abbrev xIdx (b : Fin 2) (n : Fin 4096) (k : Fin 3) : S2x4096x3.Idx := fun a => match a with
  | ⟨0, _⟩ => b
  | ⟨1, _⟩ => n
  | ⟨2, _⟩ => k

/-- The same in a cloud held by rows. -/
abbrev yIdx (b : Fin 2) (k : Fin 3) (n : Fin 4096) : S2x3x4096.Idx := fun a => match a with
  | ⟨0, _⟩ => b
  | ⟨1, _⟩ => k
  | ⟨2, _⟩ => n

/-- A cloud with its last two axes exchanged, at one place. -/
theorem rows_apply (x : (⟨S2x4096x3, .f32⟩ : BufTy).Contents (Elt F)) (b : Fin 2) (k : Fin 3) (n : Fin 4096) :
    (transpose S2x3x4096 [0, 2, 1] x transposes_S2x4096x3_S2x3x4096_0_2_1 : (⟨S2x3x4096, .f32⟩ : BufTy).Contents (Elt F)) (yIdx b k n)
      = x (xIdx b n k) := by
  unfold transpose
  exact congrArg x (funext fun a => Fin.ext (match a with
    | ⟨0, _⟩ => rfl
    | ⟨1, _⟩ => rfl
    | ⟨2, _⟩ => rfl))

/-- Before the grid the host has exchanged the axes of the first cloud. -/
theorem V_rows0 : V m c main_call0_v0 = transpose S2x3x4096 [0, 2, 1] (m ((c : Thread nD τ).loc main_arg0)) transposes_S2x4096x3_S2x3x4096_0_2_1 := by
  show StableHlo.after hostOps0 _ (Proc.devRef .tc main_call0_v0) = _
  after_results
  rfl

/-- Before the grid the host has exchanged the axes of the second cloud. -/
theorem V_rows1 : V m c main_call0_v1 = transpose S2x3x4096 [0, 2, 1] (m ((c : Thread nD τ).loc main_arg1)) transposes_S2x4096x3_S2x3x4096_0_2_1 := by
  show StableHlo.after hostOps0 _ (Proc.devRef .tc main_call0_v1) = _
  after_results
  rfl

/-- The exchanged first cloud, at one place. -/
theorem V_rows0_apply (b : Fin 2) (k : Fin 3) (n : Fin 4096) :
    V m c main_call0_v0 (yIdx b k n) = m ((c : Thread nD τ).loc main_arg0) (xIdx b n k) := by
  rw [V_rows0]; exact rows_apply _ b k n

/-- The exchanged second cloud, at one place. -/
theorem V_rows1_apply (b : Fin 2) (k : Fin 3) (n : Fin 4096) :
    V m c main_call0_v1 (yIdx b k n) = m ((c : Thread nD τ).loc main_arg1) (xIdx b n k) := by
  rw [V_rows1]; exact rows_apply _ b k n

/-- The batch of a grid point. -/
def batch (t : Fin cfg0.N) : Fin 2 := ⟨t.val / 4, by have := lt_of_lt_of_eq t.isLt (show cfg0.N = 8 from N_0); omega⟩

/-- The point of the cloud that is the point `s` of a grid point's block. -/
def point (t : Fin cfg0.N) (s : Fin 1024) : Fin 4096 := ⟨t.val % 4 * 1024 + s.val, by omega⟩

/-- The first input's block of a grid point, at one place of the first cloud. -/
theorem block0 (t : Fin cfg0.N) (s : Fin 1024) (k : Fin 3) :
    (iblk m c 0 t : Vec F S1x1024x3 .f32) (bIdx s k) = m ((c : Thread nD τ).loc main_arg0) (xIdx (batch t) (point t s) k) := by
  have hi : win0_0.index t 0 = t.val / 4 ∧ win0_0.index t 1 = t.val % 4 ∧ win0_0.index t 2 = 0 := by
    revert t; decide +kernel
  unfold iblk
  rw [View.read_apply]
  show V m c main_arg0 _ = m (c.tc.loc main_arg0) _
  rw [V_main_arg0]
  refine congrArg _ (funext fun a => Fin.ext ?_)
  match a with
  | ⟨0, _⟩ => show win0_0.index t 0 * 1 + 1 * 0 = t.val / 4; rw [hi.1]; omega
  | ⟨1, _⟩ => show win0_0.index t 1 * 1024 + 1 * s.val = t.val % 4 * 1024 + s.val; rw [hi.2.1]; omega
  | ⟨2, _⟩ => show win0_0.index t 2 * 3 + 1 * k.val = k.val; rw [hi.2.2]; omega

/-- The second input's block of a grid point: the whole first cloud of a batch. -/
theorem block1 (t : Fin cfg0.N) (k : Fin 3) (j : Fin 4096) :
    (iblk m c 1 t : Vec F S1x3x4096 .f32) (cIdx k j) = m ((c : Thread nD τ).loc main_arg0) (xIdx (batch t) j k) := by
  have hi : win0_1.index t 0 = t.val / 4 ∧ win0_1.index t 1 = 0 ∧ win0_1.index t 2 = 0 := by
    revert t; decide +kernel
  refine Eq.trans ?_ (V_rows0_apply m c (batch t) k j)
  unfold iblk
  rw [View.read_apply]
  show V m c main_call0_v0 _ = V m c main_call0_v0 _
  refine congrArg _ (funext fun a => Fin.ext ?_)
  match a with
  | ⟨0, _⟩ => show win0_1.index t 0 * 1 + 1 * 0 = t.val / 4; rw [hi.1]; omega
  | ⟨1, _⟩ => show win0_1.index t 1 * 3 + 1 * k.val = k.val; rw [hi.2.1]; omega
  | ⟨2, _⟩ => show win0_1.index t 2 * 4096 + 1 * j.val = j.val; rw [hi.2.2]; omega

/-- The third input's block of a grid point: the block's points of the first cloud, by rows. -/
theorem block2 (t : Fin cfg0.N) (k : Fin 3) (s : Fin 1024) :
    (iblk m c 2 t : Vec F S1x3x1024 .f32) (tIdx k s) = m ((c : Thread nD τ).loc main_arg0) (xIdx (batch t) (point t s) k) := by
  have hi : win0_2.index t 0 = t.val / 4 ∧ win0_2.index t 1 = 0 ∧ win0_2.index t 2 = t.val % 4 := by
    revert t; decide +kernel
  refine Eq.trans ?_ (V_rows0_apply m c (batch t) k (point t s))
  unfold iblk
  rw [View.read_apply]
  show V m c main_call0_v0 _ = V m c main_call0_v0 _
  refine congrArg _ (funext fun a => Fin.ext ?_)
  match a with
  | ⟨0, _⟩ => show win0_2.index t 0 * 1 + 1 * 0 = t.val / 4; rw [hi.1]; omega
  | ⟨1, _⟩ => show win0_2.index t 1 * 3 + 1 * k.val = k.val; rw [hi.2.1]; omega
  | ⟨2, _⟩ => show win0_2.index t 2 * 1024 + 1 * s.val = t.val % 4 * 1024 + s.val; rw [hi.2.2]; omega

/-- The fourth input's block of a grid point: the whole second cloud of a batch. -/
theorem block3 (t : Fin cfg0.N) (k : Fin 3) (j : Fin 4096) :
    (iblk m c 3 t : Vec F S1x3x4096 .f32) (cIdx k j) = m ((c : Thread nD τ).loc main_arg1) (xIdx (batch t) j k) := by
  have hi : win0_3.index t 0 = t.val / 4 ∧ win0_3.index t 1 = 0 ∧ win0_3.index t 2 = 0 := by
    revert t; decide +kernel
  refine Eq.trans ?_ (V_rows1_apply m c (batch t) k j)
  unfold iblk
  rw [View.read_apply]
  show V m c main_call0_v1 _ = V m c main_call0_v1 _
  refine congrArg _ (funext fun a => Fin.ext ?_)
  match a with
  | ⟨0, _⟩ => show win0_3.index t 0 * 1 + 1 * 0 = t.val / 4; rw [hi.1]; omega
  | ⟨1, _⟩ => show win0_3.index t 1 * 3 + 1 * k.val = k.val; rw [hi.2.1]; omega
  | ⟨2, _⟩ => show win0_3.index t 2 * 4096 + 1 * j.val = j.val; rw [hi.2.2]; omega

/-- The fifth input's block of a grid point: the block's points of the second cloud, by rows. -/
theorem block4 (t : Fin cfg0.N) (k : Fin 3) (s : Fin 1024) :
    (iblk m c 4 t : Vec F S1x3x1024 .f32) (tIdx k s) = m ((c : Thread nD τ).loc main_arg1) (xIdx (batch t) (point t s) k) := by
  have hi : win0_4.index t 0 = t.val / 4 ∧ win0_4.index t 1 = 0 ∧ win0_4.index t 2 = t.val % 4 := by
    revert t; decide +kernel
  refine Eq.trans ?_ (V_rows1_apply m c (batch t) k (point t s))
  unfold iblk
  rw [View.read_apply]
  show V m c main_call0_v1 _ = V m c main_call0_v1 _
  refine congrArg _ (funext fun a => Fin.ext ?_)
  match a with
  | ⟨0, _⟩ => show win0_4.index t 0 * 1 + 1 * 0 = t.val / 4; rw [hi.1]; omega
  | ⟨1, _⟩ => show win0_4.index t 1 * 3 + 1 * k.val = k.val; rw [hi.2.1]; omega
  | ⟨2, _⟩ => show win0_4.index t 2 * 1024 + 1 * s.val = t.val % 4 * 1024 + s.val; rw [hi.2.2]; omega

end Cert.Value

end
-- ==== Proof.KernelCase.lean ====
module

public import proofs.«01_k».proof.Proof.KernelBlock
public import Idealize.ShloMosaic.Lib.Pipeline.Value

@[expose] public section

set_option maxRecDepth 16384

noncomputable section

namespace Cert.Value

open Idealize.ShloMosaic Idealize.ShloMosaic.TcCoe Idealize.ShloMosaic.Tactic Cert.KernelIdeal Cert.KernelIdeal.Gen

variable {F : FTy → Type} [FloatOps F] [Named F]

/-- A pair of zeros as a function. -/
theorem hz2 : (![0, 0] : Fin 2 → Nat) = fun _ => 0 := funext fun a => by fin_cases a <;> rfl
/-- A triple of zeros as a function. -/
theorem hz3 : (![0, 0, 0] : Fin 3 → Nat) = fun _ => 0 := funext fun a => by fin_cases a <;> rfl

/-- What the first grid point leaves: the sum over its own block. -/
theorem out_A (c : Dev nD) (i : grid0.Coords) (arg2 : Memref sig .tc .vmem S1x1024x3 .f32) (harg2 : arg2.IsWhole)
    (arg3 : Memref sig .tc .vmem S1x3x4096 .f32) (harg3 : arg3.IsWhole) (arg4 : Memref sig .tc .vmem S1x3x1024 .f32) (harg4 : arg4.IsWhole)
    (arg5 : Memref sig .tc .vmem S1x3x4096 .f32) (harg5 : arg5.IsWhole) (arg6 : Memref sig .tc .vmem S1x3x1024 .f32) (harg6 : arg6.IsWhole)
    (arg7 : Memref sig .tc .vmem S1x1 .f32) (harg7 : arg7.IsWhole) (hc0 : cond0_0 i) (hc1 : ¬cond0_1 i)
    (x0 : Vec F S1x1024x3 .f32) (x1 : Vec F S1x3x4096 .f32) (x2 : Vec F S1x3x1024 .f32) (x3 : Vec F S1x3x4096 .f32) (x4 : Vec F S1x3x1024 .f32) :
    out0_A_5 c i arg2 harg2 arg3 harg3 arg4 harg4 arg5 harg5 arg6 harg6 arg7 harg7 hc0 hc1 x0 x1 x2 x3 x4
      = k0_pay1 (kPtof1 x0 x1 x2 x3) (kPtof2 x0 x1 x3 x4) := by
  unfold out0_A_5
  rw [View.read_writes_eq_canon _ _ _ (cover0_A_5 c i arg2 harg2 arg3 harg3 arg4 harg4 arg5 harg5 arg6 harg6 arg7 harg7 hc0 hc1 x0 x1 x2 x3 x4)]
  unfold kernelRun0_A
  dsimp only
  rw [View.canon_unit_zero hz2]
  trans k0_pay1
    (kPtof1 (View.readAt (Elt F) arg2.view (Rect.unit (s := S1x1024x3) ![0, 0, 0] S1x1024x3.size inb_S1x1024x3_S1x1024x3_0_0_0).toLoadRect (harg2.unread x0))
      (View.readAt (Elt F) arg3.view (Rect.unit (s := S1x3x4096) ![0, 0, 0] S1x3x4096.size inb_S1x3x4096_S1x3x4096_0_0_0).toLoadRect (harg3.unread x1))
      (View.readAt (Elt F) arg4.view (Rect.unit (s := S1x3x1024) ![0, 0, 0] S1x3x1024.size inb_S1x3x1024_S1x3x1024_0_0_0).toLoadRect (harg4.unread x2))
      (View.readAt (Elt F) arg5.view (Rect.unit (s := S1x3x4096) ![0, 0, 0] S1x3x4096.size inb_S1x3x4096_S1x3x4096_0_0_0).toLoadRect (harg5.unread x3)))
    (kPtof2 (View.readAt (Elt F) arg2.view (Rect.unit (s := S1x1024x3) ![0, 0, 0] S1x1024x3.size inb_S1x1024x3_S1x1024x3_0_0_0).toLoadRect (harg2.unread x0))
      (View.readAt (Elt F) arg3.view (Rect.unit (s := S1x3x4096) ![0, 0, 0] S1x3x4096.size inb_S1x3x4096_S1x3x4096_0_0_0).toLoadRect (harg3.unread x1))
      (View.readAt (Elt F) arg5.view (Rect.unit (s := S1x3x4096) ![0, 0, 0] S1x3x4096.size inb_S1x3x4096_S1x3x4096_0_0_0).toLoadRect (harg5.unread x3))
      (View.readAt (Elt F) arg6.view (Rect.unit (s := S1x3x1024) ![0, 0, 0] S1x3x1024.size inb_S1x3x1024_S1x3x1024_0_0_0).toLoadRect (harg6.unread x4)))
  · sl_kernel_rfl
  · simp only [View.readAt_eq_ld, harg2.read_unread, harg3.read_unread, harg4.read_unread, harg5.read_unread, harg6.read_unread,
      View.ld_unit_zero (S := S1x1024x3) hz3, View.ld_unit_zero (S := S1x3x4096) hz3, View.ld_unit_zero (S := S1x3x1024) hz3]

/-- What a later grid point leaves: the sum over its own block on top of what the output holds. -/
theorem out_B (c : Dev nD) (i : grid0.Coords) (arg2 : Memref sig .tc .vmem S1x1024x3 .f32) (harg2 : arg2.IsWhole)
    (arg3 : Memref sig .tc .vmem S1x3x4096 .f32) (harg3 : arg3.IsWhole) (arg4 : Memref sig .tc .vmem S1x3x1024 .f32) (harg4 : arg4.IsWhole)
    (arg5 : Memref sig .tc .vmem S1x3x4096 .f32) (harg5 : arg5.IsWhole) (arg6 : Memref sig .tc .vmem S1x3x1024 .f32) (harg6 : arg6.IsWhole)
    (arg7 : Memref sig .tc .vmem S1x1 .f32) (harg7 : arg7.IsWhole) (hc0 : ¬cond0_0 i) (hc1 : cond0_1 i)
    (x0 : Vec F S1x1024x3 .f32) (x1 : Vec F S1x3x4096 .f32) (x2 : Vec F S1x3x1024 .f32) (x3 : Vec F S1x3x4096 .f32) (x4 : Vec F S1x3x1024 .f32) (xo : Vec F S1x1 .f32) :
    out0_B_5 c i arg2 harg2 arg3 harg3 arg4 harg4 arg5 harg5 arg6 harg6 arg7 harg7 hc0 hc1 x0 x1 x2 x3 x4 xo
      = k0_pay2 (kPtof1 x0 x1 x2 x3) (kPtof2 x0 x1 x3 x4) xo := by
  unfold out0_B_5
  rw [View.read_writes_eq_canon _ _ _ (cover0_B_5 c i arg2 harg2 arg3 harg3 arg4 harg4 arg5 harg5 arg6 harg6 arg7 harg7 hc0 hc1 x0 x1 x2 x3 x4 xo)]
  unfold kernelRun0_B
  dsimp only
  rw [View.canon_unit_zero hz2]
  trans k0_pay2
    (kPtof1 (View.readAt (Elt F) arg2.view (Rect.unit (s := S1x1024x3) ![0, 0, 0] S1x1024x3.size inb_S1x1024x3_S1x1024x3_0_0_0).toLoadRect (harg2.unread x0))
      (View.readAt (Elt F) arg3.view (Rect.unit (s := S1x3x4096) ![0, 0, 0] S1x3x4096.size inb_S1x3x4096_S1x3x4096_0_0_0).toLoadRect (harg3.unread x1))
      (View.readAt (Elt F) arg4.view (Rect.unit (s := S1x3x1024) ![0, 0, 0] S1x3x1024.size inb_S1x3x1024_S1x3x1024_0_0_0).toLoadRect (harg4.unread x2))
      (View.readAt (Elt F) arg5.view (Rect.unit (s := S1x3x4096) ![0, 0, 0] S1x3x4096.size inb_S1x3x4096_S1x3x4096_0_0_0).toLoadRect (harg5.unread x3)))
    (kPtof2 (View.readAt (Elt F) arg2.view (Rect.unit (s := S1x1024x3) ![0, 0, 0] S1x1024x3.size inb_S1x1024x3_S1x1024x3_0_0_0).toLoadRect (harg2.unread x0))
      (View.readAt (Elt F) arg3.view (Rect.unit (s := S1x3x4096) ![0, 0, 0] S1x3x4096.size inb_S1x3x4096_S1x3x4096_0_0_0).toLoadRect (harg3.unread x1))
      (View.readAt (Elt F) arg5.view (Rect.unit (s := S1x3x4096) ![0, 0, 0] S1x3x4096.size inb_S1x3x4096_S1x3x4096_0_0_0).toLoadRect (harg5.unread x3))
      (View.readAt (Elt F) arg6.view (Rect.unit (s := S1x3x1024) ![0, 0, 0] S1x3x1024.size inb_S1x3x1024_S1x3x1024_0_0_0).toLoadRect (harg6.unread x4)))
    (View.readAt (Elt F) arg7.view (Rect.unit (s := S1x1) ![0, 0] S1x1.size inb_S1x1_S1x1_0_0).toLoadRect (harg7.unread xo))
  · sl_kernel_rfl
  · simp only [View.readAt_eq_ld, harg2.read_unread, harg3.read_unread, harg4.read_unread, harg5.read_unread, harg6.read_unread, harg7.read_unread,
      View.ld_unit_zero (S := S1x1024x3) hz3, View.ld_unit_zero (S := S1x3x4096) hz3, View.ld_unit_zero (S := S1x3x1024) hz3, View.ld_unit_zero (S := S1x1) hz2]

end Cert.Value

end
-- ==== Proof.KernelValue.lean ====
module

public import proofs.«01_k».proof.Proof.KernelIn
public import proofs.«01_k».proof.Proof.KernelCase
public import Idealize.ShloMosaic.Lib.Pipeline.ValueKit.Geometry

@[expose] public section

noncomputable section

namespace Cert.Value

open Idealize.ShloMosaic Idealize.ShloMosaic.TcCoe Idealize.SL.Sem Cert.KernelIdeal Cert.KernelIdeal.Gen
open Idealize.ShloMosaic.Pipeline (Dat)

/-- The two clouds, as real numbers. -/
abbrev Cloud := Fin 2 → Fin 4096 → Fin 3 → ℝ

/-- The signed distance of the point `n` of the cloud `w` from the plane fitted to those points of `w` that sit at the places
of the ten points of the cloud `x` nearest to its point `n`. -/
def rSigned (x w : Cloud) (b : Fin 2) (n : Fin 4096) : ℝ := rPlane (fun r => w b (nearest (x b n) (x b) r)) (w b n)

/-- The loss at the point `n`. -/
def rPoint (x w : Cloud) (b : Fin 2) (n : Fin 4096) : ℝ := rLoss (rSigned x x b n) (rSigned x w b n)

/-- The first eleven distances from every point of the first cloud are different. -/
def AllUntied (x : Cloud) : Prop := ∀ b n, Untied fun j => ((rDist (x b n) (x b j) : ℝ) : EReal)

/-- The loss of the block of the grid point `t`. -/
def rBlock (f : Fin 2 → Fin 4096 → ℝ) (t : ℕ) : ℝ := ∑ s : Fin 1024, f ⟨t / 4 % 2, Nat.mod_lt _ (by decide)⟩ ⟨t % 4 * 1024 + s.val, by omega⟩

variable (m : (ℓ : Loc nD τ sig) → Buf (Elt Ideal) ℓ) (c : Dev nD) {x w : Cloud}

/-- The argument arrays hold the two clouds. -/
structure Holds (x w : Cloud) : Prop where
  fst : ∀ b n k, m ((c : Thread nD τ).loc main_arg0) (xIdx b n k) = ((x b n k : ℝ) : EReal)
  snd : ∀ b n k, m ((c : Thread nD τ).loc main_arg1) (xIdx b n k) = ((w b n k : ℝ) : EReal)

variable {m c}

/-- The kernel's signed distances in the first cloud are the real ones. -/
theorem signed1 (h : Holds m c x w) (hU : AllUntied x) (t : Fin cfg0.N) (s : Fin 1024) :
    At (nIdx s) (kPtof1 (iblk m c 0 t : Vec Ideal S1x1024x3 .f32) (iblk m c 1 t) (iblk m c 2 t) (iblk m c 3 t))
      (rSigned x x (batch t) (point t s)) :=
  ptof1_apply (fun k => (block0 m c t s k).trans (h.fst ..)) (fun k j => (block1 m c t k j).trans (h.fst ..))
    (fun k => (block2 m c t k s).trans (h.fst ..)) (fun k j => (block3 m c t k j).trans (h.snd ..)) (hU _ _)

/-- The kernel's signed distances in the second cloud are the real ones. -/
theorem signed2 (h : Holds m c x w) (hU : AllUntied x) (t : Fin cfg0.N) (s : Fin 1024) :
    At (nIdx s) (kPtof2 (iblk m c 0 t : Vec Ideal S1x1024x3 .f32) (iblk m c 1 t) (iblk m c 3 t) (iblk m c 4 t))
      (rSigned x w (batch t) (point t s)) :=
  ptof2_apply (fun k => (block0 m c t s k).trans (h.fst ..)) (fun k j => (block1 m c t k j).trans (h.fst ..))
    (fun k => (block4 m c t k s).trans (h.snd ..)) (fun k j => (block3 m c t k j).trans (h.snd ..)) (hU _ _)

/-- A sum over the points of a grid point's block is the sum named after the block's number. -/
theorem block_eq (f : Fin 2 → Fin 4096 → ℝ) (t : Fin cfg0.N) : ∑ s, f (batch t) (point t s) = rBlock f t.val := by
  have ht : t.val < 8 := lt_of_lt_of_eq t.isLt (show cfg0.N = 8 from N_0)
  refine Finset.sum_congr rfl fun s _ => congrArg₂ f (Fin.ext ?_) rfl
  show t.val / 4 = t.val / 4 % 2
  omega

/-- After the grid point `n` the output holds the loss of the blocks up to it. -/
theorem outs_apply (h : Holds m c x w) (hU : AllUntied x) (i : S1x1.Idx) : ∀ (n : ℕ) (hn : n < cfg0.N),
    (outsAt0 m c n hn : Vec Ideal S1x1 .f32) i = ((∑ t ∈ Finset.range (n + 1), rBlock (rPoint x w) t : ℝ) : EReal)
  | 0, hn => by
    rw [outsAt0_A m c ⟨0, hn⟩ rfl (by show ¬ 1 ≤ 0; decide), out_A, Finset.sum_range_one, ← block_eq _ ⟨0, hn⟩]
    exact blockLoss_apply (signed1 h hU _) (signed2 h hU _) i
  | n + 1, hn => by
    have hN : n + 1 < 8 := lt_of_lt_of_eq hn (show cfg0.N = 8 from N_0)
    rw [outsAt0_B m c ⟨n + 1, hn⟩ (by show ¬ (n + 1) % 8 = 0; omega) (by show 1 ≤ n + 1; omega), out_B, Finset.sum_range_succ,
      ← block_eq _ ⟨n + 1, hn⟩]
    exact blockAdd_apply (signed1 h hU _) (signed2 h hU _) (outs_apply h hU i n (Nat.lt_of_succ_lt hn))

/-- The blocks of all grid points are the points of the two batches. -/
theorem sum_blocks (f : Fin 2 → Fin 4096 → ℝ) : ∑ t ∈ Finset.range 8, rBlock f t = ∑ b, ∑ n, f b n := by
  have hb : ∀ b : Fin 2, ∑ n, f b n = ∑ r : Fin 4, ∑ s : Fin 1024, f b ⟨r.val * 1024 + s.val, by omega⟩ := fun b => by
    rw [← Fintype.sum_prod_type', ← Equiv.sum_comp (finProdFinEquiv (m := 4) (n := 1024))]
    exact Finset.sum_congr rfl fun q _ => congrArg (f b) (Fin.ext (by
      show q.2.val + 1024 * q.1.val = q.1.val * 1024 + q.2.val
      omega))
  rw [Fin.sum_univ_two, hb, hb, Fin.sum_univ_four, Fin.sum_univ_four]
  simp only [Finset.sum_range_succ, Finset.sum_range_zero, zero_add]
  have e : ∀ (t : ℕ) (b : Fin 2) (r : Fin 4), t / 4 % 2 = b.val → t % 4 = r.val →
      rBlock f t = ∑ s : Fin 1024, f b ⟨r.val * 1024 + s.val, by omega⟩ := fun t b r h h' =>
    Finset.sum_congr rfl fun s _ => congrArg₂ f (Fin.ext h) (Fin.ext (by show t % 4 * 1024 + _ = _; rw [h']))
  rw [e 0 0 0 rfl rfl, e 1 0 1 rfl rfl, e 2 0 2 rfl rfl, e 3 0 3 rfl rfl, e 4 1 0 rfl rfl, e 5 1 1 rfl rfl, e 6 1 2 rfl rfl,
    e 7 1 3 rfl rfl]
  ring

/-- The contents of the output array: what its last point leaves. -/
abbrev total (m : (ℓ : Loc nD τ sig) → Buf (Elt Ideal) ℓ) (c : Dev nD) : Buf (Elt Ideal) ((c : Thread nD τ).loc main_call0_v2) :=
  outsAt0 m c 7 (by rw [show cfg0.N = 8 from N_0]; decide)

/-- What the grid writes out at its end is the total. -/
theorem flushed_eq (t : Fin cfg0.N) (hf : (cfg0.win 5).flush t = true) :
    (dats m 0 c).flushed 5 t = ((cfg0.win 5).blk t).view.read (Elt Ideal) (total m c) := by
  have hN : t.val < 8 := lt_of_lt_of_eq t.isLt (show cfg0.N = 8 from N_0)
  have h7 : t.val = 7 := by have := (flush0_5 t).mp hf; omega
  obtain rfl : t = t0_7 := Fin.ext h7
  show (cfg0.win 5).cut (grid0.coords t0_7) ((dats m 0 c).after 5 t0_7) = _
  rw [after0_5]
  have hz' : (fun a => win0_5.index t0_7 a * main_call0_v2.ty.shape.size a) = fun _ => 0 := funext fun a => by fin_cases a <;> decide
  exact (Memref.read_access_unit_zero (Elt Ideal) main_call0_v2 hz' (fun a => by rw [congrFun hz' a]; simp) (total m c)).symm

/-- After the grid the result's array holds the total. -/
theorem final_eq : (dats m 0 c).arrAt 5 cfg0.N = total m c :=
  (dats m 0 c).arrAt_eq_of_cover 5 (total m c) flushed_eq fun i =>
    ⟨t0_7, (flush0_5 t0_7).mpr rfl, by
      show i ∈ ((View.whole main_call0_v2).slice (win0_5.rect t0_7)).set
      rw [View.set_slice_whole, Rect.mem_set_unit]
      intro a
      have h0 : (i 0 : Nat) < 1 := (i 0).isLt
      have h1 : (i 1 : Nat) < 1 := (i 1).isLt
      match a with
      | ⟨0, _⟩ => show win0_5.index t0_7 0 * win0_5.size 0 ≤ (i 0 : Nat) ∧ (i 0 : Nat) < win0_5.index t0_7 0 * win0_5.size 0 + win0_5.xsize (grid0.coords t0_7) 0
                  rw [show win0_5.index t0_7 0 * win0_5.size 0 = 0 from by decide +kernel, show win0_5.xsize (grid0.coords t0_7) 0 = 1 from by decide +kernel]; omega
      | ⟨1, _⟩ => show win0_5.index t0_7 1 * win0_5.size 1 ≤ (i 1 : Nat) ∧ (i 1 : Nat) < win0_5.index t0_7 1 * win0_5.size 1 + win0_5.xsize (grid0.coords t0_7) 1
                  rw [show win0_5.index t0_7 1 * win0_5.size 1 = 0 from by decide +kernel, show win0_5.xsize (grid0.coords t0_7) 1 = 1 from by decide +kernel]; omega⟩

/-- What the lines after the grid leave in the result. -/
theorem tail_eq : Pipeline.afterTail₀ cfgs (dats m) 0 (V0 m) [hostOps1] c main_v0
    = (mulf (shapeCast S_ (total m c : Vec Ideal S1x1 .f32) shapeCasts_S1x1_S_ : FVec Ideal S_ .f32)
      (constant S_ .f32 0x39000000#32) : FVec Ideal S_ .f32) := by
  unfold Pipeline.afterTail₀
  show StableHlo.after hostOps1 _ (Proc.devRef .tc main_v0) = _
  after_results
  have e : Pipeline.withArrays (cfgs 0).spec c (V0 m c) (fun w => (dats m 0 c).arrAt w (cfgs 0).N) (Proc.devRef .tc main_call0_v2) = total m c :=
    ((dats m 0 c).withArrays_arrAt sharedIn0 (V0 m c) (A_eq m c) 5).trans final_eq
  rw [e]
  rfl

/-- The mean of the losses. -/
def rMeanLoss (x w : Cloud) : ℝ := (∑ b, ∑ n, rPoint x w b n) * (1 / 8192)

/-- After the lines that follow the grid the result is the mean of the losses. -/
theorem result_apply (h : Holds m c x w) (hU : AllUntied x) (i : S_.Idx) :
    At i (Pipeline.afterTail₀ cfgs (dats m) 0 (V0 m) [hostOps1] c main_v0 : FVec Ideal S_ .f32) (rMeanLoss x w) := by
  rw [tail_eq]
  refine At.mul ?_ bits_per_count
  exact (outs_apply h hU _ 7 _).trans (congrArg _ (sum_blocks _))

/-- Every run of the kernel ends with the mean of the losses in the result, the argument arrays as they were. -/
theorem kernel_run (m : (ℓ : Loc nD τ sig) → Buf (Elt Ideal) ℓ) (g : Dev nD → PrngReg) (x w : Dev nD → Cloud)
    (h : ∀ c, Holds m c (x c) (w c)) (hU : ∀ c, AllUntied (x c)) :
    θ_run defs (onTc (τ := τ) (main (F := Ideal))) ⟨m, fun _ => 0, g⟩ (fun r => ∀ c : Dev nD,
      r.2.mem ((c.tc : Thread nD τ).loc main_v0) = (fun _ => ((rMeanLoss (x c) (w c) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ hr c => ⟨(hr.1.rest_eq c main_v0 (by decide)).trans (funext fun i => result_apply (h c) (hU c) i), hr.2 c⟩)
    (θ_run_and (run_main m g) (unchanged m g))

end Cert.Value

end
-- ==== Proof.RefRot.lean ====
module

public import proofs.«01_k».proof.Proof.Gen.ReferenceIdeal
public import proofs.«01_k».proof.Proof.KernelReal
public import Idealize.ShloMosaic.Lib.Pipeline.Value
public import Idealize.ShloMosaic.Lib.ValueIdx
public import Idealize.ShloMosaic.PureOps.Ideal.Laws

@[expose] public section

noncomputable section

namespace Cert.Value

open Idealize.ShloMosaic Cert.ReferenceIdeal Cert.ReferenceIdeal.Gen

section Defs

variable {F : FTy → Type} [FloatOps F]

/-- One number for each cloud, batch and point. -/
abbrev Num (F : FTy → Type) : Type := FVec F S2x2x4096 .f32
/-- One 3 x 3 matrix for each cloud, batch and point. -/
abbrev Mat (F : FTy → Type) : Type := FVec F S2x2x4096x3x3 .f32

/-- One 32-bit word for each cloud, batch and point. -/
def hWord (w : BitVec 32) : Num F := broadcastInDim S2x2x4096 ![] bcast_S_S2x2x4096 (constant S_ .f32 w)
/-- The reference's one. -/
def hOne : Num F := hWord 0x3F800000#32
/-- The reference's zero: a product with one. -/
def hZero : Num F := mulf (hWord 0x00000000#32) hOne
/-- The reference's two: a product with one. -/
def hTwo : Num F := mulf (hWord 0x40000000#32) hOne

/-- The matrix the eigenvectors start from. -/
def hEye : Mat F :=
  broadcastInDim S2x2x4096x3x3 ![3, 4] bcast_S3x3_S2x2x4096x3x3_3_4
    (uitofp .f32 (cmpi .eq (addi (iotaInDim S3x3 32 0) (broadcastInDim S3x3 ![] bcast_S_S3x3 (constantI S_ 32 0#32)))
      (iotaInDim S3x3 32 1)))

/-- The entry of a matrix at one offset. -/
def hEnt (off : Fin 5 → Nat) (h : S2x2x4096x3x3.Slices off S2x2x4096x1x1) (a : Mat F) : Num F :=
  shapeCast S2x2x4096 (extractStridedSlice S2x2x4096x1x1 off a h) shapeCasts_S2x2x4096x1x1_S2x2x4096

/-- Half the difference of the diagonal over the entry to annul. -/
def hTau (app aqq apq : Num F) : Num F := Host.divf (subf aqq app) (mulf hTwo (select (cmpf .oeq apq hZero) hOne apq))

/-- The reference's tangent of the rotation's angle. -/
def hTan (tau : Num F) : Num F :=
  Host.divf (select (cmpf .oge tau hZero) hOne (Host.negf hOne)) (addf (Host.absf tau) (Host.sqrt (addf hOne (mulf tau tau))))

/-- The cosine of a tangent. -/
def hCosOf (t : Num F) : Num F := Host.divf hOne (Host.sqrt (addf hOne (mulf t t)))

/-- The reference's cosine of the rotation. -/
def hCos (app aqq apq : Num F) : Num F := select (cmpf .oeq apq hZero) hOne (hCosOf (hTan (hTau app aqq apq)))

/-- The reference's sine of the rotation. -/
def hSin (app aqq apq : Num F) : Num F :=
  select (cmpf .oeq apq hZero) hZero (mulf (hTan (hTau app aqq apq)) (hCosOf (hTan (hTau app aqq apq))))

/-- A number as a column of one entry. -/
def hCol (x : Num F) : FVec F S2x2x4096x1 .f32 := broadcastInDim S2x2x4096x1 ![0, 1, 2] bcast_S2x2x4096_S2x2x4096x1_0_1_2 x

/-- Nine numbers as the rows of a 3 x 3 matrix. -/
def hMat (x0 x1 x2 x3 x4 x5 x6 x7 x8 : Num F) : Mat F :=
  shapeCast S2x2x4096x3x3
    (concatenate S2x2x4096x9 3 [⟨S2x2x4096x1, hCol x0⟩, ⟨S2x2x4096x1, hCol x1⟩, ⟨S2x2x4096x1, hCol x2⟩, ⟨S2x2x4096x1, hCol x3⟩,
      ⟨S2x2x4096x1, hCol x4⟩, ⟨S2x2x4096x1, hCol x5⟩, ⟨S2x2x4096x1, hCol x6⟩, ⟨S2x2x4096x1, hCol x7⟩, ⟨S2x2x4096x1, hCol x8⟩]
      concatenates_S2x2x4096x1_S2x2x4096x1_S2x2x4096x1_S2x2x4096x1_S2x2x4096x1_S2x2x4096x1_S2x2x4096x1_S2x2x4096x1_S2x2x4096x1_S2x2x4096x9_d3)
    shapeCasts_S2x2x4096x9_S2x2x4096x3x3

/-- `aᵀ b`, matrix by matrix. -/
def hTN (a b : Mat F) : Mat F := Host.dotGeneral dot_S2x2x4096x3x3_S2x2x4096x3x3_S2x2x4096x3x3_3_3_4_4_012_012 none a b
/-- `a b`. -/
def hNN (a b : Mat F) : Mat F := Host.dotGeneral dot_S2x2x4096x3x3_S2x2x4096x3x3_S2x2x4096x3x3_4_3_3_4_012_012 none a b
/-- `a bᵀ`. -/
def hNT (a b : Mat F) : Mat F := Host.dotGeneral dot_S2x2x4096x3x3_S2x2x4096x3x3_S2x2x4096x3x3_4_4_3_3_012_012 none a b

/-- The rotation's matrix in the plane (0, 2). -/
def hR02 (a : Mat F) : Mat F :=
  let app := hEnt ![0, 0, 0, 0, 0] slices_S2x2x4096x3x3_S2x2x4096x1x1_0_0_0_0_0 a
  let aqq := hEnt ![0, 0, 0, 2, 2] slices_S2x2x4096x3x3_S2x2x4096x1x1_0_0_0_2_2 a
  let apq := hEnt ![0, 0, 0, 0, 2] slices_S2x2x4096x3x3_S2x2x4096x1x1_0_0_0_0_2 a
  hMat (hCos app aqq apq) hZero (hSin app aqq apq) hZero hOne hZero (Host.negf (hSin app aqq apq)) hZero (hCos app aqq apq)

/-- The rotation's matrix in the plane (1, 2). -/
def hR12 (a : Mat F) : Mat F :=
  let app := hEnt ![0, 0, 0, 1, 1] slices_S2x2x4096x3x3_S2x2x4096x1x1_0_0_0_1_1 a
  let aqq := hEnt ![0, 0, 0, 2, 2] slices_S2x2x4096x3x3_S2x2x4096x1x1_0_0_0_2_2 a
  let apq := hEnt ![0, 0, 0, 1, 2] slices_S2x2x4096x3x3_S2x2x4096x1x1_0_0_0_1_2 a
  hMat hOne hZero hZero hZero (hCos app aqq apq) (hSin app aqq apq) hZero (Host.negf (hSin app aqq apq)) (hCos app aqq apq)

/-- The rotation's matrix in the plane (0, 1). -/
def hR01 (a : Mat F) : Mat F :=
  let app := hEnt ![0, 0, 0, 0, 0] slices_S2x2x4096x3x3_S2x2x4096x1x1_0_0_0_0_0 a
  let aqq := hEnt ![0, 0, 0, 1, 1] slices_S2x2x4096x3x3_S2x2x4096x1x1_0_0_0_1_1 a
  let apq := hEnt ![0, 0, 0, 0, 1] slices_S2x2x4096x3x3_S2x2x4096x1x1_0_0_0_0_1 a
  hMat (hCos app aqq apq) (hSin app aqq apq) hZero (Host.negf (hSin app aqq apq)) (hCos app aqq apq) hZero hZero hZero hOne

/-- One rotation of a matrix and of its eigenvectors by `r`. -/
def hTurn (r : Mat F → Mat F) (x : Mat F × Mat F) : Mat F × Mat F := (hTN (hTN x.1 (r x.1)) (r x.1), hNN x.2 (r x.1))

/-- One sweep: a rotation in each plane. -/
def hSweep (x : Mat F × Mat F) : Mat F × Mat F := hTurn hR01 (hTurn hR12 (hTurn hR02 x))

/-- Seven sweeps of the reference's Jacobi iteration. -/
def hSweeps (x : Mat F × Mat F) : Mat F × Mat F := hSweep (hSweep (hSweep (hSweep (hSweep (hSweep (hSweep x))))))

/-- The eigenvalues, clipped at zero. -/
def hEig (a : Mat F) : FVec F S2x2x4096x3 .f32 :=
  maximumf
    (concatenate S2x2x4096x3 3 [⟨S2x2x4096x1, hCol (hEnt ![0, 0, 0, 0, 0] slices_S2x2x4096x3x3_S2x2x4096x1x1_0_0_0_0_0 a)⟩,
      ⟨S2x2x4096x1, hCol (hEnt ![0, 0, 0, 1, 1] slices_S2x2x4096x3x3_S2x2x4096x1x1_0_0_0_1_1 a)⟩,
      ⟨S2x2x4096x1, hCol (hEnt ![0, 0, 0, 2, 2] slices_S2x2x4096x3x3_S2x2x4096x1x1_0_0_0_2_2 a)⟩]
      concatenates_S2x2x4096x1_S2x2x4096x1_S2x2x4096x1_S2x2x4096x3_d3)
    (broadcastInDim S2x2x4096x3 ![] bcast_S_S2x2x4096x3 (constant S_ .f32 0x00000000#32))

/-- The symmetric root of a matrix from its eigenvalues and eigenvectors. -/
def hHalf (x : Mat F × Mat F) : Mat F :=
  hNT (mulf x.2 (broadcastInDim S2x2x4096x3x3 ![0, 1, 2, 3, 4] bcast_S2x2x4096x1x3_S2x2x4096x3x3_0_1_2_3_4
    (broadcastInDim S2x2x4096x1x3 ![0, 1, 2, 4] bcast_S2x2x4096x3_S2x2x4096x1x3_0_1_2_4 (Host.sqrt (hEig x.1))))) x.2

/-- Column `q` of the eigenvectors. -/
def hVec (off : Fin 5 → Nat) (h : S2x2x4096x3x3.Slices off S2x2x4096x3x1) (v : Mat F) : FVec F S2x2x4096x3 .f32 :=
  shapeCast S2x2x4096x3 (extractStridedSlice S2x2x4096x3x1 off v h) shapeCasts_S2x2x4096x3x1_S2x2x4096x3

/-- The eigenvector of the least clipped eigenvalue, the last among equals. -/
def hNormal (x : Mat F × Mat F) : FVec F S2x2x4096x3 .f32 :=
  let w0 := extractStridedSlice S2x2x4096x1 ![0, 0, 0, 0] (hEig x.1) slices_S2x2x4096x3_S2x2x4096x1_0_0_0_0
  let w1 := extractStridedSlice S2x2x4096x1 ![0, 0, 0, 1] (hEig x.1) slices_S2x2x4096x3_S2x2x4096x1_0_0_0_1
  let w2 := extractStridedSlice S2x2x4096x1 ![0, 0, 0, 2] (hEig x.1) slices_S2x2x4096x3_S2x2x4096x1_0_0_0_2
  select (broadcastInDim S2x2x4096x3 ![0, 1, 2, 3] bcast_S2x2x4096x1_S2x2x4096x3_0_1_2_3 (cmpf .ole w2 (minimumf w0 w1)))
    (hVec ![0, 0, 0, 0, 2] slices_S2x2x4096x3x3_S2x2x4096x3x1_0_0_0_0_2 x.2)
    (select (broadcastInDim S2x2x4096x3 ![0, 1, 2, 3] bcast_S2x2x4096x1_S2x2x4096x3_0_1_2_3 (cmpf .ole w1 w0))
      (hVec ![0, 0, 0, 0, 1] slices_S2x2x4096x3x3_S2x2x4096x3x1_0_0_0_0_1 x.2)
      (hVec ![0, 0, 0, 0, 0] slices_S2x2x4096x3x3_S2x2x4096x3x1_0_0_0_0_0 x.2))

/-- The signed distances from the Gram matrices `g`, the points `x` and the centres `c`. -/
def hPtof (g : Mat F) (x : FVec F S2x2x4096x3 .f32) (c : FVec F S2x2x4096x1x3 .f32) : Num F :=
  Host.reduceAdd
    (mulf (subf x (shapeCast S2x2x4096x3 c shapeCasts_S2x2x4096x1x3_S2x2x4096x3)) (hNormal (hSweeps (hHalf (hSweeps (g, hEye)), hEye))))
    (constant S_ .f32 0x00000000#32) reducesTo_S2x2x4096x3_S2x2x4096_d3 h_S_

end Defs

end Cert.Value

end
-- ==== Proof.RefRead.lean ====
module

public import proofs.«01_k».proof.Proof.RefRot

@[expose] public section

noncomputable section

namespace Cert.Value

open Idealize.ShloMosaic Cert.ReferenceIdeal Cert.ReferenceIdeal.Gen

variable (i : S2x2x4096.Idx)

/-- The index of the entry `p q` of the matrix at `i`. -/
abbrev mIdx (p q : Fin 3) : S2x2x4096x3x3.Idx := fun a => match a with
  | ⟨0, _⟩ => i 0
  | ⟨1, _⟩ => i 1
  | ⟨2, _⟩ => i 2
  | ⟨3, _⟩ => p
  | ⟨4, _⟩ => q

/-- The product of a transposed matrix with a matrix, entry by entry. -/
theorem hTN_apply (a b : Mat Ideal) (p q : Fin 3) :
    hTN a b (mIdx i p q) = ∑ k : Fin 3, a (mIdx i k p) * b (mIdx i k q) := by
  unfold hTN
  simp only [Host.dotGeneral]
  rw [Ideal.dotGeneral_apply, ← Equiv.sum_comp (ValueIdx.contrEquiv1 dot_S2x2x4096x3x3_S2x2x4096x3x3_S2x2x4096x3x3_3_3_4_4_012_012 3 rfl rfl).symm]
  refine Finset.sum_congr rfl fun k _ => ?_
  have hk := ValueIdx.contrEquiv1_symm_val dot_S2x2x4096x3x3_S2x2x4096x3x3_S2x2x4096x3x3_3_3_4_4_012_012 3 rfl rfl k
  congr 2
  · funext a
    match a with
    | ⟨0, _⟩ => rfl
    | ⟨1, _⟩ => rfl
    | ⟨2, _⟩ => rfl
    | ⟨3, _⟩ => exact Fin.ext ((DotDims.lhsIdx_val_of_single _ rfl _ _).trans hk)
    | ⟨4, _⟩ => rfl
  · funext a
    match a with
    | ⟨0, _⟩ => rfl
    | ⟨1, _⟩ => rfl
    | ⟨2, _⟩ => rfl
    | ⟨3, _⟩ => exact Fin.ext ((DotDims.rhsIdx_val_of_single _ rfl _ _).trans hk)
    | ⟨4, _⟩ => rfl

/-- The product of two matrices, entry by entry. -/
theorem hNN_apply (a b : Mat Ideal) (p q : Fin 3) :
    hNN a b (mIdx i p q) = ∑ k : Fin 3, a (mIdx i p k) * b (mIdx i k q) := by
  unfold hNN
  simp only [Host.dotGeneral]
  rw [Ideal.dotGeneral_apply, ← Equiv.sum_comp (ValueIdx.contrEquiv1 dot_S2x2x4096x3x3_S2x2x4096x3x3_S2x2x4096x3x3_4_3_3_4_012_012 3 rfl rfl).symm]
  refine Finset.sum_congr rfl fun k _ => ?_
  have hk := ValueIdx.contrEquiv1_symm_val dot_S2x2x4096x3x3_S2x2x4096x3x3_S2x2x4096x3x3_4_3_3_4_012_012 3 rfl rfl k
  congr 2
  · funext a
    match a with
    | ⟨0, _⟩ => rfl
    | ⟨1, _⟩ => rfl
    | ⟨2, _⟩ => rfl
    | ⟨3, _⟩ => rfl
    | ⟨4, _⟩ => exact Fin.ext ((DotDims.lhsIdx_val_of_single _ rfl _ _).trans hk)
  · funext a
    match a with
    | ⟨0, _⟩ => rfl
    | ⟨1, _⟩ => rfl
    | ⟨2, _⟩ => rfl
    | ⟨3, _⟩ => exact Fin.ext ((DotDims.rhsIdx_val_of_single _ rfl _ _).trans hk)
    | ⟨4, _⟩ => rfl

/-- The product of a matrix with a transposed one, entry by entry. -/
theorem hNT_apply (a b : Mat Ideal) (p q : Fin 3) :
    hNT a b (mIdx i p q) = ∑ k : Fin 3, a (mIdx i p k) * b (mIdx i q k) := by
  unfold hNT
  simp only [Host.dotGeneral]
  rw [Ideal.dotGeneral_apply, ← Equiv.sum_comp (ValueIdx.contrEquiv1 dot_S2x2x4096x3x3_S2x2x4096x3x3_S2x2x4096x3x3_4_4_3_3_012_012 3 rfl rfl).symm]
  refine Finset.sum_congr rfl fun k _ => ?_
  have hk := ValueIdx.contrEquiv1_symm_val dot_S2x2x4096x3x3_S2x2x4096x3x3_S2x2x4096x3x3_4_4_3_3_012_012 3 rfl rfl k
  congr 2
  · funext a
    match a with
    | ⟨0, _⟩ => rfl
    | ⟨1, _⟩ => rfl
    | ⟨2, _⟩ => rfl
    | ⟨3, _⟩ => rfl
    | ⟨4, _⟩ => exact Fin.ext ((DotDims.lhsIdx_val_of_single _ rfl _ _).trans hk)
  · funext a
    match a with
    | ⟨0, _⟩ => rfl
    | ⟨1, _⟩ => rfl
    | ⟨2, _⟩ => rfl
    | ⟨3, _⟩ => rfl
    | ⟨4, _⟩ => exact Fin.ext ((DotDims.rhsIdx_val_of_single _ rfl _ _).trans hk)

variable {i}

/-- The matrix at `i` holds the real matrix `m`. -/
def MAt (i : S2x2x4096.Idx) (a : Mat Ideal) (m : Fin 3 → Fin 3 → ℝ) : Prop := ∀ p q, a (mIdx i p q) = ((m p q : ℝ) : EReal)

/-- A sum of three products of reals is real. -/
theorem sum_three_real (x y : Fin 3 → ℝ) :
    ∑ k : Fin 3, ((x k : ℝ) : EReal) * ((y k : ℝ) : EReal) = ((x 0 * y 0 + x 1 * y 1 + x 2 * y 2 : ℝ) : EReal) := by
  rw [Fin.sum_univ_three]; push_cast; rfl

variable {a b : Mat Ideal} {m n : Fin 3 → Fin 3 → ℝ}

/-- The product of a transposed matrix with a matrix holds the real product. -/
theorem MAt.tn (ha : MAt i a m) (hb : MAt i b n) :
    MAt i (hTN a b) fun p q => m 0 p * n 0 q + m 1 p * n 1 q + m 2 p * n 2 q := fun p q => by
  rw [hTN_apply]; simp only [ha _ _, hb _ _]; exact sum_three_real _ _

/-- The product of two matrices holds the real product. -/
theorem MAt.nn (ha : MAt i a m) (hb : MAt i b n) :
    MAt i (hNN a b) fun p q => m p 0 * n 0 q + m p 1 * n 1 q + m p 2 * n 2 q := fun p q => by
  rw [hNN_apply]; simp only [ha _ _, hb _ _]; exact sum_three_real _ _

/-- The product of a matrix with a transposed one holds the real product. -/
theorem MAt.nt (ha : MAt i a m) (hb : MAt i b n) :
    MAt i (hNT a b) fun p q => m p 0 * n q 0 + m p 1 * n q 1 + m p 2 * n q 2 := fun p q => by
  rw [hNT_apply]; simp only [ha _ _, hb _ _]; exact sum_three_real _ _

/-- The entry taken from a matrix is the entry. -/
theorem hEnt_apply (p q : Fin 3) (h : S2x2x4096x3x3.Slices ![0, 0, 0, p.val, q.val] S2x2x4096x1x1) (a : Mat Ideal) :
    hEnt ![0, 0, 0, p.val, q.val] h a i = a (mIdx i p q) := by
  unfold hEnt
  rw [shapeCast_apply _ shapeCasts_S2x2x4096x1x1_S2x2x4096 i (fun a => match a with
    | ⟨0, _⟩ => i 0
    | ⟨1, _⟩ => i 1
    | ⟨2, _⟩ => i 2
    | ⟨3, _⟩ => ⟨0, Nat.one_pos⟩
    | ⟨4, _⟩ => ⟨0, Nat.one_pos⟩ : S2x2x4096x1x1.Idx) (by
      rw [Shape.rowMajor_val_five, Shape.rowMajor_val_three]
      show ((((i 0).val * 2 + (i 1).val) * 4096 + (i 2).val) * 1 + 0) * 1 + 0 = ((i 0).val * 2 + (i 1).val) * 4096 + (i 2).val
      omega)]
  exact extractStridedSlice_apply _ a h _ (mIdx i p q) (fun a => match a with
    | ⟨0, _⟩ => (Nat.zero_add _).symm
    | ⟨1, _⟩ => (Nat.zero_add _).symm
    | ⟨2, _⟩ => (Nat.zero_add _).symm
    | ⟨3, _⟩ => rfl
    | ⟨4, _⟩ => rfl)

/-- The entry taken from a matrix holds the real entry. -/
theorem MAt.ent (ha : MAt i a m) (p q : Fin 3) (h : S2x2x4096x3x3.Slices ![0, 0, 0, p.val, q.val] S2x2x4096x1x1) :
    At i (hEnt ![0, 0, 0, p.val, q.val] h a) (m p q) := (hEnt_apply p q h a).trans (ha p q)

/-- An entry of the matrix made of nine numbers. -/
theorem hMat_apply (x0 x1 x2 x3 x4 x5 x6 x7 x8 : Num Ideal) (p q : Fin 3) :
    hMat x0 x1 x2 x3 x4 x5 x6 x7 x8 (mIdx i p q) = (![![x0, x1, x2], ![x3, x4, x5], ![x6, x7, x8]] p q : Num Ideal) i := by
  unfold hMat
  rw [shapeCast_apply _ shapeCasts_S2x2x4096x9_S2x2x4096x3x3 (mIdx i p q) (fun a => match a with
    | ⟨0, _⟩ => i 0
    | ⟨1, _⟩ => i 1
    | ⟨2, _⟩ => i 2
    | ⟨3, _⟩ => ⟨3 * p.val + q.val, show 3 * p.val + q.val < 9 by omega⟩ : S2x2x4096x9.Idx) (by
      rw [Shape.rowMajor_val_five, Shape.rowMajor_val_four]
      show (((i 0).val * 2 + (i 1).val) * 4096 + (i 2).val) * 9 + (3 * p.val + q.val) =
        ((((i 0).val * 2 + (i 1).val) * 4096 + (i 2).val) * 3 + p.val) * 3 + q.val
      omega)]
  refine (concatenate_ofFn_unit_apply (t := S2x2x4096x9) (s₁ := S2x2x4096x1) 3
    (fun n : Fin 9 => hCol (![x0, x1, x2, x3, x4, x5, x6, x7, x8] n))
    concatenates_S2x2x4096x1_S2x2x4096x1_S2x2x4096x1_S2x2x4096x1_S2x2x4096x1_S2x2x4096x1_S2x2x4096x1_S2x2x4096x1_S2x2x4096x1_S2x2x4096x9_d3
    rfl rfl _ ⟨3 * p.val + q.val, show 3 * p.val + q.val < 9 by omega⟩ rfl
    (fun a => match a with
    | ⟨0, _⟩ => i 0
    | ⟨1, _⟩ => i 1
    | ⟨2, _⟩ => i 2
    | ⟨3, _⟩ => ⟨0, Nat.one_pos⟩ : S2x2x4096x1.Idx) (fun b hb => match b, hb with
    | ⟨0, _⟩, _ => rfl
    | ⟨1, _⟩, _ => rfl
    | ⟨2, _⟩, _ => rfl
    | ⟨3, _⟩, hb => absurd rfl hb)).trans ?_
  refine (broadcastInDim_apply _ bcast_S2x2x4096_S2x2x4096x1_0_1_2 _ _ i (fun a => match a with
    | ⟨0, _⟩ => rfl
    | ⟨1, _⟩ => rfl
    | ⟨2, _⟩ => rfl)).trans ?_
  fin_cases p <;> fin_cases q <;> rfl

/-- The matrix made of nine numbers holds the nine reals. -/
theorem at_mat {x0 x1 x2 x3 x4 x5 x6 x7 x8 : Num Ideal} {r0 r1 r2 r3 r4 r5 r6 r7 r8 : ℝ} (h0 : At i x0 r0) (h1 : At i x1 r1)
    (h2 : At i x2 r2) (h3 : At i x3 r3) (h4 : At i x4 r4) (h5 : At i x5 r5) (h6 : At i x6 r6) (h7 : At i x7 r7) (h8 : At i x8 r8) :
    MAt i (hMat x0 x1 x2 x3 x4 x5 x6 x7 x8) ![![r0, r1, r2], ![r3, r4, r5], ![r6, r7, r8]] := fun p q => by
  rw [hMat_apply]
  fin_cases p <;> fin_cases q <;> assumption

end Cert.Value

end
-- ==== Proof.RefReal.lean ====
module

public import proofs.«01_k».proof.Proof.RefRead

@[expose] public section

noncomputable section

namespace Cert.Value

open Idealize.ShloMosaic Cert.ReferenceIdeal Cert.ReferenceIdeal.Gen

section Pointwise

variable {S : Shape} {i : S.Idx} {x y : FVec Ideal S .f32} {a b : ℝ}

/-- The host's quotient holds the quotient, the divisor not being zero. -/
theorem At.hdiv (hx : At i x a) (hy : At i y b) (h : b ≠ 0) : At i (Host.divf x y) (a / b) := by
  show Ideal.div (x i) (y i) = _
  rw [show x i = _ from hx, show y i = _ from hy, div_real a h]

/-- The host's root holds the root of a number that is not negative. -/
theorem At.hsqrt (hx : At i x a) (h : 0 ≤ a) : At i (Host.sqrt x) (√a) := by
  show Ideal.sqrt (x i) = _
  rw [show x i = _ from hx, sqrt_real h]

/-- The host's absolute value holds the absolute value. -/
theorem At.habs (hx : At i x a) : At i (Host.absf x) |a| := by
  show Max.max (x i) (-(x i)) = _
  rw [show x i = _ from hx, abs_real]

/-- The host's negation holds the negative. -/
theorem At.hneg (hx : At i x a) : At i (Host.negf x) (-a) := by
  show -(x i) = _
  rw [show x i = _ from hx, EReal.coe_neg]

end Pointwise

variable {i : S2x2x4096.Idx} {x y z : Num Ideal} {a b d : ℝ}

/-- The reference's one is one. -/
theorem at_hone : At i (hOne : Num Ideal) 1 := Ideal.ofBits_one_f32
/-- The reference's zero is zero. -/
theorem at_hzero : At i (hZero : Num Ideal) 0 :=
  (At.mul (x := hWord 0x00000000#32) (a := 0) Ideal.ofBits_zero_f32 at_hone).of_eq (zero_mul _)
/-- The reference's two is two. -/
theorem at_htwo : At i (hTwo : Num Ideal) 2 :=
  (At.mul (x := hWord 0x40000000#32) (a := 2) bits_two at_hone).of_eq (mul_one _)

/-- The reference's quotient that gives the rotation is the real one. -/
theorem at_htau (hx : At i x a) (hy : At i y b) (hz : At i z d) : At i (hTau x y z) (rTau a b d) :=
  (hy.sub hx).hdiv (at_htwo.mul ((at_hone.select (hz.oeq at_hzero) hz))) (by by_cases h : d = 0 <;> simp [h])

/-- The reference's tangent is the real one. -/
theorem at_htan (hx : At i x a) : At i (hTan x) (rTan a) :=
  (at_hone.select (hx.oge at_hzero) at_hone.hneg).hdiv (hx.habs.add ((at_hone.add (hx.mul hx)).hsqrt (one_add_pos a).le))
    (ne_of_gt (by linarith [abs_nonneg a, sqrt_pos_one_add a]))

/-- The reference's cosine of a tangent is the real one. -/
theorem at_hcosOf (hx : At i x a) : At i (hCosOf x) (1 / √(1 + a * a)) :=
  at_hone.hdiv ((at_hone.add (hx.mul hx)).hsqrt (one_add_pos a).le) (sqrt_pos_one_add a).ne'

/-- The reference's cosine of a rotation is the real one. -/
theorem at_hcos (hx : At i x a) (hy : At i y b) (hz : At i z d) : At i (hCos x y z) (rCos a b d) :=
  at_hone.select (hz.oeq at_hzero) (at_hcosOf (at_htan (at_htau hx hy hz)))

/-- The reference's sine of a rotation is the real one. -/
theorem at_hsin (hx : At i x a) (hy : At i y b) (hz : At i z d) : At i (hSin x y z) (rSin a b d) :=
  at_hzero.select (hz.oeq at_hzero) ((at_htan (at_htau hx hy hz)).mul (at_hcosOf (at_htan (at_htau hx hy hz))))

/-- The symmetric matrix of an iteration. -/
def symm (r : St ℝ) : Fin 3 → Fin 3 → ℝ := ![![r.a00, r.a01, r.a02], ![r.a01, r.a11, r.a12], ![r.a02, r.a12, r.a22]]
/-- The eigenvectors of an iteration. -/
def vecs (r : St ℝ) : Fin 3 → Fin 3 → ℝ := ![![r.v00, r.v01, r.v02], ![r.v10, r.v11, r.v12], ![r.v20, r.v21, r.v22]]

/-- A pair of a matrix and its eigenvectors holds the real iteration `r` at `i`. -/
structure HAt (i : S2x2x4096.Idx) (X : Mat Ideal × Mat Ideal) (r : St ℝ) : Prop where
  a : MAt i X.1 (symm r)
  v : MAt i X.2 (vecs r)

/-- A matrix holds whatever equals the real matrix it holds. -/
theorem MAt.of_eq {A : Mat Ideal} {m n : Fin 3 → Fin 3 → ℝ} (h : MAt i A m) (e : ∀ p q, m p q = n p q) : MAt i A n :=
  fun p q => e p q ▸ h p q

variable {X : Mat Ideal × Mat Ideal} {r : St ℝ}

/-- The reference's rotation in the plane (0, 2) is the real one. -/
theorem HAt.turn02 (h : HAt i X r) : HAt i (hTurn hR02 X) (rStep02 r) := by
  have app := h.a.ent 0 0 slices_S2x2x4096x3x3_S2x2x4096x1x1_0_0_0_0_0
  have aqq := h.a.ent 2 2 slices_S2x2x4096x3x3_S2x2x4096x1x1_0_0_0_2_2
  have apq := h.a.ent 0 2 slices_S2x2x4096x3x3_S2x2x4096x1x1_0_0_0_0_2
  have c := at_hcos app aqq apq
  have s := at_hsin app aqq apq
  have R := at_mat c at_hzero s at_hzero at_hone at_hzero s.hneg at_hzero c
  refine ⟨((h.a.tn R).tn R).of_eq fun p q => ?_, (h.v.nn R).of_eq fun p q => ?_⟩
  · show _ = symm (rRot02 (rCos (symm r 0 0) (symm r 2 2) (symm r 0 2)) (rSin (symm r 0 0) (symm r 2 2) (symm r 0 2)) r) p q
    generalize rCos (symm r 0 0) (symm r 2 2) (symm r 0 2) = u
    generalize rSin (symm r 0 0) (symm r 2 2) (symm r 0 2) = w
    fin_cases p <;> fin_cases q <;> simp [symm, rRot02, rPP, rQQ, rPQ, rL, rR] <;> ring
  · show _ = vecs (rRot02 (rCos (symm r 0 0) (symm r 2 2) (symm r 0 2)) (rSin (symm r 0 0) (symm r 2 2) (symm r 0 2)) r) p q
    generalize rCos (symm r 0 0) (symm r 2 2) (symm r 0 2) = u
    generalize rSin (symm r 0 0) (symm r 2 2) (symm r 0 2) = w
    fin_cases p <;> fin_cases q <;> simp [vecs, rRot02, rL, rR] <;> ring

/-- The reference's rotation in the plane (1, 2) is the real one. -/
theorem HAt.turn12 (h : HAt i X r) : HAt i (hTurn hR12 X) (rStep12 r) := by
  have app := h.a.ent 1 1 slices_S2x2x4096x3x3_S2x2x4096x1x1_0_0_0_1_1
  have aqq := h.a.ent 2 2 slices_S2x2x4096x3x3_S2x2x4096x1x1_0_0_0_2_2
  have apq := h.a.ent 1 2 slices_S2x2x4096x3x3_S2x2x4096x1x1_0_0_0_1_2
  have c := at_hcos app aqq apq
  have s := at_hsin app aqq apq
  have R := at_mat at_hone at_hzero at_hzero at_hzero c s at_hzero s.hneg c
  refine ⟨((h.a.tn R).tn R).of_eq fun p q => ?_, (h.v.nn R).of_eq fun p q => ?_⟩
  · show _ = symm (rRot12 (rCos (symm r 1 1) (symm r 2 2) (symm r 1 2)) (rSin (symm r 1 1) (symm r 2 2) (symm r 1 2)) r) p q
    generalize rCos (symm r 1 1) (symm r 2 2) (symm r 1 2) = u
    generalize rSin (symm r 1 1) (symm r 2 2) (symm r 1 2) = w
    fin_cases p <;> fin_cases q <;> simp [symm, rRot12, rPP, rQQ, rPQ, rL, rR] <;> ring
  · show _ = vecs (rRot12 (rCos (symm r 1 1) (symm r 2 2) (symm r 1 2)) (rSin (symm r 1 1) (symm r 2 2) (symm r 1 2)) r) p q
    generalize rCos (symm r 1 1) (symm r 2 2) (symm r 1 2) = u
    generalize rSin (symm r 1 1) (symm r 2 2) (symm r 1 2) = w
    fin_cases p <;> fin_cases q <;> simp [vecs, rRot12, rL, rR] <;> ring

/-- The reference's rotation in the plane (0, 1) is the real one. -/
theorem HAt.turn01 (h : HAt i X r) : HAt i (hTurn hR01 X) (rStep01 r) := by
  have app := h.a.ent 0 0 slices_S2x2x4096x3x3_S2x2x4096x1x1_0_0_0_0_0
  have aqq := h.a.ent 1 1 slices_S2x2x4096x3x3_S2x2x4096x1x1_0_0_0_1_1
  have apq := h.a.ent 0 1 slices_S2x2x4096x3x3_S2x2x4096x1x1_0_0_0_0_1
  have c := at_hcos app aqq apq
  have s := at_hsin app aqq apq
  have R := at_mat c s at_hzero s.hneg c at_hzero at_hzero at_hzero at_hone
  refine ⟨((h.a.tn R).tn R).of_eq fun p q => ?_, (h.v.nn R).of_eq fun p q => ?_⟩
  · show _ = symm (rRot01 (rCos (symm r 0 0) (symm r 1 1) (symm r 0 1)) (rSin (symm r 0 0) (symm r 1 1) (symm r 0 1)) r) p q
    generalize rCos (symm r 0 0) (symm r 1 1) (symm r 0 1) = u
    generalize rSin (symm r 0 0) (symm r 1 1) (symm r 0 1) = w
    fin_cases p <;> fin_cases q <;> simp [symm, rRot01, rPP, rQQ, rPQ, rL, rR] <;> ring
  · show _ = vecs (rRot01 (rCos (symm r 0 0) (symm r 1 1) (symm r 0 1)) (rSin (symm r 0 0) (symm r 1 1) (symm r 0 1)) r) p q
    generalize rCos (symm r 0 0) (symm r 1 1) (symm r 0 1) = u
    generalize rSin (symm r 0 0) (symm r 1 1) (symm r 0 1) = w
    fin_cases p <;> fin_cases q <;> simp [vecs, rRot01, rL, rR] <;> ring

/-- The reference's sweep is the real one. -/
theorem HAt.sweep (h : HAt i X r) : HAt i (hSweep X) (rSweep r) := h.turn02.turn12.turn01

/-- The reference's seven sweeps are the real ones. -/
theorem HAt.sweeps (h : HAt i X r) : HAt i (hSweeps X) (rSweeps r) := h.sweep.sweep.sweep.sweep.sweep.sweep.sweep

/-- The matrix the eigenvectors start from is the identity. -/
theorem at_eye : MAt i hEye ![![1, 0, 0], ![0, 1, 0], ![0, 0, 1]] := fun p q => by
  have h : hEye (F := Ideal) (mIdx i p q) =
      (((IntOp.cmpi .eq (IntOp.addi (BitVec.ofNat 32 p.val) 0#32) (BitVec.ofNat 32 q.val) : BitVec 1).toNat : ℝ) : EReal) := rfl
  rw [h]
  fin_cases p <;> fin_cases q <;> simp [IntOp.cmpi, IntOp.addi]

/-- The index of component `k` of the vector at `i`. -/
abbrev vIdx (i : S2x2x4096.Idx) (k : Fin 3) : S2x2x4096x3.Idx := fun a => match a with
  | ⟨0, _⟩ => i 0
  | ⟨1, _⟩ => i 1
  | ⟨2, _⟩ => i 2
  | ⟨3, _⟩ => k

/-- The vector at `i` holds the real vector `u`. -/
def VAt (i : S2x2x4096.Idx) (w : FVec Ideal S2x2x4096x3 .f32) (u : Fin 3 → ℝ) : Prop := ∀ k, At (vIdx i k) w (u k)

/-- The reference's eigenvalues, none below zero, are the real ones. -/
theorem MAt.eig {A : Mat Ideal} {m : Fin 3 → Fin 3 → ℝ} (h : MAt i A m) : VAt i (hEig A) fun k => max (m k k) 0 := fun k => by
  refine At.max (b := 0) ?_ Ideal.ofBits_zero_f32
  refine (concatenate_ofFn_unit_apply (t := S2x2x4096x3) (s₁ := S2x2x4096x1) 3
    (fun n : Fin 3 => hCol (![hEnt ![0, 0, 0, 0, 0] slices_S2x2x4096x3x3_S2x2x4096x1x1_0_0_0_0_0 A,
      hEnt ![0, 0, 0, 1, 1] slices_S2x2x4096x3x3_S2x2x4096x1x1_0_0_0_1_1 A,
      hEnt ![0, 0, 0, 2, 2] slices_S2x2x4096x3x3_S2x2x4096x1x1_0_0_0_2_2 A] n))
    concatenates_S2x2x4096x1_S2x2x4096x1_S2x2x4096x1_S2x2x4096x3_d3
    rfl rfl _ k rfl
    (fun a => match a with
    | ⟨0, _⟩ => i 0
    | ⟨1, _⟩ => i 1
    | ⟨2, _⟩ => i 2
    | ⟨3, _⟩ => ⟨0, Nat.one_pos⟩ : S2x2x4096x1.Idx) (fun b hb => match b, hb with
    | ⟨0, _⟩, _ => rfl
    | ⟨1, _⟩, _ => rfl
    | ⟨2, _⟩, _ => rfl
    | ⟨3, _⟩, hb => absurd rfl hb)).trans ?_
  refine (broadcastInDim_apply _ bcast_S2x2x4096_S2x2x4096x1_0_1_2 _ _ i (fun a => match a with
    | ⟨0, _⟩ => rfl
    | ⟨1, _⟩ => rfl
    | ⟨2, _⟩ => rfl)).trans ?_
  fin_cases k
  · exact h.ent 0 0 slices_S2x2x4096x3x3_S2x2x4096x1x1_0_0_0_0_0
  · exact h.ent 1 1 slices_S2x2x4096x3x3_S2x2x4096x1x1_0_0_0_1_1
  · exact h.ent 2 2 slices_S2x2x4096x3x3_S2x2x4096x1x1_0_0_0_2_2

/-- The reference's start of the second iteration is the real one. -/
theorem HAt.half (h : HAt i X r) : HAt i (hHalf X, hEye) (rHalf r) := by
  have e := h.a.eig
  have s : MAt i (mulf X.2 (broadcastInDim S2x2x4096x3x3 ![0, 1, 2, 3, 4] bcast_S2x2x4096x1x3_S2x2x4096x3x3_0_1_2_3_4
      (broadcastInDim S2x2x4096x1x3 ![0, 1, 2, 4] bcast_S2x2x4096x3_S2x2x4096x1x3_0_1_2_4 (Host.sqrt (hEig X.1)))))
      fun p q => vecs r p q * √(max (symm r q q) 0) := fun p q => by
    refine At.mul (h.v p q) ?_
    refine (broadcastInDim_apply _ bcast_S2x2x4096x1x3_S2x2x4096x3x3_0_1_2_3_4 _ _ (fun a => match a with
      | ⟨0, _⟩ => i 0
      | ⟨1, _⟩ => i 1
      | ⟨2, _⟩ => i 2
      | ⟨3, _⟩ => ⟨0, Nat.one_pos⟩
      | ⟨4, _⟩ => q : S2x2x4096x1x3.Idx) (fun a => match a with
      | ⟨0, _⟩ => rfl
      | ⟨1, _⟩ => rfl
      | ⟨2, _⟩ => rfl
      | ⟨3, _⟩ => rfl
      | ⟨4, _⟩ => rfl)).trans ?_
    refine (broadcastInDim_apply _ bcast_S2x2x4096x3_S2x2x4096x1x3_0_1_2_4 _ _ (vIdx i q) (fun a => match a with
      | ⟨0, _⟩ => rfl
      | ⟨1, _⟩ => rfl
      | ⟨2, _⟩ => rfl
      | ⟨3, _⟩ => rfl)).trans ?_
    exact (e q).hsqrt (le_max_right _ _)
  refine ⟨(s.nt h.v).of_eq fun p q => ?_, at_eye⟩
  fin_cases p <;> fin_cases q <;> simp [symm, vecs, rHalf, rStart, rH, rRoot] <;> ring

/-- One column of a matrix holds the real column. -/
theorem MAt.vec {A : Mat Ideal} {m : Fin 3 → Fin 3 → ℝ} (ha : MAt i A m) (q : Fin 3)
    (h : S2x2x4096x3x3.Slices ![0, 0, 0, 0, q.val] S2x2x4096x3x1) : VAt i (hVec ![0, 0, 0, 0, q.val] h A) fun k => m k q := fun k => by
  refine (shapeCast_apply _ shapeCasts_S2x2x4096x3x1_S2x2x4096x3 (vIdx i k) (fun a => match a with
    | ⟨0, _⟩ => i 0
    | ⟨1, _⟩ => i 1
    | ⟨2, _⟩ => i 2
    | ⟨3, _⟩ => k
    | ⟨4, _⟩ => ⟨0, Nat.one_pos⟩ : S2x2x4096x3x1.Idx) (by
      rw [Shape.rowMajor_val_five, Shape.rowMajor_val_four]
      show ((((i 0).val * 2 + (i 1).val) * 4096 + (i 2).val) * 3 + k.val) * 1 + 0 =
        (((i 0).val * 2 + (i 1).val) * 4096 + (i 2).val) * 3 + k.val
      omega)).trans ?_
  exact (extractStridedSlice_apply _ A h _ (mIdx i k q) (fun a => match a with
    | ⟨0, _⟩ => (Nat.zero_add _).symm
    | ⟨1, _⟩ => (Nat.zero_add _).symm
    | ⟨2, _⟩ => (Nat.zero_add _).symm
    | ⟨3, _⟩ => (Nat.zero_add _).symm
    | ⟨4, _⟩ => rfl)).trans (ha k q)

/-- The index of a vector's single component. -/
abbrev compIdx (i : S2x2x4096.Idx) : S2x2x4096x1.Idx := fun a => match a with
  | ⟨0, _⟩ => i 0
  | ⟨1, _⟩ => i 1
  | ⟨2, _⟩ => i 2
  | ⟨3, _⟩ => ⟨0, Nat.one_pos⟩

/-- One component of a vector holds the real component. -/
theorem VAt.comp {w : FVec Ideal S2x2x4096x3 .f32} {u : Fin 3 → ℝ} (hw : VAt i w u) (k : Fin 3)
    (h : S2x2x4096x3.Slices ![0, 0, 0, k.val] S2x2x4096x1) :
    At (compIdx i) (extractStridedSlice S2x2x4096x1 ![0, 0, 0, k.val] w h) (u k) :=
  (extractStridedSlice_apply _ w h _ (vIdx i k) (fun a => match a with
    | ⟨0, _⟩ => (Nat.zero_add _).symm
    | ⟨1, _⟩ => (Nat.zero_add _).symm
    | ⟨2, _⟩ => (Nat.zero_add _).symm
    | ⟨3, _⟩ => rfl)).trans (hw k)

/-- One value for each point, spread over the components, at one place. -/
theorem spread_apply {α : Type} (c : S2x2x4096x1.Idx → α) (k : Fin 3) :
    broadcastInDim S2x2x4096x3 ![0, 1, 2, 3] bcast_S2x2x4096x1_S2x2x4096x3_0_1_2_3 c (vIdx i k) = c (compIdx i) :=
  broadcastInDim_apply _ bcast_S2x2x4096x1_S2x2x4096x3_0_1_2_3 c _ (compIdx i) (fun a => match a with
    | ⟨0, _⟩ => rfl
    | ⟨1, _⟩ => rfl
    | ⟨2, _⟩ => rfl
    | ⟨3, _⟩ => rfl)

/-- The reference's normal is the eigenvector that the least eigenvalue names. -/
theorem HAt.normal (h : HAt i X r) : VAt i (hNormal X) fun k => rPick r (vecs r k 0) (vecs r k 1) (vecs r k 2) := fun k => by
  have e := h.a.eig
  have w0 := e.comp 0 slices_S2x2x4096x3_S2x2x4096x1_0_0_0_0
  have w1 := e.comp 1 slices_S2x2x4096x3_S2x2x4096x1_0_0_0_1
  have w2 := e.comp 2 slices_S2x2x4096x3_S2x2x4096x1_0_0_0_2
  exact At.select ((spread_apply _ k).trans (w2.ole (w0.min w1))) (h.v.vec 2 slices_S2x2x4096x3x3_S2x2x4096x3x1_0_0_0_0_2 k)
    (At.select ((spread_apply _ k).trans (w1.ole w0)) (h.v.vec 1 slices_S2x2x4096x3x3_S2x2x4096x3x1_0_0_0_0_1 k)
      (h.v.vec 0 slices_S2x2x4096x3x3_S2x2x4096x3x1_0_0_0_0_0 k))

/-- The sum of the components is the real sum. -/
theorem VAt.sum {w : FVec Ideal S2x2x4096x3 .f32} {u : Fin 3 → ℝ} (hw : VAt i w u) :
    At i (Host.reduceAdd w (constant S_ .f32 0x00000000#32) reducesTo_S2x2x4096x3_S2x2x4096_d3 h_S_) (u 0 + u 1 + u 2) := by
  have e : Host.reduceAdd w (constant S_ .f32 0x00000000#32) reducesTo_S2x2x4096x3_S2x2x4096_d3 h_S_ i =
      constant (F := Ideal) S_ .f32 0x00000000#32 (Shape.Idx.first h_S_) + ∑ k : Fin 3, w (vIdx i k) := by
    simp only [Host.reduceAdd, Ideal.hostReduceAdd_def]
    rw [Ideal.hostReduceAdd_single reducesTo_S2x2x4096x3_S2x2x4096_d3 (by decide)]
    refine congrArg (_ + ·) (Finset.sum_congr rfl fun k _ => ?_)
    exact congrArg w (funext fun a => Fin.ext (by match a with | ⟨0, _⟩ => rfl | ⟨1, _⟩ => rfl | ⟨2, _⟩ => rfl | ⟨3, _⟩ => rfl))
  refine e.trans ?_
  rw [show constant (F := Ideal) S_ .f32 0x00000000#32 (Shape.Idx.first h_S_) = 0 from Ideal.ofBits_zero_f32, zero_add,
    Fin.sum_univ_three, show w (vIdx i 0) = _ from hw 0, show w (vIdx i 1) = _ from hw 1, show w (vIdx i 2) = _ from hw 2,
    EReal.coe_add, EReal.coe_add]

/-- The reference's signed distance is the real one of its Gram matrix and of the point's offset from the centre. -/
theorem at_hptof {g : Mat Ideal} {x : FVec Ideal S2x2x4096x3 .f32} {c : FVec Ideal S2x2x4096x1x3 .f32}
    {a00 a01 a02 a11 a12 a22 : ℝ} {u w : Fin 3 → ℝ}
    (hg : MAt i g ![![a00, a01, a02], ![a01, a11, a12], ![a02, a12, a22]]) (hx : VAt i x u)
    (hc : VAt i (shapeCast S2x2x4096x3 c shapeCasts_S2x2x4096x1x3_S2x2x4096x3) w) :
    At i (hPtof g x c) (rPtof a00 a01 a02 a11 a12 a22 (u 0 - w 0) (u 1 - w 1) (u 2 - w 2)) := by
  have h0 : HAt i (g, hEye) (rStart a00 a01 a02 a11 a12 a22) := ⟨hg, at_eye⟩
  have hn := h0.sweeps.half.sweeps.normal
  exact VAt.sum (fun k => ((hx k).sub (hc k)).mul (hn k))

end Cert.Value

end
-- ==== Proof.RefNear.lean ====
module

public import proofs.«01_k».proof.Proof.RefReal
public import proofs.«01_k».proof.Proof.Nearest
public import proofs.«01_k».proof.Proof.KernelDist

@[expose] public section

noncomputable section

namespace Cert.Value

open Idealize.ShloMosaic Cert.ReferenceIdeal Cert.ReferenceIdeal.Gen

section Defs

variable {F : FTy → Type} [FloatOps F]

/-- The squared lengths of the first cloud's points. -/
def hLen (x0 : FVec F S2x4096x3 .f32) : FVec F S2x4096 .f32 :=
  Host.reduceAdd (mulf x0 x0) (constant S_ .f32 0x00000000#32) reducesTo_S2x4096x3_S2x4096_d2 h_S_

/-- The negated squared distances of the first cloud's points from one another. -/
def hNeg (x0 : FVec F S2x4096x3 .f32) : FVec F S2x4096x4096 .f32 :=
  Host.negf (subf
    (addf
      (broadcastInDim S2x4096x4096 ![0, 1, 2] bcast_S2x4096x1_S2x4096x4096_0_1_2
        (broadcastInDim S2x4096x1 ![0, 1] bcast_S2x4096_S2x4096x1_0_1 (hLen x0)))
      (broadcastInDim S2x4096x4096 ![0, 1, 2] bcast_S2x1x4096_S2x4096x4096_0_1_2
        (broadcastInDim S2x1x4096 ![0, 2] bcast_S2x4096_S2x1x4096_0_2 (hLen x0))))
    (mulf (broadcastInDim S2x4096x4096 ![] bcast_S_S2x4096x4096 (constant S_ .f32 0x40000000#32))
      (Host.dotGeneral dot_S2x4096x3_S2x4096x3_S2x4096x4096_2_2_1_1_0_0 none x0 x0)))

/-- The positions of each point's ten nearest ones. -/
def hTop (x0 : FVec F S2x4096x3 .f32) : IVec S2x4096x10 32 :=
  (Host.topK S2x4096x10 2 (FloatOps.cmpfTotal .gt) (hNeg x0) sliceFits_S2x4096x4096_S2x4096x10).2

/-- Those positions, each negative one counted from the end. -/
def hPos (t : IVec S2x4096x10 32) : IVec S2x4096x10x1 32 :=
  broadcastInDim S2x4096x10x1 ![0, 1, 2] bcast_S2x4096x10_S2x4096x10x1_0_1_2
    (select (cmpi .slt t (broadcastInDim S2x4096x10 ![] bcast_S_S2x4096x10 (constantI S_ 32 0#32)))
      (addi t (broadcastInDim S2x4096x10 ![] bcast_S_S2x4096x10 (constantI S_ 32 4096#32))) t)

/-- The two clouds as one array. -/
def hPts (x0 x1 : FVec F S2x4096x3 .f32) : FVec F S2x2x4096x3 .f32 :=
  concatenate S2x2x4096x3 0
    [⟨S1x2x4096x3, broadcastInDim S1x2x4096x3 ![1, 2, 3] bcast_S2x4096x3_S1x2x4096x3_1_2_3 x0⟩,
      ⟨S1x2x4096x3, broadcastInDim S1x2x4096x3 ![1, 2, 3] bcast_S2x4096x3_S1x2x4096x3_1_2_3 x1⟩]
    concatenates_S1x2x4096x3_S1x2x4096x3_S2x2x4096x3_d0

/-- The ten points at those positions, in each cloud. -/
def hNear (p : FVec F S2x2x4096x3 .f32) (t : IVec S2x4096x10 32) : FVec F S2x2x4096x10x3 .f32 :=
  Host.gather gather_S2x2x4096x3_S2x4096x10x1_S2x2x4096x10x3_04_2_1_0_2_3_2113 p (hPos t)

/-- The centre of ten points. -/
def hMean (q : FVec F S2x2x4096x10x3 .f32) : FVec F S2x2x4096x1x3 .f32 :=
  Host.divf
    (broadcastInDim S2x2x4096x1x3 ![0, 1, 2, 4] bcast_S2x2x4096x3_S2x2x4096x1x3_0_1_2_4
      (Host.reduceAdd q (constant S_ .f32 0x00000000#32) reducesTo_S2x2x4096x10x3_S2x2x4096x3_d3 h_S_))
    (broadcastInDim S2x2x4096x1x3 ![] bcast_S_S2x2x4096x1x3 (constant S_ .f32 0x41200000#32))

/-- The ten points measured from their centre. -/
def hOff (q : FVec F S2x2x4096x10x3 .f32) : FVec F S2x2x4096x10x3 .f32 :=
  subf q (broadcastInDim S2x2x4096x10x3 ![0, 1, 2, 3, 4] bcast_S2x2x4096x1x3_S2x2x4096x10x3_0_1_2_3_4 (hMean q))

/-- Their Gram matrix. -/
def hGram (d : FVec F S2x2x4096x10x3 .f32) : Mat F :=
  Host.dotGeneral dot_S2x2x4096x10x3_S2x2x4096x10x3_S2x2x4096x3x3_3_3_4_4_012_012 none d d

/-- The signed distances of both clouds' points, from the ten nearest points. -/
def hSigned (p : FVec F S2x2x4096x3 .f32) (q : FVec F S2x2x4096x10x3 .f32) : Num F := hPtof (hGram (hOff q)) p (hMean q)

end Defs

/-- The index of a coordinate of a point. -/
abbrev zIdx (b : Fin 2) (n : Fin 4096) (k : Fin 3) : S2x4096x3.Idx := fun a => match a with
  | ⟨0, _⟩ => b
  | ⟨1, _⟩ => n
  | ⟨2, _⟩ => k
/-- The index of a point. -/
abbrev lIdx (b : Fin 2) (n : Fin 4096) : S2x4096.Idx := fun a => match a with
  | ⟨0, _⟩ => b
  | ⟨1, _⟩ => n
/-- The index of a pair of points. -/
abbrev pIdx (b : Fin 2) (n j : Fin 4096) : S2x4096x4096.Idx := fun a => match a with
  | ⟨0, _⟩ => b
  | ⟨1, _⟩ => n
  | ⟨2, _⟩ => j
/-- The index of one of the ten places of a point. -/
abbrev topIdx (b : Fin 2) (n : Fin 4096) (r : Fin 10) : S2x4096x10.Idx := fun a => match a with
  | ⟨0, _⟩ => b
  | ⟨1, _⟩ => n
  | ⟨2, _⟩ => r

/-- The squared length of a point. -/
theorem hLen_apply (x : FVec Ideal S2x4096x3 .f32) (b : Fin 2) (n : Fin 4096) :
    hLen x (lIdx b n) = ∑ k : Fin 3, x (zIdx b n k) * x (zIdx b n k) := by
  have e : Host.reduceAdd (mulf x x) (constant S_ .f32 0x00000000#32) reducesTo_S2x4096x3_S2x4096_d2 h_S_ (lIdx b n) =
      constant (F := Ideal) S_ .f32 0x00000000#32 (Shape.Idx.first h_S_) + ∑ k : Fin 3, mulf x x (zIdx b n k) := by
    generalize mulf x x = y
    simp only [Host.reduceAdd, Ideal.hostReduceAdd_def]
    rw [Ideal.hostReduceAdd_single reducesTo_S2x4096x3_S2x4096_d2 (by decide)]
    refine congrArg (_ + ·) (Finset.sum_congr rfl fun k _ => ?_)
    exact congrArg y (funext fun a => Fin.ext (by match a with | ⟨0, _⟩ => rfl | ⟨1, _⟩ => rfl | ⟨2, _⟩ => rfl))
  refine e.trans ?_
  rw [show constant (F := Ideal) S_ .f32 0x00000000#32 (Shape.Idx.first h_S_) = 0 from Ideal.ofBits_zero_f32, zero_add]
  rfl

/-- The product of two points of a batch. -/
theorem hProd_apply (x : FVec Ideal S2x4096x3 .f32) (b : Fin 2) (n j : Fin 4096) :
    Host.dotGeneral dot_S2x4096x3_S2x4096x3_S2x4096x4096_2_2_1_1_0_0 none x x (pIdx b n j)
      = ∑ k : Fin 3, x (zIdx b n k) * x (zIdx b j k) := by
  simp only [Host.dotGeneral]
  rw [Ideal.dotGeneral_apply, ← Equiv.sum_comp (ValueIdx.contrEquiv1 dot_S2x4096x3_S2x4096x3_S2x4096x4096_2_2_1_1_0_0 3 rfl rfl).symm]
  refine Finset.sum_congr rfl fun k _ => ?_
  have hk := ValueIdx.contrEquiv1_symm_val dot_S2x4096x3_S2x4096x3_S2x4096x4096_2_2_1_1_0_0 3 rfl rfl k
  congr 2
  · funext a
    match a with
    | ⟨0, _⟩ => rfl
    | ⟨1, _⟩ => rfl
    | ⟨2, _⟩ => exact Fin.ext ((DotDims.lhsIdx_val_of_single _ rfl _ _).trans hk)
  · funext a
    match a with
    | ⟨0, _⟩ => rfl
    | ⟨1, _⟩ => rfl
    | ⟨2, _⟩ => exact Fin.ext ((DotDims.rhsIdx_val_of_single _ rfl _ _).trans hk)

/-- One number for each point, spread over the rows' other points. -/
theorem hLeft_apply (y : FVec Ideal S2x4096 .f32) (b : Fin 2) (n j : Fin 4096) :
    broadcastInDim S2x4096x4096 ![0, 1, 2] bcast_S2x4096x1_S2x4096x4096_0_1_2
        (broadcastInDim S2x4096x1 ![0, 1] bcast_S2x4096_S2x4096x1_0_1 y) (pIdx b n j) = y (lIdx b n) := by
  rw [broadcastInDim_apply _ bcast_S2x4096x1_S2x4096x4096_0_1_2 _ (pIdx b n j) (fun a => match a with
    | ⟨0, _⟩ => b
    | ⟨1, _⟩ => n
    | ⟨2, _⟩ => ⟨0, Nat.one_pos⟩ : S2x4096x1.Idx) (fun a => match a with
    | ⟨0, _⟩ => rfl
    | ⟨1, _⟩ => rfl
    | ⟨2, _⟩ => rfl)]
  exact broadcastInDim_apply _ bcast_S2x4096_S2x4096x1_0_1 _ _ (lIdx b n) (fun a => match a with
    | ⟨0, _⟩ => rfl
    | ⟨1, _⟩ => rfl)

/-- One number for each point, spread over the rows. -/
theorem hRight_apply (y : FVec Ideal S2x4096 .f32) (b : Fin 2) (n j : Fin 4096) :
    broadcastInDim S2x4096x4096 ![0, 1, 2] bcast_S2x1x4096_S2x4096x4096_0_1_2
        (broadcastInDim S2x1x4096 ![0, 2] bcast_S2x4096_S2x1x4096_0_2 y) (pIdx b n j) = y (lIdx b j) := by
  rw [broadcastInDim_apply _ bcast_S2x1x4096_S2x4096x4096_0_1_2 _ (pIdx b n j) (fun a => match a with
    | ⟨0, _⟩ => b
    | ⟨1, _⟩ => ⟨0, Nat.one_pos⟩
    | ⟨2, _⟩ => j : S2x1x4096.Idx) (fun a => match a with
    | ⟨0, _⟩ => rfl
    | ⟨1, _⟩ => rfl
    | ⟨2, _⟩ => rfl)]
  exact broadcastInDim_apply _ bcast_S2x4096_S2x1x4096_0_2 _ _ (lIdx b j) (fun a => match a with
    | ⟨0, _⟩ => rfl
    | ⟨1, _⟩ => rfl)

/-- The reference's negated distances are the real ones. -/
theorem hNeg_apply {x : FVec Ideal S2x4096x3 .f32} {u : Fin 2 → Fin 4096 → Fin 3 → ℝ} (h : ∀ b n k, x (zIdx b n k) = ((u b n k : ℝ) : EReal))
    (b : Fin 2) (n j : Fin 4096) : hNeg x (pIdx b n j) = -((rDist (u b n) (u b j) : ℝ) : EReal) := by
  have hl : ∀ n, hLen x (lIdx b n) = ((∑ k, u b n k * u b n k : ℝ) : EReal) := fun n =>
    (hLen_apply x b n).trans ((Finset.sum_congr rfl fun k _ => by rw [h, EReal.coe_mul]).trans (sum_coe Finset.univ fun k => u b n k * u b n k))
  have hp : Host.dotGeneral dot_S2x4096x3_S2x4096x3_S2x4096x4096_2_2_1_1_0_0 none x x (pIdx b n j)
      = ((∑ k, u b n k * u b j k : ℝ) : EReal) :=
    (hProd_apply x b n j).trans ((Finset.sum_congr rfl fun k _ => by rw [h, h, EReal.coe_mul]).trans (sum_coe Finset.univ fun k => u b n k * u b j k))
  show -_ = _
  refine congrArg (- ·) ?_
  exact At.sub (At.add ((hLeft_apply _ b n j).trans (hl n)) ((hRight_apply _ b n j).trans (hl j))) (At.mul bits_two hp)

/-- Moving along the last axis changes the last index. -/
theorem along_eq (b : Fin 2) (n j k : Fin 4096) : (pIdx b n j).along 2 k = pIdx b n k := by
  funext a
  match a with
  | ⟨0, _⟩ => rfl
  | ⟨1, _⟩ => rfl
  | ⟨2, _⟩ => rfl

variable {x : FVec Ideal S2x4096x4096 .f32} {D : Fin 4096 → EReal} {b : Fin 2} {n : Fin 4096}

/-- Sorting a row of negated distances, the greatest first, puts them in the order of `near`. -/
theorem sort_eq (h : ∀ j, x (pIdx b n j) = -(D j)) (j : Fin 4096) :
    (sortedFrom (fun k k' => FloatOps.cmpfTotal (F := Ideal) (φ := .f32) .gt (x ((pIdx b n j).along 2 k)) (x ((pIdx b n j).along 2 k')) == 1#1) j)
      = near D j := by
  have e (k : Fin 4096) : x ((pIdx b n j).along 2 k) = -(D k) := (congrArg x (along_eq b n j k)).trans (h k)
  unfold near
  congr 1
  funext k k'
  rw [e k, e k']
  rfl

/-- Every row and its positions, sorted together. -/
def sorted (x : FVec Ideal S2x4096x4096 .f32) : (S2x4096x4096.Idx → EReal) × IVec S2x4096x4096 32 :=
  Host.sort2 S2x4096x4096 2 (fun l r => FloatOps.cmpfTotal (F := Ideal) (φ := .f32) .gt l.1 r.1) x
    (fun i => if hd : 2 < S2x4096x4096.rank then iotaInDim S2x4096x4096 32 ⟨2, hd⟩ i else 0#32)

/-- The positions of a row, sorted with its negated distances. -/
theorem order_apply (h : ∀ j, x (pIdx b n j) = -(D j)) (j : Fin 4096) : (sorted x).2 (pIdx b n j) = BitVec.ofNat 32 (near D j).val := by
  rw [← sort_eq h j]
  generalize hs : sortedFrom (fun k k' => FloatOps.cmpfTotal (F := Ideal) (φ := .f32) .gt (x ((pIdx b n j).along 2 k)) (x ((pIdx b n j).along 2 k')) == 1#1) j = s
  exact congrArg (fun k : Fin 4096 => BitVec.ofNat 32 ((pIdx b n j).along 2 k 2).val) hs

/-- A row of negated distances, sorted. -/
theorem sorted_apply (h : ∀ j, x (pIdx b n j) = -(D j)) (j : Fin 4096) : (sorted x).1 (pIdx b n j) = -(D (near D j)) := by
  rw [← h, ← sort_eq h j]
  exact congrArg x (along_eq b n j _)

/-- The position in the place `r` is the `r`-th nearest. -/
theorem top_apply (h : ∀ j, x (pIdx b n j) = -(D j)) (r : Fin 10) :
    (Host.topK S2x4096x10 2 (FloatOps.cmpfTotal .gt) x sliceFits_S2x4096x4096_S2x4096x10).2 (topIdx b n r)
      = BitVec.ofNat 32 (near D ⟨r.val, by omega⟩).val := by
  show extractStridedSlice S2x4096x10 (fun _ => 0) (sorted x).2 sliceFits_S2x4096x4096_S2x4096x10 (topIdx b n r) = _
  refine (extractStridedSlice_apply _ _ sliceFits_S2x4096x4096_S2x4096x10 (topIdx b n r) (pIdx b n ⟨r.val, by omega⟩) (fun a => match a with
    | ⟨0, _⟩ => (Nat.zero_add _).symm
    | ⟨1, _⟩ => (Nat.zero_add _).symm
    | ⟨2, _⟩ => (Nat.zero_add _).symm)).trans ?_
  exact order_apply h _

end Cert.Value

end
-- ==== Proof.RefGather.lean ====
module

public import proofs.«01_k».proof.Proof.RefNear
public import proofs.«01_k».proof.Proof.KernelPtof

@[expose] public section

noncomputable section

namespace Cert.Value

open Idealize.ShloMosaic Cert.ReferenceIdeal Cert.ReferenceIdeal.Gen

/-- The index of a coordinate of a point of the cloud `c`. -/
abbrev sIdx (c b : Fin 2) (n : Fin 4096) (k : Fin 3) : S2x2x4096x3.Idx := fun a => match a with
  | ⟨0, _⟩ => c
  | ⟨1, _⟩ => b
  | ⟨2, _⟩ => n
  | ⟨3, _⟩ => k
/-- The index of a coordinate of one of a point's ten nearest ones. -/
abbrev qIdx (c b : Fin 2) (n : Fin 4096) (r : Fin 10) (k : Fin 3) : S2x2x4096x10x3.Idx := fun a => match a with
  | ⟨0, _⟩ => c
  | ⟨1, _⟩ => b
  | ⟨2, _⟩ => n
  | ⟨3, _⟩ => r
  | ⟨4, _⟩ => k
/-- The index of a point of the cloud `c`. -/
abbrev iIdx (c b : Fin 2) (n : Fin 4096) : S2x2x4096.Idx := fun a => match a with
  | ⟨0, _⟩ => c
  | ⟨1, _⟩ => b
  | ⟨2, _⟩ => n

/-- The word of a position, read as a signed number, is the position. -/
theorem word_int (v : Fin 4096) : (BitVec.ofNat 32 v.val).toInt = v.val := by
  have := v.isLt
  rw [BitVec.toInt_eq_toNat_of_lt (by rw [BitVec.toNat_ofNat]; omega), BitVec.toNat_ofNat]
  omega

/-- The word of a position is not negative. -/
theorem word_slt (v : Fin 4096) : IntOp.cmpi .slt (BitVec.ofNat 32 v.val) 0#32 = 0#1 := by
  have h : (BitVec.ofNat 32 v.val).slt 0#32 = false := by
    rw [BitVec.slt_eq_decide, word_int, decide_eq_false_iff_not]
    exact not_lt.2 (Int.natCast_nonneg _)
  show BitVec.ofBool ((BitVec.ofNat 32 v.val).slt 0#32) = _
  rw [h]; rfl

/-- The word of a position is within the cloud. -/
theorem word_nat (v : Fin 4096) : min (BitVec.ofNat 32 v.val).toInt.toNat 4095 = v.val := by
  have := v.isLt
  rw [word_int]
  omega

/-- A position that is not negative stays. -/
theorem hPos_apply {t : IVec S2x4096x10 32} {b : Fin 2} {n : Fin 4096} {r : Fin 10} {v : Fin 4096} (h : t (topIdx b n r) = BitVec.ofNat 32 v.val)
    (j : S2x4096x10x1.Idx) (h0 : (j 0).val = b.val) (h1 : (j 1).val = n.val) (h2 : (j 2).val = r.val) : hPos t j = BitVec.ofNat 32 v.val := by
  refine (broadcastInDim_apply _ bcast_S2x4096x10_S2x4096x10x1_0_1_2 _ j (topIdx b n r) (fun a => match a with
    | ⟨0, _⟩ => h0.symm
    | ⟨1, _⟩ => h1.symm
    | ⟨2, _⟩ => h2.symm)).trans ?_
  show (if IntOp.cmpi .slt (t (topIdx b n r)) 0#32 = 1#1 then _ else t (topIdx b n r)) = _
  rw [h, word_slt, if_neg (by decide)]

section Gather

variable {t : IVec S2x4096x10x1 32} (c b : Fin 2) (n : Fin 4096) (r : Fin 10) (k : Fin 3) {v : Fin 4096}

/-- The gather's axes. -/
abbrev gDims := gather_S2x2x4096x3_S2x4096x10x1_S2x2x4096x10x3_04_2_1_0_2_3_2113

/-- The gathered points are those of the operand at the positions. -/
theorem gather_eq (p : FVec Ideal S2x2x4096x3 .f32) (h : ∀ j : S2x4096x10x1.Idx, (j 0).val = b.val → (j 1).val = n.val → (j 2).val = r.val → t j = BitVec.ofNat 32 v.val) :
    Host.gather gDims p t (qIdx c b n r k) = p (sIdx c b v k) := by
  refine congrArg p (funext fun a => Fin.ext ?_)
  match a with
  | ⟨0, _⟩ => exact Nat.zero_add _
  | ⟨1, _⟩ => exact Nat.zero_add _
  | ⟨2, _⟩ =>
    refine Eq.trans ?_ (word_nat v)
    rw [← h (gDims.siIdx (qIdx c b n r k) ⟨0, by decide⟩) rfl rfl rfl]
    rfl
  | ⟨3, _⟩ => exact Nat.zero_add _

end Gather

variable {x0 x1 : FVec Ideal S2x4096x3 .f32} {x w : Fin 2 → Fin 4096 → Fin 3 → ℝ}

/-- One of the two clouds. -/
def pick (x w : Fin 2 → Fin 4096 → Fin 3 → ℝ) (c : Fin 2) : Fin 2 → Fin 4096 → Fin 3 → ℝ := if c = 0 then x else w

/-- A cloud with a leading axis, at one place. -/
theorem lift_apply (y : FVec Ideal S2x4096x3 .f32) (b : Fin 2) (n : Fin 4096) (k : Fin 3) (j : S1x2x4096x3.Idx)
    (h1 : (j 1).val = b.val) (h2 : (j 2).val = n.val) (h3 : (j 3).val = k.val) :
    broadcastInDim S1x2x4096x3 ![1, 2, 3] bcast_S2x4096x3_S1x2x4096x3_1_2_3 y j = y (zIdx b n k) :=
  broadcastInDim_apply _ bcast_S2x4096x3_S1x2x4096x3_1_2_3 _ j (zIdx b n k) (fun a => match a with
    | ⟨0, _⟩ => h1.symm
    | ⟨1, _⟩ => h2.symm
    | ⟨2, _⟩ => h3.symm)

/-- The two clouds as one array. -/
theorem hPts_apply (h0 : ∀ b n k, x0 (zIdx b n k) = ((x b n k : ℝ) : EReal)) (h1 : ∀ b n k, x1 (zIdx b n k) = ((w b n k : ℝ) : EReal))
    (c b : Fin 2) (n : Fin 4096) (k : Fin 3) : hPts x0 x1 (sIdx c b n k) = ((pick x w c b n k : ℝ) : EReal) := by
  match c with
  | ⟨0, _⟩ =>
    refine (concatenate_pair_apply_left (t := S2x2x4096x3) (s₁ := S1x2x4096x3) (s₂ := S1x2x4096x3) 0 _ _
      concatenates_S1x2x4096x3_S1x2x4096x3_S2x2x4096x3_d0 _ rfl (fun a => match a with
        | ⟨0, _⟩ => ⟨0, Nat.one_pos⟩
        | ⟨1, _⟩ => b
        | ⟨2, _⟩ => n
        | ⟨3, _⟩ => k) (fun a => match a with
        | ⟨0, _⟩ => rfl
        | ⟨1, _⟩ => rfl
        | ⟨2, _⟩ => rfl
        | ⟨3, _⟩ => rfl)).trans ((lift_apply x0 b n k _ rfl rfl rfl).trans (h0 b n k))
  | ⟨1, _⟩ =>
    refine (concatenate_pair_apply_right (t := S2x2x4096x3) (s₁ := S1x2x4096x3) (s₂ := S1x2x4096x3) 0 _ _
      concatenates_S1x2x4096x3_S1x2x4096x3_S2x2x4096x3_d0 _ rfl rfl (fun a => match a with
        | ⟨0, _⟩ => ⟨0, Nat.one_pos⟩
        | ⟨1, _⟩ => b
        | ⟨2, _⟩ => n
        | ⟨3, _⟩ => k) (fun a ha => match a with
        | ⟨0, _⟩ => absurd rfl ha
        | ⟨1, _⟩ => rfl
        | ⟨2, _⟩ => rfl
        | ⟨3, _⟩ => rfl) rfl).trans ((lift_apply x1 b n k _ rfl rfl rfl).trans (h1 b n k))

/-- The ten points nearest to a point of the first cloud, in either cloud. -/
theorem hNear_apply (h0 : ∀ b n k, x0 (zIdx b n k) = ((x b n k : ℝ) : EReal)) (h1 : ∀ b n k, x1 (zIdx b n k) = ((w b n k : ℝ) : EReal))
    (c b : Fin 2) (n : Fin 4096) (r : Fin 10) (k : Fin 3) :
    hNear (hPts x0 x1) (hTop x0) (qIdx c b n r k) = ((pick x w c b (nearest (x b n) (x b) r) k : ℝ) : EReal) := by
  have ht : hTop x0 (topIdx b n r) = BitVec.ofNat 32 (nearest (x b n) (x b) r).val := top_apply (hNeg_apply h0 b n) r
  exact (gather_eq c b n r k _ (fun j => hPos_apply ht j)).trans (hPts_apply h0 h1 c b _ k)

end Cert.Value

end
-- ==== Proof.RefPtof.lean ====
module

public import proofs.«01_k».proof.Proof.RefGather
public import proofs.«01_k».proof.Proof.KernelValue

@[expose] public section

noncomputable section

namespace Cert.Value

open Idealize.ShloMosaic Cert.ReferenceIdeal Cert.ReferenceIdeal.Gen

variable {y : FVec Ideal S2x2x4096x10x3 .f32} {q : Fin 10 → Fin 3 → ℝ} (c b : Fin 2) (n : Fin 4096)

/-- The sum over the neighbours, at one place. -/
theorem hSum_apply (y : FVec Ideal S2x2x4096x10x3 .f32) (k : Fin 3) :
    Host.reduceAdd y (constant S_ .f32 0x00000000#32) reducesTo_S2x2x4096x10x3_S2x2x4096x3_d3 h_S_ (sIdx c b n k) =
      ∑ r : Fin 10, y (qIdx c b n r k) := by
  have e : Host.reduceAdd y (constant S_ .f32 0x00000000#32) reducesTo_S2x2x4096x10x3_S2x2x4096x3_d3 h_S_ (sIdx c b n k) =
      constant (F := Ideal) S_ .f32 0x00000000#32 (Shape.Idx.first h_S_) + ∑ r : Fin 10, y (qIdx c b n r k) := by
    simp only [Host.reduceAdd, Ideal.hostReduceAdd_def]
    rw [Ideal.hostReduceAdd_single reducesTo_S2x2x4096x10x3_S2x2x4096x3_d3 (by decide)]
    refine congrArg (_ + ·) (Finset.sum_congr rfl fun r _ => ?_)
    exact congrArg y (funext fun a => Fin.ext (by match a with | ⟨0, _⟩ => rfl | ⟨1, _⟩ => rfl | ⟨2, _⟩ => rfl | ⟨3, _⟩ => rfl | ⟨4, _⟩ => rfl))
  refine e.trans ?_
  rw [show constant (F := Ideal) S_ .f32 0x00000000#32 (Shape.Idx.first h_S_) = 0 from Ideal.ofBits_zero_f32, zero_add]

/-- The index of a coordinate of a centre. -/
abbrev wIdx (k : Fin 3) : S2x2x4096x1x3.Idx := fun a => match a with
  | ⟨0, _⟩ => c
  | ⟨1, _⟩ => b
  | ⟨2, _⟩ => n
  | ⟨3, _⟩ => ⟨0, Nat.one_pos⟩
  | ⟨4, _⟩ => k

variable {c b n}

/-- The centre is the mean. -/
theorem hMean_apply (h : ∀ r k, y (qIdx c b n r k) = ((q r k : ℝ) : EReal)) (k : Fin 3) : hMean y (wIdx c b n k) = ((rMean q k : ℝ) : EReal) := by
  refine At.hdiv (i := wIdx c b n k) ?_ bits_ten (by norm_num)
  refine (broadcastInDim_apply _ bcast_S2x2x4096x3_S2x2x4096x1x3_0_1_2_4 _ _ (sIdx c b n k) (fun a => match a with
    | ⟨0, _⟩ => rfl
    | ⟨1, _⟩ => rfl
    | ⟨2, _⟩ => rfl
    | ⟨3, _⟩ => rfl)).trans ((hSum_apply c b n y k).trans ?_)
  exact (Finset.sum_congr rfl fun r _ => h r k).trans (sum_coe Finset.univ fun r => q r k)

/-- The centred neighbours are the real ones. -/
theorem hOff_apply (h : ∀ r k, y (qIdx c b n r k) = ((q r k : ℝ) : EReal)) (r : Fin 10) (k : Fin 3) :
    hOff y (qIdx c b n r k) = ((q r k - rMean q k : ℝ) : EReal) := by
  refine At.sub (h r k) ?_
  exact (broadcastInDim_apply _ bcast_S2x2x4096x1x3_S2x2x4096x10x3_0_1_2_3_4 _ _ (wIdx c b n k) (fun a => match a with
    | ⟨0, _⟩ => rfl
    | ⟨1, _⟩ => rfl
    | ⟨2, _⟩ => rfl
    | ⟨3, _⟩ => rfl
    | ⟨4, _⟩ => rfl)).trans (hMean_apply h k)

/-- The product of the patches with themselves, at one place. -/
theorem hDot_apply (y : FVec Ideal S2x2x4096x10x3 .f32) (c b : Fin 2) (n : Fin 4096) (p s : Fin 3) :
    hGram y (mIdx (iIdx c b n) p s) = ∑ r : Fin 10, y (qIdx c b n r p) * y (qIdx c b n r s) := by
  unfold hGram
  simp only [Host.dotGeneral]
  rw [Ideal.dotGeneral_apply, ← Equiv.sum_comp (ValueIdx.contrEquiv1 dot_S2x2x4096x10x3_S2x2x4096x10x3_S2x2x4096x3x3_3_3_4_4_012_012 10 rfl rfl).symm]
  refine Finset.sum_congr rfl fun k _ => ?_
  have hk := ValueIdx.contrEquiv1_symm_val dot_S2x2x4096x10x3_S2x2x4096x10x3_S2x2x4096x3x3_3_3_4_4_012_012 10 rfl rfl k
  congr 2
  · funext a
    match a with
    | ⟨0, _⟩ => rfl
    | ⟨1, _⟩ => rfl
    | ⟨2, _⟩ => rfl
    | ⟨3, _⟩ => exact Fin.ext ((DotDims.lhsIdx_val_of_single _ rfl _ _).trans hk)
    | ⟨4, _⟩ => rfl
  · funext a
    match a with
    | ⟨0, _⟩ => rfl
    | ⟨1, _⟩ => rfl
    | ⟨2, _⟩ => rfl
    | ⟨3, _⟩ => exact Fin.ext ((DotDims.rhsIdx_val_of_single _ rfl _ _).trans hk)
    | ⟨4, _⟩ => rfl

/-- The Gram matrix of ten points. -/
theorem hGram_apply (h : ∀ r k, y (qIdx c b n r k) = ((q r k : ℝ) : EReal)) (p s : Fin 3) :
    hGram (hOff y) (mIdx (iIdx c b n) p s) = ((rGram q p s : ℝ) : EReal) := by
  refine (hDot_apply _ c b n p s).trans (Eq.trans ?_ (sum_coe Finset.univ fun r => (q r p - rMean q p) * (q r s - rMean q s)))
  exact Finset.sum_congr rfl fun r _ => by rw [hOff_apply h, hOff_apply h, EReal.coe_mul]

/-- The Gram matrix is symmetric. -/
theorem rGram_symm (q : Fin 10 → Fin 3 → ℝ) (p s : Fin 3) : rGram q p s = rGram q s p :=
  Finset.sum_congr rfl fun _ _ => mul_comm _ _

/-- The reference's signed distance is the real one. -/
theorem hSigned_apply {x : FVec Ideal S2x2x4096x3 .f32} {u : Fin 3 → ℝ} (h : ∀ r k, y (qIdx c b n r k) = ((q r k : ℝ) : EReal))
    (hx : ∀ k, x (sIdx c b n k) = ((u k : ℝ) : EReal)) : At (iIdx c b n) (hSigned x y) (rPlane q u) := by
  refine at_hptof (MAt.of_eq (m := rGram q) (fun p s => hGram_apply h p s) ?_) (u := u) (w := rMean q) (fun k => ?_) (fun k => ?_)
  · intro p s
    fin_cases p <;> fin_cases s <;> first | rfl | exact rGram_symm q _ _
  · refine (congrArg x (funext fun a => ?_)).trans (hx k)
    match a with
    | ⟨0, _⟩ => rfl
    | ⟨1, _⟩ => rfl
    | ⟨2, _⟩ => rfl
    | ⟨3, _⟩ => rfl
  · refine (shapeCast_apply _ shapeCasts_S2x2x4096x1x3_S2x2x4096x3 _ (wIdx c b n k) ?_).trans (hMean_apply h k)
    rw [Shape.rowMajor_val_five, Shape.rowMajor_val_four]
    show (((c.val * 2 + b.val) * 4096 + n.val) * 1 + 0) * 3 + k.val = ((c.val * 2 + b.val) * 4096 + n.val) * 3 + k.val
    omega

end Cert.Value

end
-- ==== Proof.RefLoss.lean ====
module

public import proofs.«01_k».proof.Proof.RefPtof

@[expose] public section

noncomputable section

namespace Cert.Value

open Idealize.ShloMosaic Cert.ReferenceIdeal Cert.ReferenceIdeal.Gen

section Defs

variable {F : FTy → Type} [FloatOps F]

/-- The first cloud's signed distances, and the second's. -/
def hFst (p : Num F) : FVec F S2x4096 .f32 :=
  shapeCast S2x4096 (extractStridedSlice S1x2x4096 ![0, 0, 0] p slices_S2x2x4096_S1x2x4096_0_0_0) shapeCasts_S1x2x4096_S2x4096
/-- The second cloud's numbers. -/
def hSnd (p : Num F) : FVec F S2x4096 .f32 :=
  shapeCast S2x4096 (extractStridedSlice S1x2x4096 ![1, 0, 0] p slices_S2x2x4096_S1x2x4096_1_0_0) shapeCasts_S1x2x4096_S2x4096

/-- The mean over all points. -/
def hAvg (z : FVec F S2x4096 .f32) : FVec F S_ .f32 :=
  Host.divf (Host.reduceAdd z (constant S_ .f32 0x00000000#32) reducesTo_S2x4096_S_d0_1 h_S_) (constant S_ .f32 0x46000000#32)

/-- The differences of the distances' sizes. -/
def hDiff (p : Num F) : FVec F S2x4096 .f32 := subf (Host.absf (hFst p)) (Host.absf (hSnd p))

/-- The excesses of the second distances over the first. -/
def hExcess (p : Num F) : FVec F S2x4096 .f32 :=
  maximumf (subf (hSnd p) (hFst p)) (broadcastInDim S2x4096 ![] bcast_S_S2x4096 (constant S_ .f32 0x00000000#32))

/-- The mean squared difference and five times the mean squared excess. -/
def hCost (p : Num F) : FVec F S_ .f32 :=
  addf (hAvg (mulf (hDiff p) (hDiff p))) (mulf (constant S_ .f32 0x40A00000#32) (hAvg (mulf (hExcess p) (hExcess p))))

/-- The reference's result, from the two clouds. -/
def hLoss (x0 x1 : FVec F S2x4096x3 .f32) : FVec F S_ .f32 := hCost (hSigned (hPts x0 x1) (hNear (hPts x0 x1) (hTop x0)))

end Defs

/-- The first cloud's number of a pair, at one place. -/
theorem hFst_apply (p : Num Ideal) (b : Fin 2) (n : Fin 4096) : hFst p (lIdx b n) = p (iIdx 0 b n) := by
  refine (shapeCast_apply _ shapeCasts_S1x2x4096_S2x4096 _ (fun a => match a with
    | ⟨0, _⟩ => ⟨0, Nat.one_pos⟩
    | ⟨1, _⟩ => b
    | ⟨2, _⟩ => n : S1x2x4096.Idx) (by
      rw [Shape.rowMajor_val_two, Shape.rowMajor_val_three]
      show (0 * 2 + b.val) * 4096 + n.val = b.val * 4096 + n.val
      omega)).trans ?_
  exact extractStridedSlice_apply _ p slices_S2x2x4096_S1x2x4096_0_0_0 _ (iIdx 0 b n) (fun a => match a with
    | ⟨0, _⟩ => rfl
    | ⟨1, _⟩ => (Nat.zero_add _).symm
    | ⟨2, _⟩ => (Nat.zero_add _).symm)

/-- The second cloud's number of a pair, at one place. -/
theorem hSnd_apply (p : Num Ideal) (b : Fin 2) (n : Fin 4096) : hSnd p (lIdx b n) = p (iIdx 1 b n) := by
  refine (shapeCast_apply _ shapeCasts_S1x2x4096_S2x4096 _ (fun a => match a with
    | ⟨0, _⟩ => ⟨0, Nat.one_pos⟩
    | ⟨1, _⟩ => b
    | ⟨2, _⟩ => n : S1x2x4096.Idx) (by
      rw [Shape.rowMajor_val_two, Shape.rowMajor_val_three]
      show (0 * 2 + b.val) * 4096 + n.val = b.val * 4096 + n.val
      omega)).trans ?_
  exact extractStridedSlice_apply _ p slices_S2x2x4096_S1x2x4096_1_0_0 _ (iIdx 1 b n) (fun a => match a with
    | ⟨0, _⟩ => rfl
    | ⟨1, _⟩ => (Nat.zero_add _).symm
    | ⟨2, _⟩ => (Nat.zero_add _).symm)

/-- The mean of real numbers. -/
theorem hAvg_apply {z : FVec Ideal S2x4096 .f32} {f : Fin 2 → Fin 4096 → ℝ} (h : ∀ b n, At (lIdx b n) z (f b n)) (i : S_.Idx) :
    At i (hAvg z) ((∑ b, ∑ n, f b n) / 8192) := by
  have e : Host.reduceAdd z (constant S_ .f32 0x00000000#32) reducesTo_S2x4096_S_d0_1 h_S_ i =
      constant (F := Ideal) S_ .f32 0x00000000#32 (Shape.Idx.first h_S_) + ∑ j : S2x4096.Idx, z j := by
    simp only [Host.reduceAdd, Ideal.hostReduceAdd_def]
    exact Ideal.hostReduceAdd_total reducesTo_S2x4096_S_d0_1 (fun b => b.elim0) z _ i
  refine At.hdiv (e.trans ?_) bits_count (by norm_num)
  rw [show constant (F := Ideal) S_ .f32 0x00000000#32 (Shape.Idx.first h_S_) = 0 from Ideal.ofBits_zero_f32, zero_add,
    ValueIdx.sum_idx2]
  rw [← sum_coe]
  refine Finset.sum_congr rfl fun b _ => ?_
  rw [← sum_coe]
  refine Finset.sum_congr rfl fun n _ => (congrArg z (funext fun a => ?_)).trans (h b n)
  match a with
  | ⟨0, _⟩ => rfl
  | ⟨1, _⟩ => rfl

/-- The cost of the two clouds' distances is the mean of the points' losses. -/
theorem hCost_apply {p : Num Ideal} {f g : Fin 2 → Fin 4096 → ℝ} (hf : ∀ b n, At (iIdx 0 b n) p (f b n)) (hg : ∀ b n, At (iIdx 1 b n) p (g b n))
    (i : S_.Idx) : At i (hCost p) ((∑ b, ∑ n, rLoss (f b n) (g b n)) * (1 / 8192)) := by
  have h0 : ∀ b n, At (lIdx b n) (hFst p) (f b n) := fun b n => (hFst_apply p b n).trans (hf b n)
  have h1 : ∀ b n, At (lIdx b n) (hSnd p) (g b n) := fun b n => (hSnd_apply p b n).trans (hg b n)
  have hd : ∀ b n, At (lIdx b n) (hDiff p) (|f b n| - |g b n|) := fun b n => (h0 b n).habs.sub (h1 b n).habs
  have he : ∀ b n, At (lIdx b n) (hExcess p) (max (g b n - f b n) 0) := fun b n =>
    ((h1 b n).sub (h0 b n)).max (Ideal.ofBits_zero_f32 : _)
  refine ((hAvg_apply (fun b n => (hd b n).mul (hd b n)) i).add (At.mul (x := constant S_ .f32 0x40A00000#32) bits_five
    (hAvg_apply (fun b n => (he b n).mul (he b n)) i))).of_eq ?_
  simp only [rLoss, Finset.sum_add_distrib, mul_assoc, ← Finset.mul_sum]
  ring

variable {x0 x1 : FVec Ideal S2x4096x3 .f32} {x w : Cloud}

/-- The reference's result is the mean of the losses. -/
theorem hLoss_apply (h0 : ∀ b n k, x0 (zIdx b n k) = ((x b n k : ℝ) : EReal)) (h1 : ∀ b n k, x1 (zIdx b n k) = ((w b n k : ℝ) : EReal)) :
    hLoss x0 x1 = fun _ => ((rMeanLoss x w : ℝ) : EReal) :=
  funext fun i => hCost_apply (f := rSigned x x) (g := rSigned x w)
    (fun b n => hSigned_apply (fun r k => hNear_apply h0 h1 0 b n r k) (fun k => hPts_apply h0 h1 0 b n k))
    (fun b n => hSigned_apply (fun r k => hNear_apply h0 h1 1 b n r k) (fun k => hPts_apply h0 h1 1 b n k)) i

end Cert.Value

end
-- ==== Proof.RefPre.lean ====
module

public import proofs.«01_k».proof.Proof.RefLoss
public import proofs.«01_k».proof.Proof.Gen.Pre_finite_and_untied
public import Idealize.ShloMosaic.Lib.ReduceAll

@[expose] public section

noncomputable section

namespace Cert.Value

open Idealize.ShloMosaic Cert.Pre_finite_and_untied Cert.Pre_finite_and_untied.Gen

variable (x0 x1 : FVec Ideal S2x4096x3 .f32)

/-- Where every size is less than infinity. -/
def finiteAt (y : FVec Ideal S2x4096x3 .f32) : IVec S2x4096x3 1 :=
  cmpf .olt (Host.absf y) (broadcastInDim S2x4096x3 ![] bcast_S_S2x4096x3 (constant S_ .f32 0x7F800000#32))

/-- The eleven greatest negated distances of every point. -/
def greatest : FVec Ideal S2x4096x11 .f32 :=
  (Host.topK S2x4096x11 2 (FloatOps.cmpfTotal .gt) (hNeg x0) sliceFits_S2x4096x4096_S2x4096x11).1

/-- Where each of them but the last is greater than the next. -/
def untiedAt : IVec S2x4096x10 1 :=
  cmpf .ogt (extractStridedSlice S2x4096x10 ![0, 0, 0] (greatest x0) slices_S2x4096x11_S2x4096x10_0_0_0)
    (extractStridedSlice S2x4096x10 ![0, 0, 1] (greatest x0) slices_S2x4096x11_S2x4096x10_0_0_1)

/-- All the coordinates' bits. -/
def allOf (y : IVec S2x4096x3 1) : IVec S_ 1 :=
  Host.reduce IntOp.andi y (constantI S_ 1 1#1) reducesTo_S2x4096x3_S_d0_1_2 h_S_

/-- All the bits of the ten comparisons of each point. -/
def allTen (y : IVec S2x4096x10 1) : IVec S_ 1 :=
  Host.reduce IntOp.andi y (constantI S_ 1 1#1) reducesTo_S2x4096x10_S_d0_1_2 h_S_

/-- The precondition is that both clouds are finite and that no two distances are tied. -/
theorem fn_eq : Cert.Pre_finite_and_untied.fn x0 x1
    = andi (andi (allOf (finiteAt x0)) (allOf (finiteAt x1))) (allTen (untiedAt x0)) := rfl

instance : Subsingleton S_.Idx := ⟨fun a b => funext fun i => i.elim0⟩

variable {x0 x1}

/-- The precondition says that all coordinates are finite and all first eleven distances different. -/
theorem fn_split (h : Cert.Pre_finite_and_untied.fn x0 x1 = fun _ => 1#1) :
    (∀ i, finiteAt x0 i = 1#1) ∧ (∀ i, finiteAt x1 i = 1#1) ∧ ∀ i, untiedAt x0 i = 1#1 := by
  rw [fn_eq] at h
  obtain ⟨ha, h3⟩ := IntOp.andi_eq_one.1 (congrFun h (Shape.Idx.first h_S_))
  obtain ⟨h1, h2⟩ := IntOp.andi_eq_one.1 ha
  exact ⟨Host.reduce_andi_all _ _ _ _ _ h1, Host.reduce_andi_all _ _ _ _ _ h2, Host.reduce_andi_all _ _ _ _ _ h3⟩

/-- A proposition whose bit is one holds. -/
theorem ofBool_one {p : Prop} [Decidable p] (h : BitVec.ofBool (decide p) = 1#1) : p := by
  by_contra hp
  rw [decide_eq_false hp] at h
  exact absurd h (by decide)

/-- A finite entry is a real number. -/
theorem finite_real {y : FVec Ideal S2x4096x3 .f32} {i : S2x4096x3.Idx} (h : finiteAt y i = 1#1) : y i = (((y i : EReal).toReal : ℝ) : EReal) := by
  have hl : max (y i : EReal) (-(y i : EReal)) < (Ideal.ofBits .f32 0x7F800000#32 : EReal) := by
    have e : finiteAt y i = Ideal.cmp .olt (max (y i : EReal) (-(y i : EReal))) (Ideal.ofBits .f32 0x7F800000#32) := rfl
    rw [e, Ideal.cmp_olt] at h
    exact ofBool_one h
  rw [bits_inf, max_lt_iff] at hl
  refine (EReal.coe_toReal hl.1.ne ?_).symm
  intro hb
  rw [hb] at hl
  exact absurd hl.2 (by simp)

/-- The greatest negated distances are the sorted ones. -/
theorem greatest_apply {x : Cloud} (h : ∀ b n k, x0 (zIdx b n k) = ((x b n k : ℝ) : EReal)) (b : Fin 2) (n : Fin 4096) (s : Fin 11)
    (j : S2x4096x11.Idx) (h0 : (j 0).val = b.val) (h1 : (j 1).val = n.val) (h2 : (j 2).val = s.val) :
    greatest x0 j = -((rDist (x b n) (x b (near (fun j => ((rDist (x b n) (x b j) : ℝ) : EReal)) ⟨s.val, by omega⟩)) : ℝ) : EReal) := by
  show extractStridedSlice S2x4096x11 (fun _ => 0) (sorted (hNeg x0)).1 sliceFits_S2x4096x4096_S2x4096x11 j = _
  refine (extractStridedSlice_apply _ _ sliceFits_S2x4096x4096_S2x4096x11 j (pIdx b n ⟨s.val, by omega⟩) (fun a => match a with
    | ⟨0, _⟩ => h0.symm.trans (Nat.zero_add _).symm
    | ⟨1, _⟩ => h1.symm.trans (Nat.zero_add _).symm
    | ⟨2, _⟩ => h2.symm.trans (Nat.zero_add _).symm)).trans ?_
  exact sorted_apply (D := fun j => ((rDist (x b n) (x b j) : ℝ) : EReal)) (hNeg_apply h b n) _

/-- No two of the first eleven distances from a point agree. -/
theorem untied_of {x : Cloud} (h : ∀ b n k, x0 (zIdx b n k) = ((x b n k : ℝ) : EReal)) (hu : ∀ i, untiedAt x0 i = 1#1) : AllUntied x := by
  intro b n r
  let i : S2x4096x10.Idx := fun a => match a with
    | ⟨0, _⟩ => b
    | ⟨1, _⟩ => n
    | ⟨2, _⟩ => r
  have e1 : extractStridedSlice S2x4096x10 ![0, 0, 0] (greatest x0) slices_S2x4096x11_S2x4096x10_0_0_0 i = _ :=
    (extractStridedSlice_apply _ _ slices_S2x4096x11_S2x4096x10_0_0_0 i (fun a => match a with
      | ⟨0, _⟩ => b
      | ⟨1, _⟩ => n
      | ⟨2, _⟩ => (⟨r.val, by omega⟩ : Fin 11) : S2x4096x11.Idx) (fun a => match a with
      | ⟨0, _⟩ => (Nat.zero_add _).symm
      | ⟨1, _⟩ => (Nat.zero_add _).symm
      | ⟨2, _⟩ => (Nat.zero_add _).symm)).trans (greatest_apply h b n ⟨r.val, by omega⟩ _ rfl rfl rfl)
  have e2 : extractStridedSlice S2x4096x10 ![0, 0, 1] (greatest x0) slices_S2x4096x11_S2x4096x10_0_0_1 i = _ :=
    (extractStridedSlice_apply _ _ slices_S2x4096x11_S2x4096x10_0_0_1 i (fun a => match a with
      | ⟨0, _⟩ => b
      | ⟨1, _⟩ => n
      | ⟨2, _⟩ => (⟨r.val + 1, by omega⟩ : Fin 11) : S2x4096x11.Idx) (fun a => match a with
      | ⟨0, _⟩ => (Nat.zero_add _).symm
      | ⟨1, _⟩ => (Nat.zero_add _).symm
      | ⟨2, _⟩ => Nat.add_comm _ _)).trans (greatest_apply h b n ⟨r.val + 1, by omega⟩ _ rfl rfl rfl)
  have := hu i
  rw [show untiedAt x0 i = Ideal.cmp .ogt (extractStridedSlice S2x4096x10 ![0, 0, 0] (greatest x0) slices_S2x4096x11_S2x4096x10_0_0_0 i)
    (extractStridedSlice S2x4096x10 ![0, 0, 1] (greatest x0) slices_S2x4096x11_S2x4096x10_0_0_1 i) from rfl, e1, e2, Ideal.cmp_ogt] at this
  exact EReal.neg_lt_neg_iff.1 (ofBool_one this)

/-- The real numbers of a finite array. -/
def reals (y : FVec Ideal S2x4096x3 .f32) : Cloud := fun b n k => (y (zIdx b n k) : EReal).toReal

/-- Under the precondition the arrays are clouds of real points without ties. -/
theorem of_pre (h : Cert.Pre_finite_and_untied.fn x0 x1 = fun _ => 1#1) :
    (∀ b n k, x0 (zIdx b n k) = ((reals x0 b n k : ℝ) : EReal)) ∧ (∀ b n k, x1 (zIdx b n k) = ((reals x1 b n k : ℝ) : EReal))
      ∧ AllUntied (reals x0) := by
  obtain ⟨h0, h1, h2⟩ := fn_split h
  have r0 : ∀ b n k, x0 (zIdx b n k) = ((reals x0 b n k : ℝ) : EReal) := fun b n k => finite_real (h0 _)
  exact ⟨r0, fun b n k => finite_real (h1 _), untied_of r0 h2⟩

end Cert.Value

end
-- ==== Proof.RefLine.lean ====
module

public import proofs.«01_k».proof.Proof.RefLoss
public import Idealize.ShloMosaic.Lib.StableHlo.Run
public import Idealize.ShloMosaic.Lib.Pipeline.Frame
public import Idealize.ShloMosaic.Lib.Tactic

@[expose] public section

noncomputable section

namespace Cert.Value

open Idealize.ShloMosaic Idealize.ShloMosaic.TcCoe Idealize.SL.Sem Idealize.ShloMosaic.StableHlo
open Cert.ReferenceIdeal Cert.ReferenceIdeal.Gen

section Read

variable {nD : Nat} {τ : Topo} {sig : RefSig} {Val : EltTy → Type} {Λ : Labels}

/-- The host operations of a program's step, before those of what follows it. -/
def stepOps (V : Valuation τ sig Val) : {β : Type} → TpuEff nD τ sig Val Λ .tc β → (β → List (HloOp τ sig Val)) →
    List (HloOp τ sig Val)
  | _, .hloBegin _ op, k => op :: k ⟨⟩
  | _, .hloEnd _ _, k => k fun b => V b.1
  | _, _, _ => []

/-- The host operations of a straight program, in order. -/
def opsOf (V : Valuation τ sig Val) {α : Type} (p : Prog (TpuEff nD τ sig Val Λ .tc) α) : List (HloOp τ sig Val) :=
  Prog.rec (motive := fun _ => List (HloOp τ sig Val)) (fun _ => []) (fun e _ ih => stepOps V e ih) p

end Read

variable {F : FTy → Type} [FloatOps F]

/-- The reference's host operations, in order. -/
def line (c : Dev nD) (V : Valuation τ sig (Elt F)) : List (HloOp τ sig (Elt F)) := opsOf V (main (F := F) c)

/-- The reference runs its line. -/
theorem main_seq (c : Dev nD) (V : Valuation τ sig (Elt F)) : main (F := F) c = seq (line c V) := by
  sl_kernel_rfl

/-- `n` operations of the line from its `i`-th. -/
def slice (c : Dev nD) (U : Valuation τ sig (Elt F)) (i n : Nat) : List (HloOp τ sig (Elt F)) := ((line c U).drop i).take n

/-- What the line does from its `i`-th operation, `n` operations at a time. -/
theorem after_drop (c : Dev nD) (U W : Valuation τ sig (Elt F)) (i n : Nat) :
    after ((line c U).drop i) W = after ((line c U).drop (i + n)) (after (slice c U i n) W) := by
  rw [← after_append, slice, ← List.drop_drop, List.take_append_drop]

/-- The contents a valuation gives a tensor value. -/
abbrev got {T : BufTy} (W : Valuation τ sig (Elt F)) (r : TRef sig T) : T.Contents (Elt F) := r.ofBuf (W (Proc.devRef .tc r.ref))

/-- A valuation with one tensor value's contents replaced. -/
def put {T : BufTy} (r : TRef sig T) (x : T.Contents (Elt F)) (W : Valuation τ sig (Elt F)) : Valuation τ sig (Elt F) :=
  (TRef.nullary r x).result W

/-- Replacing a tensor value's contents by what they are changes nothing. -/
theorem put_got {T : BufTy} (r : TRef sig T) (x : T.Contents (Elt F)) (W : Valuation τ sig (Elt F)) (h : got W r = x) :
    put r x W = W := by
  obtain ⟨r, rfl, h1, h2⟩ := r
  subst h
  funext b
  by_cases hb : b = Proc.devRef .tc r
  · subst hb
    exact nullary_result _ _ _ _
  · exact HloOp.result_of_not_mem _ _ fun hm => hb (Finset.mem_singleton.mp hm)

/-- The 42 operations from the `i`-th are one rotation `r` of the matrix in `a` and of the eigenvectors in `v`, by way of
    the rotation matrix in `m`, into `a'` and `v'`. -/
structure Turn (r : Mat F → Mat F) (i : Nat) (o z t : TRef sig ⟨S2x2x4096, .f32⟩) (a v m a' v' : TRef sig ⟨S2x2x4096x3x3, .f32⟩) : Prop where
  mat : ∀ (c : Dev nD) (U V : Valuation τ sig (Elt F)) (x : Mat F),
    got (after (slice c U i 39) (put o hOne (put z hZero (put t hTwo (put a x V))))) m = r x := by intros; sl_kernel_rfl
  keepA : ∀ (c : Dev nD) (U V : Valuation τ sig (Elt F)), got (after (slice c U i 39) V) a = got V a := by intros; sl_kernel_rfl
  keepV : ∀ (c : Dev nD) (U V : Valuation τ sig (Elt F)), got (after (slice c U i 39) V) v = got V v := by intros; sl_kernel_rfl
  left : ∀ (c : Dev nD) (U V : Valuation τ sig (Elt F)) (x y : Mat F),
    got (after (slice c U (i + 39) 3) (put m y (put a x V))) a' = hTN (hTN x y) y := by intros; sl_kernel_rfl
  right : ∀ (c : Dev nD) (U V : Valuation τ sig (Elt F)) (x y : Mat F),
    got (after (slice c U (i + 39) 3) (put m y (put v x V))) v' = hNN x y := by intros; sl_kernel_rfl
  one : ∀ (c : Dev nD) (U V : Valuation τ sig (Elt F)), got (after (slice c U i 42) V) o = got V o := by intros; sl_kernel_rfl
  zero : ∀ (c : Dev nD) (U V : Valuation τ sig (Elt F)), got (after (slice c U i 42) V) z = got V z := by intros; sl_kernel_rfl
  two : ∀ (c : Dev nD) (U V : Valuation τ sig (Elt F)), got (after (slice c U i 42) V) t = got V t := by intros; sl_kernel_rfl
  pts : ∀ (c : Dev nD) (U V : Valuation τ sig (Elt F)),
    after (slice c U i 42) V (Proc.devRef .tc main_v14) = V (Proc.devRef .tc main_v14) := by intros; sl_kernel_rfl
  mean : ∀ (c : Dev nD) (U V : Valuation τ sig (Elt F)),
    after (slice c U i 42) V (Proc.devRef .tc main_v25) = V (Proc.devRef .tc main_v25) := by intros; sl_kernel_rfl

end Cert.Value
-- ==== Proof.RefKeep.lean ====
module

public import proofs.«01_k».proof.Proof.RefLine

@[expose] public section

noncomputable section

namespace Cert.Value

open Idealize.ShloMosaic Idealize.ShloMosaic.StableHlo Idealize.ShloMosaic.TcCoe Cert.ReferenceIdeal Cert.ReferenceIdeal.Gen

variable {F : FTy → Type} [FloatOps F]

/-- The line leaves the first argument as it was. -/
theorem line_fst (c : Dev nD) (U V : Valuation τ sig (Elt F)) :
    after (line c U) V (Proc.devRef .tc main_arg0) = V (Proc.devRef .tc main_arg0) := by
  sl_kernel_rfl

/-- The line leaves the second argument as it was. -/
theorem line_snd (c : Dev nD) (U V : Valuation τ sig (Elt F)) :
    after (line c U) V (Proc.devRef .tc main_arg1) = V (Proc.devRef .tc main_arg1) := by
  sl_kernel_rfl

/-- Every operation of the line determines what it writes, by counting. -/
theorem line_count (c : Dev nD) (U : Valuation τ sig (Elt F)) : ((line c U).all fun op => op.fresh.card == 0) = true := by
  sl_kernel_rfl

/-- Every operation of the line determines what it writes. -/
theorem line_fresh (c : Dev nD) (U : Valuation τ sig (Elt F)) : ∀ op ∈ line c U, op.fresh = ∅ := fun op h =>
  Finset.card_eq_zero.mp (by simpa using List.all_eq_true.mp (line_count c U) op h)

/-- Every buffer of the reference is one that its processor names. -/
theorem all_refs (b : DevRef τ sig) : b ∈ tcRefs τ sig := by
  obtain ⟨tb, i, h⟩ := b
  cases tb with
  | hbm => exact devRef_mem_tcRefs (⟨.hbm, i, rfl⟩ : Ref sig .tc)
  | «local» k s => cases k <;> cases s <;> exact Fin.elim0 i
  | _ => exact Fin.elim0 i

/-- No buffer of the reference is scoped. -/
theorem no_scoped : (Finset.univ.filter fun b : Ref sig .tc => b.isScoped) = ∅ := by decide

/-- No semaphore of the reference is scoped. -/
theorem no_scoped_sem : (Finset.univ.filter fun sm : SemLoc sig => sm.isScoped .tc) = ∅ := by decide

/-- The reference runs, and leaves every buffer what its line leaves it. -/
theorem line_run (m : (ℓ : Loc nD τ sig) → Buf (Elt F) ℓ) (g : Dev nD → PrngReg) :
    θ_run defs (onTc (τ := τ) (main (F := F))) ⟨m, fun _ => 0, g⟩ fun r => ∀ (d : Dev nD) (b : Ref sig .tc),
      r.2.mem ((d.tc : Thread nD τ).loc b) = after (line d (launchContents m d)) (launchContents m d) (Proc.devRef .tc b) :=
  run_seq no_scoped no_scoped_sem defs main (fun d => line d (launchContents m d)) (fun d => main_seq d _)
    (fun d => List.forall_iff_forall_mem.mpr fun op _ b _ => all_refs b) m g (fun d => line_fresh d _)

end Cert.Value
-- ==== Proof.RefEnds.lean ====
module

public import proofs.«01_k».proof.Proof.RefLine

@[expose] public section

noncomputable section

namespace Cert.Value

open Idealize.ShloMosaic Idealize.ShloMosaic.StableHlo Idealize.ShloMosaic.TcCoe Cert.ReferenceIdeal Cert.ReferenceIdeal.Gen

variable {F : FTy → Type} [FloatOps F]

/-- The ten nearest points that the line gathers, from the arguments in `V`. -/
def nearOf (V : Valuation τ sig (Elt F)) : FVec F S2x2x4096x10x3 .f32 :=
  hNear (hPts (V (Proc.devRef .tc main_arg0)) (V (Proc.devRef .tc main_arg1))) (hTop (V (Proc.devRef .tc main_arg0)))

section Head

variable (c : Dev nD) (U V : Valuation τ sig (Elt F))

/-- Before the first iteration the line makes one, zero, two, the identity, the points, their centres and the Gram matrix. -/
theorem head_one : got (after (slice c U 0 53) V) (.of main_v29 : TRef sig ⟨S2x2x4096, .f32⟩) = hOne := by sl_kernel_rfl
/-- It makes zero. -/
theorem head_zero : got (after (slice c U 0 53) V) (.of main_v31 : TRef sig ⟨S2x2x4096, .f32⟩) = hZero := by sl_kernel_rfl
/-- It makes two. -/
theorem head_two : got (after (slice c U 0 53) V) (.of main_v33 : TRef sig ⟨S2x2x4096, .f32⟩) = hTwo := by sl_kernel_rfl
/-- It makes the identity. -/
theorem head_eye : got (after (slice c U 0 53) V) (.of main_v40 : TRef sig ⟨S2x2x4096x3x3, .f32⟩) = hEye := by sl_kernel_rfl
/-- It makes the points of both clouds. -/
theorem head_pts : got (after (slice c U 0 53) V) (.of main_v14 : TRef sig ⟨S2x2x4096x3, .f32⟩)
    = hPts (V (Proc.devRef .tc main_arg0)) (V (Proc.devRef .tc main_arg1)) := by sl_kernel_rfl
/-- It makes the centres. -/
theorem head_mean : got (after (slice c U 0 53) V) (.of main_v25 : TRef sig ⟨S2x2x4096x1x3, .f32⟩) = hMean (nearOf V) := by sl_kernel_rfl
/-- It makes the Gram matrix of the centred neighbours. -/
theorem head_gram : got (after (slice c U 0 53) V) (.of main_v28 : TRef sig ⟨S2x2x4096x3x3, .f32⟩) = hGram (hOff (nearOf V)) := by sl_kernel_rfl

end Head

section Middle

variable (c : Dev nD) (U V : Valuation τ sig (Elt F))

/-- Between the iterations the line makes the symmetric root, one, zero, two and the identity anew. -/
theorem mid_half (a v : Mat F) : got (after (slice c U 935 34) (put (.of main_v921) a (put (.of main_v922) v V)))
    (.of main_v939 : TRef sig ⟨S2x2x4096x3x3, .f32⟩) = hHalf (a, v) := by sl_kernel_rfl
/-- It makes one anew. -/
theorem mid_one : got (after (slice c U 935 34) V) (.of main_v940 : TRef sig ⟨S2x2x4096, .f32⟩) = hOne := by sl_kernel_rfl
/-- It makes zero anew. -/
theorem mid_zero : got (after (slice c U 935 34) V) (.of main_v942 : TRef sig ⟨S2x2x4096, .f32⟩) = hZero := by sl_kernel_rfl
/-- It makes two anew. -/
theorem mid_two : got (after (slice c U 935 34) V) (.of main_v944 : TRef sig ⟨S2x2x4096, .f32⟩) = hTwo := by sl_kernel_rfl
/-- It makes the identity anew. -/
theorem mid_eye : got (after (slice c U 935 34) V) (.of main_v951 : TRef sig ⟨S2x2x4096x3x3, .f32⟩) = hEye := by sl_kernel_rfl
/-- It keeps the points. -/
theorem mid_pts : after (slice c U 935 34) V (Proc.devRef .tc main_v14) = V (Proc.devRef .tc main_v14) := by sl_kernel_rfl
/-- It keeps the centres. -/
theorem mid_mean : after (slice c U 935 34) V (Proc.devRef .tc main_v25) = V (Proc.devRef .tc main_v25) := by sl_kernel_rfl

end Middle

/-- After the second iteration the line makes the loss. -/
theorem last (c : Dev nD) (U V : Valuation τ sig (Elt F)) (a v : Mat F) (x : FVec F S2x2x4096x3 .f32) (m : FVec F S2x2x4096x1x3 .f32) :
    after ((line c U).drop 1851) (put (.of main_v14) x (put (.of main_v25) m (put (.of main_v1832) a (put (.of main_v1833) v V))))
      (Proc.devRef .tc main_v1883)
    = hCost (Host.reduceAdd (mulf (subf x (shapeCast S2x2x4096x3 m shapeCasts_S2x2x4096x1x3_S2x2x4096x3)) (hNormal (a, v)))
        (constant S_ .f32 0x00000000#32) reducesTo_S2x2x4096x3_S2x2x4096_d3 h_S_) := by sl_kernel_rfl

end Cert.Value
-- ==== Proof.RefTurnA.lean ====
module

public import proofs.«01_k».proof.Proof.RefLine

@[expose] public section

noncomputable section

namespace Cert.Value

open Idealize.ShloMosaic Cert.ReferenceIdeal Cert.ReferenceIdeal.Gen

variable {F : FTy → Type} [FloatOps F]

/-- Rotation 0 of the first iteration, where the line has it. -/
theorem turn0 : Turn (F := F) hR02 53 (.of main_v29) (.of main_v31) (.of main_v33) (.of main_v28) (.of main_v40) (.of main_v79) (.of main_v81) (.of main_v82) := {}

/-- Rotation 1 of the first iteration, where the line has it. -/
theorem turn1 : Turn (F := F) hR12 95 (.of main_v29) (.of main_v31) (.of main_v33) (.of main_v81) (.of main_v82) (.of main_v121) (.of main_v123) (.of main_v124) := {}

/-- Rotation 2 of the first iteration, where the line has it. -/
theorem turn2 : Turn (F := F) hR01 137 (.of main_v29) (.of main_v31) (.of main_v33) (.of main_v123) (.of main_v124) (.of main_v163) (.of main_v165) (.of main_v166) := {}

/-- Rotation 3 of the first iteration, where the line has it. -/
theorem turn3 : Turn (F := F) hR02 179 (.of main_v29) (.of main_v31) (.of main_v33) (.of main_v165) (.of main_v166) (.of main_v205) (.of main_v207) (.of main_v208) := {}

/-- Rotation 4 of the first iteration, where the line has it. -/
theorem turn4 : Turn (F := F) hR12 221 (.of main_v29) (.of main_v31) (.of main_v33) (.of main_v207) (.of main_v208) (.of main_v247) (.of main_v249) (.of main_v250) := {}

/-- Rotation 5 of the first iteration, where the line has it. -/
theorem turn5 : Turn (F := F) hR01 263 (.of main_v29) (.of main_v31) (.of main_v33) (.of main_v249) (.of main_v250) (.of main_v289) (.of main_v291) (.of main_v292) := {}

/-- Rotation 6 of the first iteration, where the line has it. -/
theorem turn6 : Turn (F := F) hR02 305 (.of main_v29) (.of main_v31) (.of main_v33) (.of main_v291) (.of main_v292) (.of main_v331) (.of main_v333) (.of main_v334) := {}

end Cert.Value
-- ==== Proof.RefTurnB.lean ====
module

public import proofs.«01_k».proof.Proof.RefLine

@[expose] public section

noncomputable section

namespace Cert.Value

open Idealize.ShloMosaic Cert.ReferenceIdeal Cert.ReferenceIdeal.Gen

variable {F : FTy → Type} [FloatOps F]

/-- Rotation 7 of the first iteration, where the line has it. -/
theorem turn7 : Turn (F := F) hR12 347 (.of main_v29) (.of main_v31) (.of main_v33) (.of main_v333) (.of main_v334) (.of main_v373) (.of main_v375) (.of main_v376) := {}

/-- Rotation 8 of the first iteration, where the line has it. -/
theorem turn8 : Turn (F := F) hR01 389 (.of main_v29) (.of main_v31) (.of main_v33) (.of main_v375) (.of main_v376) (.of main_v415) (.of main_v417) (.of main_v418) := {}

/-- Rotation 9 of the first iteration, where the line has it. -/
theorem turn9 : Turn (F := F) hR02 431 (.of main_v29) (.of main_v31) (.of main_v33) (.of main_v417) (.of main_v418) (.of main_v457) (.of main_v459) (.of main_v460) := {}

/-- Rotation 10 of the first iteration, where the line has it. -/
theorem turn10 : Turn (F := F) hR12 473 (.of main_v29) (.of main_v31) (.of main_v33) (.of main_v459) (.of main_v460) (.of main_v499) (.of main_v501) (.of main_v502) := {}

/-- Rotation 11 of the first iteration, where the line has it. -/
theorem turn11 : Turn (F := F) hR01 515 (.of main_v29) (.of main_v31) (.of main_v33) (.of main_v501) (.of main_v502) (.of main_v541) (.of main_v543) (.of main_v544) := {}

/-- Rotation 12 of the first iteration, where the line has it. -/
theorem turn12 : Turn (F := F) hR02 557 (.of main_v29) (.of main_v31) (.of main_v33) (.of main_v543) (.of main_v544) (.of main_v583) (.of main_v585) (.of main_v586) := {}

/-- Rotation 13 of the first iteration, where the line has it. -/
theorem turn13 : Turn (F := F) hR12 599 (.of main_v29) (.of main_v31) (.of main_v33) (.of main_v585) (.of main_v586) (.of main_v625) (.of main_v627) (.of main_v628) := {}

end Cert.Value
-- ==== Proof.RefTurnC.lean ====
module

public import proofs.«01_k».proof.Proof.RefLine

@[expose] public section

noncomputable section

namespace Cert.Value

open Idealize.ShloMosaic Cert.ReferenceIdeal Cert.ReferenceIdeal.Gen

variable {F : FTy → Type} [FloatOps F]

/-- Rotation 14 of the first iteration, where the line has it. -/
theorem turn14 : Turn (F := F) hR01 641 (.of main_v29) (.of main_v31) (.of main_v33) (.of main_v627) (.of main_v628) (.of main_v667) (.of main_v669) (.of main_v670) := {}

/-- Rotation 15 of the first iteration, where the line has it. -/
theorem turn15 : Turn (F := F) hR02 683 (.of main_v29) (.of main_v31) (.of main_v33) (.of main_v669) (.of main_v670) (.of main_v709) (.of main_v711) (.of main_v712) := {}

/-- Rotation 16 of the first iteration, where the line has it. -/
theorem turn16 : Turn (F := F) hR12 725 (.of main_v29) (.of main_v31) (.of main_v33) (.of main_v711) (.of main_v712) (.of main_v751) (.of main_v753) (.of main_v754) := {}

/-- Rotation 17 of the first iteration, where the line has it. -/
theorem turn17 : Turn (F := F) hR01 767 (.of main_v29) (.of main_v31) (.of main_v33) (.of main_v753) (.of main_v754) (.of main_v793) (.of main_v795) (.of main_v796) := {}

/-- Rotation 18 of the first iteration, where the line has it. -/
theorem turn18 : Turn (F := F) hR02 809 (.of main_v29) (.of main_v31) (.of main_v33) (.of main_v795) (.of main_v796) (.of main_v835) (.of main_v837) (.of main_v838) := {}

/-- Rotation 19 of the first iteration, where the line has it. -/
theorem turn19 : Turn (F := F) hR12 851 (.of main_v29) (.of main_v31) (.of main_v33) (.of main_v837) (.of main_v838) (.of main_v877) (.of main_v879) (.of main_v880) := {}

/-- Rotation 20 of the first iteration, where the line has it. -/
theorem turn20 : Turn (F := F) hR01 893 (.of main_v29) (.of main_v31) (.of main_v33) (.of main_v879) (.of main_v880) (.of main_v919) (.of main_v921) (.of main_v922) := {}

end Cert.Value
-- ==== Proof.RefTurnD.lean ====
module

public import proofs.«01_k».proof.Proof.RefLine

@[expose] public section

noncomputable section

namespace Cert.Value

open Idealize.ShloMosaic Cert.ReferenceIdeal Cert.ReferenceIdeal.Gen

variable {F : FTy → Type} [FloatOps F]

/-- Rotation 0 of the second iteration, where the line has it. -/
theorem turn21 : Turn (F := F) hR02 969 (.of main_v940) (.of main_v942) (.of main_v944) (.of main_v939) (.of main_v951) (.of main_v990) (.of main_v992) (.of main_v993) := {}

/-- Rotation 1 of the second iteration, where the line has it. -/
theorem turn22 : Turn (F := F) hR12 1011 (.of main_v940) (.of main_v942) (.of main_v944) (.of main_v992) (.of main_v993) (.of main_v1032) (.of main_v1034) (.of main_v1035) := {}

/-- Rotation 2 of the second iteration, where the line has it. -/
theorem turn23 : Turn (F := F) hR01 1053 (.of main_v940) (.of main_v942) (.of main_v944) (.of main_v1034) (.of main_v1035) (.of main_v1074) (.of main_v1076) (.of main_v1077) := {}

/-- Rotation 3 of the second iteration, where the line has it. -/
theorem turn24 : Turn (F := F) hR02 1095 (.of main_v940) (.of main_v942) (.of main_v944) (.of main_v1076) (.of main_v1077) (.of main_v1116) (.of main_v1118) (.of main_v1119) := {}

/-- Rotation 4 of the second iteration, where the line has it. -/
theorem turn25 : Turn (F := F) hR12 1137 (.of main_v940) (.of main_v942) (.of main_v944) (.of main_v1118) (.of main_v1119) (.of main_v1158) (.of main_v1160) (.of main_v1161) := {}

/-- Rotation 5 of the second iteration, where the line has it. -/
theorem turn26 : Turn (F := F) hR01 1179 (.of main_v940) (.of main_v942) (.of main_v944) (.of main_v1160) (.of main_v1161) (.of main_v1200) (.of main_v1202) (.of main_v1203) := {}

/-- Rotation 6 of the second iteration, where the line has it. -/
theorem turn27 : Turn (F := F) hR02 1221 (.of main_v940) (.of main_v942) (.of main_v944) (.of main_v1202) (.of main_v1203) (.of main_v1242) (.of main_v1244) (.of main_v1245) := {}

end Cert.Value
-- ==== Proof.RefTurnE.lean ====
module

public import proofs.«01_k».proof.Proof.RefLine

@[expose] public section

noncomputable section

namespace Cert.Value

open Idealize.ShloMosaic Cert.ReferenceIdeal Cert.ReferenceIdeal.Gen

variable {F : FTy → Type} [FloatOps F]

/-- Rotation 7 of the second iteration, where the line has it. -/
theorem turn28 : Turn (F := F) hR12 1263 (.of main_v940) (.of main_v942) (.of main_v944) (.of main_v1244) (.of main_v1245) (.of main_v1284) (.of main_v1286) (.of main_v1287) := {}

/-- Rotation 8 of the second iteration, where the line has it. -/
theorem turn29 : Turn (F := F) hR01 1305 (.of main_v940) (.of main_v942) (.of main_v944) (.of main_v1286) (.of main_v1287) (.of main_v1326) (.of main_v1328) (.of main_v1329) := {}

/-- Rotation 9 of the second iteration, where the line has it. -/
theorem turn30 : Turn (F := F) hR02 1347 (.of main_v940) (.of main_v942) (.of main_v944) (.of main_v1328) (.of main_v1329) (.of main_v1368) (.of main_v1370) (.of main_v1371) := {}

/-- Rotation 10 of the second iteration, where the line has it. -/
theorem turn31 : Turn (F := F) hR12 1389 (.of main_v940) (.of main_v942) (.of main_v944) (.of main_v1370) (.of main_v1371) (.of main_v1410) (.of main_v1412) (.of main_v1413) := {}

/-- Rotation 11 of the second iteration, where the line has it. -/
theorem turn32 : Turn (F := F) hR01 1431 (.of main_v940) (.of main_v942) (.of main_v944) (.of main_v1412) (.of main_v1413) (.of main_v1452) (.of main_v1454) (.of main_v1455) := {}

/-- Rotation 12 of the second iteration, where the line has it. -/
theorem turn33 : Turn (F := F) hR02 1473 (.of main_v940) (.of main_v942) (.of main_v944) (.of main_v1454) (.of main_v1455) (.of main_v1494) (.of main_v1496) (.of main_v1497) := {}

/-- Rotation 13 of the second iteration, where the line has it. -/
theorem turn34 : Turn (F := F) hR12 1515 (.of main_v940) (.of main_v942) (.of main_v944) (.of main_v1496) (.of main_v1497) (.of main_v1536) (.of main_v1538) (.of main_v1539) := {}

end Cert.Value
-- ==== Proof.RefTurnF.lean ====
module

public import proofs.«01_k».proof.Proof.RefLine

@[expose] public section

noncomputable section

namespace Cert.Value

open Idealize.ShloMosaic Cert.ReferenceIdeal Cert.ReferenceIdeal.Gen

variable {F : FTy → Type} [FloatOps F]

/-- Rotation 14 of the second iteration, where the line has it. -/
theorem turn35 : Turn (F := F) hR01 1557 (.of main_v940) (.of main_v942) (.of main_v944) (.of main_v1538) (.of main_v1539) (.of main_v1578) (.of main_v1580) (.of main_v1581) := {}

/-- Rotation 15 of the second iteration, where the line has it. -/
theorem turn36 : Turn (F := F) hR02 1599 (.of main_v940) (.of main_v942) (.of main_v944) (.of main_v1580) (.of main_v1581) (.of main_v1620) (.of main_v1622) (.of main_v1623) := {}

/-- Rotation 16 of the second iteration, where the line has it. -/
theorem turn37 : Turn (F := F) hR12 1641 (.of main_v940) (.of main_v942) (.of main_v944) (.of main_v1622) (.of main_v1623) (.of main_v1662) (.of main_v1664) (.of main_v1665) := {}

/-- Rotation 17 of the second iteration, where the line has it. -/
theorem turn38 : Turn (F := F) hR01 1683 (.of main_v940) (.of main_v942) (.of main_v944) (.of main_v1664) (.of main_v1665) (.of main_v1704) (.of main_v1706) (.of main_v1707) := {}

/-- Rotation 18 of the second iteration, where the line has it. -/
theorem turn39 : Turn (F := F) hR02 1725 (.of main_v940) (.of main_v942) (.of main_v944) (.of main_v1706) (.of main_v1707) (.of main_v1746) (.of main_v1748) (.of main_v1749) := {}

/-- Rotation 19 of the second iteration, where the line has it. -/
theorem turn40 : Turn (F := F) hR12 1767 (.of main_v940) (.of main_v942) (.of main_v944) (.of main_v1748) (.of main_v1749) (.of main_v1788) (.of main_v1790) (.of main_v1791) := {}

/-- Rotation 20 of the second iteration, where the line has it. -/
theorem turn41 : Turn (F := F) hR01 1809 (.of main_v940) (.of main_v942) (.of main_v944) (.of main_v1790) (.of main_v1791) (.of main_v1830) (.of main_v1832) (.of main_v1833) := {}

end Cert.Value
-- ==== Proof.RefRun.lean ====
module

public import proofs.«01_k».proof.Proof.RefKeep
public import proofs.«01_k».proof.Proof.RefEnds
public import proofs.«01_k».proof.Proof.RefTurnA
public import proofs.«01_k».proof.Proof.RefTurnB
public import proofs.«01_k».proof.Proof.RefTurnC
public import proofs.«01_k».proof.Proof.RefTurnD
public import proofs.«01_k».proof.Proof.RefTurnE
public import proofs.«01_k».proof.Proof.RefTurnF

@[expose] public section

noncomputable section

namespace Cert.Value

open Idealize.ShloMosaic Idealize.ShloMosaic.StableHlo Idealize.ShloMosaic.TcCoe Cert.ReferenceIdeal Cert.ReferenceIdeal.Gen

variable {F : FTy → Type} [FloatOps F]

/-- Before its `i`-th operation the line from `V` is at `W`, where the buffers that the iteration reads hold one, zero,
    two, the pair `x` of a matrix and its eigenvectors, the points and their centres. -/
structure Reach (c : Dev nD) (V : Valuation τ sig (Elt F)) (i : Nat) (o z t : TRef sig ⟨S2x2x4096, .f32⟩)
    (a v : TRef sig ⟨S2x2x4096x3x3, .f32⟩) (x : Mat F × Mat F) (W : Valuation τ sig (Elt F)) : Prop where
  goes : after (line c V) V = after ((line c V).drop i) W
  one : got W o = hOne
  zero : got W z = hZero
  two : got W t = hTwo
  mat : got W a = x.1
  vec : got W v = x.2
  pts : W (Proc.devRef .tc main_v14) = hPts (V (Proc.devRef .tc main_arg0)) (V (Proc.devRef .tc main_arg1))
  mean : W (Proc.devRef .tc main_v25) = hMean (nearOf V)

/-- The line gets to its `i`-th operation so. -/
def Gets (c : Dev nD) (V : Valuation τ sig (Elt F)) (i : Nat) (o z t : TRef sig ⟨S2x2x4096, .f32⟩)
    (a v : TRef sig ⟨S2x2x4096x3x3, .f32⟩) (x : Mat F × Mat F) : Prop := ∃ W, Reach c V i o z t a v x W

/-- Two stretches one after the other are one stretch. -/
theorem after_slice (c : Dev nD) (U W : Valuation τ sig (Elt F)) (i k n : Nat) :
    after (slice c U i (k + n)) W = after (slice c U (i + k) n) (after (slice c U i k) W) := by
  rw [← after_append, slice, slice, slice, List.take_add, List.drop_drop]

/-- A rotation takes the line 42 operations on. -/
theorem Gets.turn {c : Dev nD} {V : Valuation τ sig (Elt F)} {i : Nat} {o z t : TRef sig ⟨S2x2x4096, .f32⟩}
    {a v m a' v' : TRef sig ⟨S2x2x4096x3x3, .f32⟩} {x : Mat F × Mat F} {r : Mat F → Mat F}
    (h : Gets c V i o z t a v x) (s : Turn (F := F) r i o z t a v m a' v') : Gets c V (i + 42) o z t a' v' (hTurn r x) := by
  obtain ⟨W, h⟩ := h
  have hW : put o hOne (put z hZero (put t hTwo (put a x.1 W))) = W := by
    rw [put_got a _ W h.mat, put_got t _ W h.two, put_got z _ W h.zero, put_got o _ W h.one]
  have hm : got (after (slice c V i 39) W) m = r x.1 := by
    have := s.mat c V W x.1
    rwa [hW] at this
  have ha := (s.keepA c V W).trans h.mat
  have hv := (s.keepV c V W).trans h.vec
  refine ⟨after (slice c V i 42) W, ?_, (s.one c V W).trans h.one, (s.zero c V W).trans h.zero, (s.two c V W).trans h.two,
    ?_, ?_, (s.pts c V W).trans h.pts, (s.mean c V W).trans h.mean⟩
  · rw [h.goes, after_drop c V W i 42]
  · have := s.left c V (after (slice c V i 39) W) x.1 (r x.1)
    rw [put_got a _ _ ha, put_got m _ _ hm] at this
    rw [show 42 = 39 + 3 from rfl, after_slice]
    exact this
  · have := s.right c V (after (slice c V i 39) W) x.2 (r x.1)
    rw [put_got v _ _ hv, put_got m _ _ hm] at this
    rw [show 42 = 39 + 3 from rfl, after_slice]
    exact this

variable (c : Dev nD) (V : Valuation τ sig (Elt F))

/-- The line gets to the first iteration. -/
theorem gets_first : Gets c V 53 (.of main_v29) (.of main_v31) (.of main_v33) (.of main_v28) (.of main_v40)
    (hGram (hOff (nearOf V)), hEye) :=
  ⟨after (slice c V 0 53) V, after_drop c V V 0 53, head_one c V V, head_zero c V V, head_two c V V, head_gram c V V,
    head_eye c V V, head_pts c V V, head_mean c V V⟩

/-- It gets through the first iteration. -/
theorem gets_mid : Gets c V 935 (.of main_v29) (.of main_v31) (.of main_v33) (.of main_v921) (.of main_v922)
    (hSweeps (hGram (hOff (nearOf V)), hEye)) :=
  gets_first c V
    |>.turn turn0
    |>.turn turn1
    |>.turn turn2
    |>.turn turn3
    |>.turn turn4
    |>.turn turn5
    |>.turn turn6
    |>.turn turn7
    |>.turn turn8
    |>.turn turn9
    |>.turn turn10
    |>.turn turn11
    |>.turn turn12
    |>.turn turn13
    |>.turn turn14
    |>.turn turn15
    |>.turn turn16
    |>.turn turn17
    |>.turn turn18
    |>.turn turn19
    |>.turn turn20

/-- It gets to the second iteration. -/
theorem gets_second : Gets c V 969 (.of main_v940) (.of main_v942) (.of main_v944) (.of main_v939) (.of main_v951)
    (hHalf (hSweeps (hGram (hOff (nearOf V)), hEye)), hEye) := by
  obtain ⟨W, h⟩ := gets_mid c V
  refine ⟨after (slice c V 935 34) W, h.goes.trans (after_drop c V W 935 34), mid_one c V W, mid_zero c V W, mid_two c V W, ?_,
    mid_eye c V W, (mid_pts c V W).trans h.pts, (mid_mean c V W).trans h.mean⟩
  have := mid_half c V W (hSweeps (hGram (hOff (nearOf V)), hEye)).1 (hSweeps (hGram (hOff (nearOf V)), hEye)).2
  rwa [put_got _ _ W h.vec, put_got _ _ W h.mat] at this

/-- It gets through the second iteration. -/
theorem gets_last : Gets c V 1851 (.of main_v940) (.of main_v942) (.of main_v944) (.of main_v1832) (.of main_v1833)
    (hSweeps (hHalf (hSweeps (hGram (hOff (nearOf V)), hEye)), hEye)) :=
  gets_second c V
    |>.turn turn21
    |>.turn turn22
    |>.turn turn23
    |>.turn turn24
    |>.turn turn25
    |>.turn turn26
    |>.turn turn27
    |>.turn turn28
    |>.turn turn29
    |>.turn turn30
    |>.turn turn31
    |>.turn turn32
    |>.turn turn33
    |>.turn turn34
    |>.turn turn35
    |>.turn turn36
    |>.turn turn37
    |>.turn turn38
    |>.turn turn39
    |>.turn turn40
    |>.turn turn41

/-- The line leaves the loss of its arguments in its result. -/
theorem line_loss : after (line c V) V (Proc.devRef .tc main_v1883)
    = hLoss (V (Proc.devRef .tc main_arg0)) (V (Proc.devRef .tc main_arg1)) := by
  obtain ⟨W, h⟩ := gets_last c V
  have hm : got W (.of main_v25 : TRef sig ⟨S2x2x4096x1x3, .f32⟩) = hMean (nearOf V) := h.mean
  have hp : got W (.of main_v14 : TRef sig ⟨S2x2x4096x3, .f32⟩)
      = hPts (V (Proc.devRef .tc main_arg0)) (V (Proc.devRef .tc main_arg1)) := h.pts
  let x : Mat F × Mat F := hSweeps (hHalf (hSweeps (hGram (hOff (nearOf V)), hEye)), hEye)
  have := last c V W x.1 x.2 (hPts (V (Proc.devRef .tc main_arg0)) (V (Proc.devRef .tc main_arg1))) (hMean (nearOf V))
  rw [put_got _ _ W h.vec, put_got _ _ W h.mat, put_got _ _ W hm,
    put_got _ _ W hp] at this
  rw [h.goes, this]
  rfl

/-- From any memory the reference ends, with the loss of its arguments in its result and its arguments as they were. -/
theorem reference_run (m : (ℓ : Loc nD τ sig) → Buf (Elt F) ℓ) (g : Dev nD → PrngReg) :
    θ_run defs (onTc (τ := τ) (main (F := F))) ⟨m, fun _ => 0, g⟩ fun r => ∀ c : Dev nD,
      r.2.mem ((c.tc : Thread nD τ).loc main_v1883)
          = hLoss (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c => ⟨(h c main_v1883).trans (line_loss c _), (h c main_arg0).trans (line_fst c _ _),
    (h c main_arg1).trans (line_snd c _ _)⟩) (line_run m g)

end Cert.Value
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_finite_and_untied
public import proofs.«01_k».proof.Proof.KernelValue
public import proofs.«01_k».proof.Proof.RefPre
public import proofs.«01_k».proof.Proof.RefRun

@[expose] public section

noncomputable section

namespace Cert.Proof

open Idealize.ShloMosaic Idealize.ShloMosaic.TcCoe Idealize.SL.Sem Cert.Value

/-- The reference ends with its arguments as they were and every semaphore at zero. -/
theorem reference_quiescent (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
        ∧ r.2.sem = fun _ => 0) :=
  (θ_run Cert.ReferenceIdeal.defs _ _).mono (fun r h => ⟨fun c => (h c).2, Idealize.ShloMosaic.sem_eq_zero_of_no_sems (by decide) r.2⟩)
    (reference_run m g)

/-- The kernel and the reference end with the same loss. -/
theorem same_loss : Cert.algebraic_KernelIdeal_ReferenceIdeal_pre_finite_and_untied
    (hKernelIdeal := Cert.KernelIdeal.Gen.facts) (hReferenceIdeal := Cert.ReferenceIdeal.Gen.facts)
    (hPre_finite_and_untied := Cert.Pre_finite_and_untied.Gen.facts) := by
  intro m g m' g' hp hm
  let y : (c : Dev Cert.KernelIdeal.nD) → FVec Ideal Cert.ReferenceIdeal.S2x4096x3 .f32 := fun c =>
    m ((c.tc : Thread Cert.KernelIdeal.nD Cert.KernelIdeal.τ).loc Cert.KernelIdeal.main_arg0)
  let z : (c : Dev Cert.KernelIdeal.nD) → FVec Ideal Cert.ReferenceIdeal.S2x4096x3 .f32 := fun c =>
    m ((c.tc : Thread Cert.KernelIdeal.nD Cert.KernelIdeal.τ).loc Cert.KernelIdeal.main_arg1)
  have hc := fun c => of_pre (x0 := y c) (x1 := z c) (hp c)
  refine ⟨fun c => fun _ => ((rMeanLoss (reals (y c)) (reals (z c)) : ℝ) : EReal),
    kernel_run m g (fun c => reals (y c)) (fun c => reals (z c)) (fun c => ⟨(hc c).1, (hc c).2.1⟩) (fun c => (hc c).2.2), ?_⟩
  refine (θ_run Cert.ReferenceIdeal.defs _ _).mono (fun r h c => ⟨(h c).1.trans ?_, (h c).2⟩) (reference_run m' g')
  rw [(hm c).1, (hm c).2]
  exact hLoss_apply (hc c).1 (hc c).2.1

/-- Everything that the certificate claims. -/
theorem claim : Cert.Claim :=
  ⟨Cert.Kernel.Gen.facts, Cert.KernelIdeal.Gen.facts, Cert.ReferenceIdeal.Gen.facts, Cert.Pre_finite_and_untied.Gen.facts,
    fun m g _ => Cert.Kernel.Gen.frame m g,
    fun m g _ => Cert.KernelIdeal.Gen.frame m g,
    fun m g _ => Cert.KernelIdeal.Gen.frame m g,
    fun m g _ => reference_quiescent m g,
    fun m g _ => reference_quiescent m g,
    IdealRules.named_const.statement Cert.KernelIdeal.κ "tenth" .f32 0x3DCCCCCD#32 ((1 / 10 : ℝ) : EReal) rfl,
    same_loss⟩

end Cert.Proof

end
